-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite [hPre_finite : Cert.Pre_finite.Facts] (m : (ℓ : Loc Cert.XattnIdeal.nD Cert.XattnIdeal.τ Cert.XattnIdeal.sig) → Buf (Elt Ideal) ℓ) : Prop :=
  ∀ c : Dev Cert.XattnIdeal.nD,
    (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite [hPre_finite : Cert.Pre_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Projxy (m : (ℓ : Loc Cert.Projxy.nD Cert.Projxy.τ Cert.Projxy.sig) → Buf (Elt Bits) ℓ) : Prop :=
  True

def Pre_ProjxyIdeal (m : (ℓ : Loc Cert.ProjxyIdeal.nD Cert.ProjxyIdeal.τ Cert.ProjxyIdeal.sig) → Buf (Elt Ideal) ℓ) : Prop :=
  True

def Pre_ProjxyRefIdeal (m : (ℓ : Loc Cert.ProjxyRefIdeal.nD Cert.ProjxyRefIdeal.τ Cert.ProjxyRefIdeal.sig) → Buf (Elt Ideal) ℓ) : Prop :=
  True

def Pre_Projv (m : (ℓ : Loc Cert.Projv.nD Cert.Projv.τ Cert.Projv.sig) → Buf (Elt Bits) ℓ) : Prop :=
  True

def Pre_ProjvIdeal (m : (ℓ : Loc Cert.ProjvIdeal.nD Cert.ProjvIdeal.τ Cert.ProjvIdeal.sig) → Buf (Elt Ideal) ℓ) : Prop :=
  True

def Pre_ProjvRefIdeal (m : (ℓ : Loc Cert.ProjvRefIdeal.nD Cert.ProjvRefIdeal.τ Cert.ProjvRefIdeal.sig) → Buf (Elt Ideal) ℓ) : Prop :=
  True

def Pre_Projg (m : (ℓ : Loc Cert.Projg.nD Cert.Projg.τ Cert.Projg.sig) → Buf (Elt Bits) ℓ) : Prop :=
  True

def Pre_ProjgIdeal (m : (ℓ : Loc Cert.ProjgIdeal.nD Cert.ProjgIdeal.τ Cert.ProjgIdeal.sig) → Buf (Elt Ideal) ℓ) : Prop :=
  True

def Pre_ProjgRefIdeal (m : (ℓ : Loc Cert.ProjgRefIdeal.nD Cert.ProjgRefIdeal.τ Cert.ProjgRefIdeal.sig) → Buf (Elt Ideal) ℓ) : Prop :=
  True

def Pre_Projqk (m : (ℓ : Loc Cert.Projqk.nD Cert.Projqk.τ Cert.Projqk.sig) → Buf (Elt Bits) ℓ) : Prop :=
  True

def Pre_ProjqkIdeal (m : (ℓ : Loc Cert.ProjqkIdeal.nD Cert.ProjqkIdeal.τ Cert.ProjqkIdeal.sig) → Buf (Elt Ideal) ℓ) : Prop :=
  True

def Pre_ProjqkRefIdeal (m : (ℓ : Loc Cert.ProjqkRefIdeal.nD Cert.ProjqkRefIdeal.τ Cert.ProjqkRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ r.2.sem = fun _ => 0)

def quiescent_XattnIdeal_pre_finite [hXattnIdeal : Cert.XattnIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6))
      ∧ r.2.sem = fun _ => 0)

def quiescent_XattnRefIdeal_pre_finite [hXattnRefIdeal : Cert.XattnRefIdeal.Facts] [hPre_finite : Cert.Pre_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Projxy [hProjxy : Cert.Projxy.Facts] : Prop :=
  ∀ (m : (ℓ : Loc Cert.Projxy.nD Cert.Projxy.τ Cert.Projxy.sig) → Buf (Elt Bits) ℓ) (g : Dev Cert.Projxy.nD → PrngReg), Pre_Projxy m →
    θ_run (Cert.Projxy.defs (F := Bits)) (onTc (τ := Cert.Projxy.τ) (Cert.Projxy.main (F := Bits))) ⟨m, fun _ => 0, g⟩ (fun r => (∀ c : Dev Cert.Projxy.nD,
      r.2.mem ((c.tc : Thread Cert.Projxy.nD Cert.Projxy.τ).loc Cert.Projxy.main_arg0) = m ((c.tc : Thread Cert.Projxy.nD Cert.Projxy.τ).loc Cert.Projxy.main_arg0)
      ∧ r.2.mem ((c.tc : Thread Cert.Projxy.nD Cert.Projxy.τ).loc Cert.Projxy.main_arg1) = m ((c.tc : Thread Cert.Projxy.nD Cert.Projxy.τ).loc Cert.Projxy.main_arg1))
      ∧ r.2.sem = fun _ => 0)

def quiescent_ProjxyIdeal [hProjxyIdeal : Cert.ProjxyIdeal.Facts] : Prop :=
  ∀ (m : (ℓ : Loc Cert.ProjxyIdeal.nD Cert.ProjxyIdeal.τ Cert.ProjxyIdeal.sig) → Buf (Elt Ideal) ℓ) (g : Dev Cert.ProjxyIdeal.nD → PrngReg), Pre_ProjxyIdeal m →
    θ_run (Cert.ProjxyIdeal.defs (F := Ideal)) (onTc (τ := Cert.ProjxyIdeal.τ) (Cert.ProjxyIdeal.main (F := Ideal))) ⟨m, fun _ => 0, g⟩ (fun r => (∀ c : Dev Cert.ProjxyIdeal.nD,
      r.2.mem ((c.tc : Thread Cert.ProjxyIdeal.nD Cert.ProjxyIdeal.τ).loc Cert.ProjxyIdeal.main_arg0) = m ((c.tc : Thread Cert.ProjxyIdeal.nD Cert.ProjxyIdeal.τ).loc Cert.ProjxyIdeal.main_arg0)
      ∧ r.2.mem ((c.tc : Thread Cert.ProjxyIdeal.nD Cert.ProjxyIdeal.τ).loc Cert.ProjxyIdeal.main_arg1) = m ((c.tc : Thread Cert.ProjxyIdeal.nD Cert.ProjxyIdeal.τ).loc Cert.ProjxyIdeal.main_arg1))
      ∧ r.2.sem = fun _ => 0)

def quiescent_ProjxyRefIdeal [hProjxyRefIdeal : Cert.ProjxyRefIdeal.Facts] : Prop :=
  ∀ (m : (ℓ : Loc Cert.ProjxyRefIdeal.nD Cert.ProjxyRefIdeal.τ Cert.ProjxyRefIdeal.sig) → Buf (Elt Ideal) ℓ) (g : Dev Cert.ProjxyRefIdeal.nD → PrngReg), Pre_ProjxyRefIdeal m →
    θ_run (Cert.ProjxyRefIdeal.defs (F := Ideal)) (onTc (τ := Cert.ProjxyRefIdeal.τ) (Cert.ProjxyRefIdeal.main (F := Ideal))) ⟨m, fun _ => 0, g⟩ (fun r => (∀ c : Dev Cert.ProjxyRefIdeal.nD,
      r.2.mem ((c.tc : Thread Cert.ProjxyRefIdeal.nD Cert.ProjxyRefIdeal.τ).loc Cert.ProjxyRefIdeal.main_arg0) = m ((c.tc : Thread Cert.ProjxyRefIdeal.nD Cert.ProjxyRefIdeal.τ).loc Cert.ProjxyRefIdeal.main_arg0)
      ∧ r.2.mem ((c.tc : Thread Cert.ProjxyRefIdeal.nD Cert.ProjxyRefIdeal.τ).loc Cert.ProjxyRefIdeal.main_arg1) = m ((c.tc : Thread Cert.ProjxyRefIdeal.nD Cert.ProjxyRefIdeal.τ).loc Cert.ProjxyRefIdeal.main_arg1))
      ∧ r.2.sem = fun _ => 0)

def quiescent_Projv [hProjv : Cert.Projv.Facts] : Prop :=
  ∀ (m : (ℓ : Loc Cert.Projv.nD Cert.Projv.τ Cert.Projv.sig) → Buf (Elt Bits) ℓ) (g : Dev Cert.Projv.nD → PrngReg), Pre_Projv m →
    θ_run (Cert.Projv.defs (F := Bits)) (onTc (τ := Cert.Projv.τ) (Cert.Projv.main (F := Bits))) ⟨m, fun _ => 0, g⟩ (fun r => (∀ c : Dev Cert.Projv.nD,
      r.2.mem ((c.tc : Thread Cert.Projv.nD Cert.Projv.τ).loc Cert.Projv.main_arg0) = m ((c.tc : Thread Cert.Projv.nD Cert.Projv.τ).loc Cert.Projv.main_arg0)
      ∧ r.2.mem ((c.tc : Thread Cert.Projv.nD Cert.Projv.τ).loc Cert.Projv.main_arg1) = m ((c.tc : Thread Cert.Projv.nD Cert.Projv.τ).loc Cert.Projv.main_arg1))
      ∧ r.2.sem = fun _ => 0)

def quiescent_ProjvIdeal [hProjvIdeal : Cert.ProjvIdeal.Facts] : Prop :=
  ∀ (m : (ℓ : Loc Cert.ProjvIdeal.nD Cert.ProjvIdeal.τ Cert.ProjvIdeal.sig) → Buf (Elt Ideal) ℓ) (g : Dev Cert.ProjvIdeal.nD → PrngReg), Pre_ProjvIdeal m →
    θ_run (Cert.ProjvIdeal.defs (F := Ideal)) (onTc (τ := Cert.ProjvIdeal.τ) (Cert.ProjvIdeal.main (F := Ideal))) ⟨m, fun _ => 0, g⟩ (fun r => (∀ c : Dev Cert.ProjvIdeal.nD,
      r.2.mem ((c.tc : Thread Cert.ProjvIdeal.nD Cert.ProjvIdeal.τ).loc Cert.ProjvIdeal.main_arg0) = m ((c.tc : Thread Cert.ProjvIdeal.nD Cert.ProjvIdeal.τ).loc Cert.ProjvIdeal.main_arg0)
      ∧ r.2.mem ((c.tc : Thread Cert.ProjvIdeal.nD Cert.ProjvIdeal.τ).loc Cert.ProjvIdeal.main_arg1) = m ((c.tc : Thread Cert.ProjvIdeal.nD Cert.ProjvIdeal.τ).loc Cert.ProjvIdeal.main_arg1))
      ∧ r.2.sem = fun _ => 0)

def quiescent_ProjvRefIdeal [hProjvRefIdeal : Cert.ProjvRefIdeal.Facts] : Prop :=
  ∀ (m : (ℓ : Loc Cert.ProjvRefIdeal.nD Cert.ProjvRefIdeal.τ Cert.ProjvRefIdeal.sig) → Buf (Elt Ideal) ℓ) (g : Dev Cert.ProjvRefIdeal.nD → PrngReg), Pre_ProjvRefIdeal m →
    θ_run (Cert.ProjvRefIdeal.defs (F := Ideal)) (onTc (τ := Cert.ProjvRefIdeal.τ) (Cert.ProjvRefIdeal.main (F := Ideal))) ⟨m, fun _ => 0, g⟩ (fun r => (∀ c : Dev Cert.ProjvRefIdeal.nD,
      r.2.mem ((c.tc : Thread Cert.ProjvRefIdeal.nD Cert.ProjvRefIdeal.τ).loc Cert.ProjvRefIdeal.main_arg0) = m ((c.tc : Thread Cert.ProjvRefIdeal.nD Cert.ProjvRefIdeal.τ).loc Cert.ProjvRefIdeal.main_arg0)
      ∧ r.2.mem ((c.tc : Thread Cert.ProjvRefIdeal.nD Cert.ProjvRefIdeal.τ).loc Cert.ProjvRefIdeal.main_arg1) = m ((c.tc : Thread Cert.ProjvRefIdeal.nD Cert.ProjvRefIdeal.τ).loc Cert.ProjvRefIdeal.main_arg1))
      ∧ r.2.sem = fun _ => 0)

def quiescent_Projg [hProjg : Cert.Projg.Facts] : Prop :=
  ∀ (m : (ℓ : Loc Cert.Projg.nD Cert.Projg.τ Cert.Projg.sig) → Buf (Elt Bits) ℓ) (g : Dev Cert.Projg.nD → PrngReg), Pre_Projg m →
    θ_run (Cert.Projg.defs (F := Bits)) (onTc (τ := Cert.Projg.τ) (Cert.Projg.main (F := Bits))) ⟨m, fun _ => 0, g⟩ (fun r => (∀ c : Dev Cert.Projg.nD,
      r.2.mem ((c.tc : Thread Cert.Projg.nD Cert.Projg.τ).loc Cert.Projg.main_arg0) = m ((c.tc : Thread Cert.Projg.nD Cert.Projg.τ).loc Cert.Projg.main_arg0)
      ∧ r.2.mem ((c.tc : Thread Cert.Projg.nD Cert.Projg.τ).loc Cert.Projg.main_arg1) = m ((c.tc : Thread Cert.Projg.nD Cert.Projg.τ).loc Cert.Projg.main_arg1))
      ∧ r.2.sem = fun _ => 0)

def quiescent_ProjgIdeal [hProjgIdeal : Cert.ProjgIdeal.Facts] : Prop :=
  ∀ (m : (ℓ : Loc Cert.ProjgIdeal.nD Cert.ProjgIdeal.τ Cert.ProjgIdeal.sig) → Buf (Elt Ideal) ℓ) (g : Dev Cert.ProjgIdeal.nD → PrngReg), Pre_ProjgIdeal m →
    θ_run (Cert.ProjgIdeal.defs (F := Ideal)) (onTc (τ := Cert.ProjgIdeal.τ) (Cert.ProjgIdeal.main (F := Ideal))) ⟨m, fun _ => 0, g⟩ (fun r => (∀ c : Dev Cert.ProjgIdeal.nD,
      r.2.mem ((c.tc : Thread Cert.ProjgIdeal.nD Cert.ProjgIdeal.τ).loc Cert.ProjgIdeal.main_arg0) = m ((c.tc : Thread Cert.ProjgIdeal.nD Cert.ProjgIdeal.τ).loc Cert.ProjgIdeal.main_arg0)
      ∧ r.2.mem ((c.tc : Thread Cert.ProjgIdeal.nD Cert.ProjgIdeal.τ).loc Cert.ProjgIdeal.main_arg1) = m ((c.tc : Thread Cert.ProjgIdeal.nD Cert.ProjgIdeal.τ).loc Cert.ProjgIdeal.main_arg1))
      ∧ r.2.sem = fun _ => 0)

def quiescent_ProjgRefIdeal [hProjgRefIdeal : Cert.ProjgRefIdeal.Facts] : Prop :=
  ∀ (m : (ℓ : Loc Cert.ProjgRefIdeal.nD Cert.ProjgRefIdeal.τ Cert.ProjgRefIdeal.sig) → Buf (Elt Ideal) ℓ) (g : Dev Cert.ProjgRefIdeal.nD → PrngReg), Pre_ProjgRefIdeal m →
    θ_run (Cert.ProjgRefIdeal.defs (F := Ideal)) (onTc (τ := Cert.ProjgRefIdeal.τ) (Cert.ProjgRefIdeal.main (F := Ideal))) ⟨m, fun _ => 0, g⟩ (fun r => (∀ c : Dev Cert.ProjgRefIdeal.nD,
      r.2.mem ((c.tc : Thread Cert.ProjgRefIdeal.nD Cert.ProjgRefIdeal.τ).loc Cert.ProjgRefIdeal.main_arg0) = m ((c.tc : Thread Cert.ProjgRefIdeal.nD Cert.ProjgRefIdeal.τ).loc Cert.ProjgRefIdeal.main_arg0)
      ∧ r.2.mem ((c.tc : Thread Cert.ProjgRefIdeal.nD Cert.ProjgRefIdeal.τ).loc Cert.ProjgRefIdeal.main_arg1) = m ((c.tc : Thread Cert.ProjgRefIdeal.nD Cert.ProjgRefIdeal.τ).loc Cert.ProjgRefIdeal.main_arg1))
      ∧ r.2.sem = fun _ => 0)

def quiescent_Projqk [hProjqk : Cert.Projqk.Facts] : Prop :=
  ∀ (m : (ℓ : Loc Cert.Projqk.nD Cert.Projqk.τ Cert.Projqk.sig) → Buf (Elt Bits) ℓ) (g : Dev Cert.Projqk.nD → PrngReg), Pre_Projqk m →
    θ_run (Cert.Projqk.defs (F := Bits)) (onTc (τ := Cert.Projqk.τ) (Cert.Projqk.main (F := Bits))) ⟨m, fun _ => 0, g⟩ (fun r => (∀ c : Dev Cert.Projqk.nD,
      r.2.mem ((c.tc : Thread Cert.Projqk.nD Cert.Projqk.τ).loc Cert.Projqk.main_arg0) = m ((c.tc : Thread Cert.Projqk.nD Cert.Projqk.τ).loc Cert.Projqk.main_arg0)
      ∧ r.2.mem ((c.tc : Thread Cert.Projqk.nD Cert.Projqk.τ).loc Cert.Projqk.main_arg1) = m ((c.tc : Thread Cert.Projqk.nD Cert.Projqk.τ).loc Cert.Projqk.main_arg1)
      ∧ r.2.mem ((c.tc : Thread Cert.Projqk.nD Cert.Projqk.τ).loc Cert.Projqk.main_arg2) = m ((c.tc : Thread Cert.Projqk.nD Cert.Projqk.τ).loc Cert.Projqk.main_arg2)
      ∧ r.2.mem ((c.tc : Thread Cert.Projqk.nD Cert.Projqk.τ).loc Cert.Projqk.main_arg3) = m ((c.tc : Thread Cert.Projqk.nD Cert.Projqk.τ).loc Cert.Projqk.main_arg3))
      ∧ r.2.sem = fun _ => 0)

def quiescent_ProjqkIdeal [hProjqkIdeal : Cert.ProjqkIdeal.Facts] : Prop :=
  ∀ (m : (ℓ : Loc Cert.ProjqkIdeal.nD Cert.ProjqkIdeal.τ Cert.ProjqkIdeal.sig) → Buf (Elt Ideal) ℓ) (g : Dev Cert.ProjqkIdeal.nD → PrngReg), Pre_ProjqkIdeal m →
    θ_run (Cert.ProjqkIdeal.defs (F := Ideal)) (onTc (τ := Cert.ProjqkIdeal.τ) (Cert.ProjqkIdeal.main (F := Ideal))) ⟨m, fun _ => 0, g⟩ (fun r => (∀ c : Dev Cert.ProjqkIdeal.nD,
      r.2.mem ((c.tc : Thread Cert.ProjqkIdeal.nD Cert.ProjqkIdeal.τ).loc Cert.ProjqkIdeal.main_arg0) = m ((c.tc : Thread Cert.ProjqkIdeal.nD Cert.ProjqkIdeal.τ).loc Cert.ProjqkIdeal.main_arg0)
      ∧ r.2.mem ((c.tc : Thread Cert.ProjqkIdeal.nD Cert.ProjqkIdeal.τ).loc Cert.ProjqkIdeal.main_arg1) = m ((c.tc : Thread Cert.ProjqkIdeal.nD Cert.ProjqkIdeal.τ).loc Cert.ProjqkIdeal.main_arg1)
      ∧ r.2.mem ((c.tc : Thread Cert.ProjqkIdeal.nD Cert.ProjqkIdeal.τ).loc Cert.ProjqkIdeal.main_arg2) = m ((c.tc : Thread Cert.ProjqkIdeal.nD Cert.ProjqkIdeal.τ).loc Cert.ProjqkIdeal.main_arg2)
      ∧ r.2.mem ((c.tc : Thread Cert.ProjqkIdeal.nD Cert.ProjqkIdeal.τ).loc Cert.ProjqkIdeal.main_arg3) = m ((c.tc : Thread Cert.ProjqkIdeal.nD Cert.ProjqkIdeal.τ).loc Cert.ProjqkIdeal.main_arg3))
      ∧ r.2.sem = fun _ => 0)

def quiescent_ProjqkRefIdeal [hProjqkRefIdeal : Cert.ProjqkRefIdeal.Facts] : Prop :=
  ∀ (m : (ℓ : Loc Cert.ProjqkRefIdeal.nD Cert.ProjqkRefIdeal.τ Cert.ProjqkRefIdeal.sig) → Buf (Elt Ideal) ℓ) (g : Dev Cert.ProjqkRefIdeal.nD → PrngReg), Pre_ProjqkRefIdeal m →
    θ_run (Cert.ProjqkRefIdeal.defs (F := Ideal)) (onTc (τ := Cert.ProjqkRefIdeal.τ) (Cert.ProjqkRefIdeal.main (F := Ideal))) ⟨m, fun _ => 0, g⟩ (fun r => (∀ c : Dev Cert.ProjqkRefIdeal.nD,
      r.2.mem ((c.tc : Thread Cert.ProjqkRefIdeal.nD Cert.ProjqkRefIdeal.τ).loc Cert.ProjqkRefIdeal.main_arg0) = m ((c.tc : Thread Cert.ProjqkRefIdeal.nD Cert.ProjqkRefIdeal.τ).loc Cert.ProjqkRefIdeal.main_arg0)
      ∧ r.2.mem ((c.tc : Thread Cert.ProjqkRefIdeal.nD Cert.ProjqkRefIdeal.τ).loc Cert.ProjqkRefIdeal.main_arg1) = m ((c.tc : Thread Cert.ProjqkRefIdeal.nD Cert.ProjqkRefIdeal.τ).loc Cert.ProjqkRefIdeal.main_arg1)
      ∧ r.2.mem ((c.tc : Thread Cert.ProjqkRefIdeal.nD Cert.ProjqkRefIdeal.τ).loc Cert.ProjqkRefIdeal.main_arg2) = m ((c.tc : Thread Cert.ProjqkRefIdeal.nD Cert.ProjqkRefIdeal.τ).loc Cert.ProjqkRefIdeal.main_arg2)
      ∧ r.2.mem ((c.tc : Thread Cert.ProjqkRefIdeal.nD Cert.ProjqkRefIdeal.τ).loc Cert.ProjqkRefIdeal.main_arg3) = m ((c.tc : Thread Cert.ProjqkRefIdeal.nD Cert.ProjqkRefIdeal.τ).loc Cert.ProjqkRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "unmask" .f32 0x7149F2CA#32 ⊤

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Rglru_RglruIdeal : Prop :=
  True

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Xattn_XattnIdeal : Prop :=
  True

def algebraic_XattnIdeal_XattnRefIdeal_pre_finite [hXattnIdeal : Cert.XattnIdeal.Facts] [hXattnRefIdeal : Cert.XattnRefIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)) →
    ∃ (v0 : (c : Dev Cert.XattnIdeal.nD) → Buf (Elt Ideal) ((c.tc : Thread Cert.XattnIdeal.nD Cert.XattnIdeal.τ).loc Cert.XattnIdeal.main_v4)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v4) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v42) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v3)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v3) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v15) = v0 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Projxy_ProjxyIdeal : Prop :=
  True

def algebraic_ProjxyIdeal_ProjxyRefIdeal [hProjxyIdeal : Cert.ProjxyIdeal.Facts] [hProjxyRefIdeal : Cert.ProjxyRefIdeal.Facts] : Prop :=
  ∀ (m : (ℓ : Loc Cert.ProjxyIdeal.nD Cert.ProjxyIdeal.τ Cert.ProjxyIdeal.sig) → Buf (Elt Ideal) ℓ) (g : Dev Cert.ProjxyIdeal.nD → PrngReg)
    (m' : (ℓ : Loc Cert.ProjxyRefIdeal.nD Cert.ProjxyRefIdeal.τ Cert.ProjxyRefIdeal.sig) → Buf (Elt Ideal) ℓ) (g' : Dev Cert.ProjxyRefIdeal.nD → PrngReg), Pre_ProjxyIdeal m →
    (∀ c : Dev Cert.ProjxyIdeal.nD,
      m' ((c.tc : Thread Cert.ProjxyRefIdeal.nD Cert.ProjxyRefIdeal.τ).loc Cert.ProjxyRefIdeal.main_arg0) = m ((c.tc : Thread Cert.ProjxyIdeal.nD Cert.ProjxyIdeal.τ).loc Cert.ProjxyIdeal.main_arg0)
      ∧ m' ((c.tc : Thread Cert.ProjxyRefIdeal.nD Cert.ProjxyRefIdeal.τ).loc Cert.ProjxyRefIdeal.main_arg1) = m ((c.tc : Thread Cert.ProjxyIdeal.nD Cert.ProjxyIdeal.τ).loc Cert.ProjxyIdeal.main_arg1)) →
    ∃ (v0 : (c : Dev Cert.ProjxyIdeal.nD) → Buf (Elt Ideal) ((c.tc : Thread Cert.ProjxyIdeal.nD Cert.ProjxyIdeal.τ).loc Cert.ProjxyIdeal.main_v0)),
      θ_run (Cert.ProjxyIdeal.defs (F := Ideal)) (onTc (τ := Cert.ProjxyIdeal.τ) (Cert.ProjxyIdeal.main (F := Ideal))) ⟨m, fun _ => 0, g⟩ (fun r => ∀ c : Dev Cert.ProjxyIdeal.nD,
          r.2.mem ((c.tc : Thread Cert.ProjxyIdeal.nD Cert.ProjxyIdeal.τ).loc Cert.ProjxyIdeal.main_v0) = v0 c
          ∧ r.2.mem ((c.tc : Thread Cert.ProjxyIdeal.nD Cert.ProjxyIdeal.τ).loc Cert.ProjxyIdeal.main_arg0) = m ((c.tc : Thread Cert.ProjxyIdeal.nD Cert.ProjxyIdeal.τ).loc Cert.ProjxyIdeal.main_arg0)
          ∧ r.2.mem ((c.tc : Thread Cert.ProjxyIdeal.nD Cert.ProjxyIdeal.τ).loc Cert.ProjxyIdeal.main_arg1) = m ((c.tc : Thread Cert.ProjxyIdeal.nD Cert.ProjxyIdeal.τ).loc Cert.ProjxyIdeal.main_arg1))
      ∧ θ_run (Cert.ProjxyRefIdeal.defs (F := Ideal)) (onTc (τ := Cert.ProjxyRefIdeal.τ) (Cert.ProjxyRefIdeal.main (F := Ideal))) ⟨m', fun _ => 0, g'⟩ (fun r => ∀ c : Dev Cert.ProjxyRefIdeal.nD,
          r.2.mem ((c.tc : Thread Cert.ProjxyRefIdeal.nD Cert.ProjxyRefIdeal.τ).loc Cert.ProjxyRefIdeal.main_v2) = v0 c
          ∧ r.2.mem ((c.tc : Thread Cert.ProjxyRefIdeal.nD Cert.ProjxyRefIdeal.τ).loc Cert.ProjxyRefIdeal.main_arg0) = m' ((c.tc : Thread Cert.ProjxyRefIdeal.nD Cert.ProjxyRefIdeal.τ).loc Cert.ProjxyRefIdeal.main_arg0)
          ∧ r.2.mem ((c.tc : Thread Cert.ProjxyRefIdeal.nD Cert.ProjxyRefIdeal.τ).loc Cert.ProjxyRefIdeal.main_arg1) = m' ((c.tc : Thread Cert.ProjxyRefIdeal.nD Cert.ProjxyRefIdeal.τ).loc Cert.ProjxyRefIdeal.main_arg1))

def preserves_Projv_ProjvIdeal : Prop :=
  True

def algebraic_ProjvIdeal_ProjvRefIdeal [hProjvIdeal : Cert.ProjvIdeal.Facts] [hProjvRefIdeal : Cert.ProjvRefIdeal.Facts] : Prop :=
  ∀ (m : (ℓ : Loc Cert.ProjvIdeal.nD Cert.ProjvIdeal.τ Cert.ProjvIdeal.sig) → Buf (Elt Ideal) ℓ) (g : Dev Cert.ProjvIdeal.nD → PrngReg)
    (m' : (ℓ : Loc Cert.ProjvRefIdeal.nD Cert.ProjvRefIdeal.τ Cert.ProjvRefIdeal.sig) → Buf (Elt Ideal) ℓ) (g' : Dev Cert.ProjvRefIdeal.nD → PrngReg), Pre_ProjvIdeal m →
    (∀ c : Dev Cert.ProjvIdeal.nD,
      m' ((c.tc : Thread Cert.ProjvRefIdeal.nD Cert.ProjvRefIdeal.τ).loc Cert.ProjvRefIdeal.main_arg0) = m ((c.tc : Thread Cert.ProjvIdeal.nD Cert.ProjvIdeal.τ).loc Cert.ProjvIdeal.main_arg0)
      ∧ m' ((c.tc : Thread Cert.ProjvRefIdeal.nD Cert.ProjvRefIdeal.τ).loc Cert.ProjvRefIdeal.main_arg1) = m ((c.tc : Thread Cert.ProjvIdeal.nD Cert.ProjvIdeal.τ).loc Cert.ProjvIdeal.main_arg1)) →
    ∃ (v0 : (c : Dev Cert.ProjvIdeal.nD) → Buf (Elt Ideal) ((c.tc : Thread Cert.ProjvIdeal.nD Cert.ProjvIdeal.τ).loc Cert.ProjvIdeal.main_v0)),
      θ_run (Cert.ProjvIdeal.defs (F := Ideal)) (onTc (τ := Cert.ProjvIdeal.τ) (Cert.ProjvIdeal.main (F := Ideal))) ⟨m, fun _ => 0, g⟩ (fun r => ∀ c : Dev Cert.ProjvIdeal.nD,
          r.2.mem ((c.tc : Thread Cert.ProjvIdeal.nD Cert.ProjvIdeal.τ).loc Cert.ProjvIdeal.main_v0) = v0 c
          ∧ r.2.mem ((c.tc : Thread Cert.ProjvIdeal.nD Cert.ProjvIdeal.τ).loc Cert.ProjvIdeal.main_arg0) = m ((c.tc : Thread Cert.ProjvIdeal.nD Cert.ProjvIdeal.τ).loc Cert.ProjvIdeal.main_arg0)
          ∧ r.2.mem ((c.tc : Thread Cert.ProjvIdeal.nD Cert.ProjvIdeal.τ).loc Cert.ProjvIdeal.main_arg1) = m ((c.tc : Thread Cert.ProjvIdeal.nD Cert.ProjvIdeal.τ).loc Cert.ProjvIdeal.main_arg1))
      ∧ θ_run (Cert.ProjvRefIdeal.defs (F := Ideal)) (onTc (τ := Cert.ProjvRefIdeal.τ) (Cert.ProjvRefIdeal.main (F := Ideal))) ⟨m', fun _ => 0, g'⟩ (fun r => ∀ c : Dev Cert.ProjvRefIdeal.nD,
          r.2.mem ((c.tc : Thread Cert.ProjvRefIdeal.nD Cert.ProjvRefIdeal.τ).loc Cert.ProjvRefIdeal.main_v4) = v0 c
          ∧ r.2.mem ((c.tc : Thread Cert.ProjvRefIdeal.nD Cert.ProjvRefIdeal.τ).loc Cert.ProjvRefIdeal.main_arg0) = m' ((c.tc : Thread Cert.ProjvRefIdeal.nD Cert.ProjvRefIdeal.τ).loc Cert.ProjvRefIdeal.main_arg0)
          ∧ r.2.mem ((c.tc : Thread Cert.ProjvRefIdeal.nD Cert.ProjvRefIdeal.τ).loc Cert.ProjvRefIdeal.main_arg1) = m' ((c.tc : Thread Cert.ProjvRefIdeal.nD Cert.ProjvRefIdeal.τ).loc Cert.ProjvRefIdeal.main_arg1))

def preserves_Projg_ProjgIdeal : Prop :=
  True

def algebraic_ProjgIdeal_ProjgRefIdeal [hProjgIdeal : Cert.ProjgIdeal.Facts] [hProjgRefIdeal : Cert.ProjgRefIdeal.Facts] : Prop :=
  ∀ (m : (ℓ : Loc Cert.ProjgIdeal.nD Cert.ProjgIdeal.τ Cert.ProjgIdeal.sig) → Buf (Elt Ideal) ℓ) (g : Dev Cert.ProjgIdeal.nD → PrngReg)
    (m' : (ℓ : Loc Cert.ProjgRefIdeal.nD Cert.ProjgRefIdeal.τ Cert.ProjgRefIdeal.sig) → Buf (Elt Ideal) ℓ) (g' : Dev Cert.ProjgRefIdeal.nD → PrngReg), Pre_ProjgIdeal m →
    (∀ c : Dev Cert.ProjgIdeal.nD,
      m' ((c.tc : Thread Cert.ProjgRefIdeal.nD Cert.ProjgRefIdeal.τ).loc Cert.ProjgRefIdeal.main_arg0) = m ((c.tc : Thread Cert.ProjgIdeal.nD Cert.ProjgIdeal.τ).loc Cert.ProjgIdeal.main_arg0)
      ∧ m' ((c.tc : Thread Cert.ProjgRefIdeal.nD Cert.ProjgRefIdeal.τ).loc Cert.ProjgRefIdeal.main_arg1) = m ((c.tc : Thread Cert.ProjgIdeal.nD Cert.ProjgIdeal.τ).loc Cert.ProjgIdeal.main_arg1)) →
    ∃ (v0 : (c : Dev Cert.ProjgIdeal.nD) → Buf (Elt Ideal) ((c.tc : Thread Cert.ProjgIdeal.nD Cert.ProjgIdeal.τ).loc Cert.ProjgIdeal.main_v0)),
      θ_run (Cert.ProjgIdeal.defs (F := Ideal)) (onTc (τ := Cert.ProjgIdeal.τ) (Cert.ProjgIdeal.main (F := Ideal))) ⟨m, fun _ => 0, g⟩ (fun r => ∀ c : Dev Cert.ProjgIdeal.nD,
          r.2.mem ((c.tc : Thread Cert.ProjgIdeal.nD Cert.ProjgIdeal.τ).loc Cert.ProjgIdeal.main_v0) = v0 c
          ∧ r.2.mem ((c.tc : Thread Cert.ProjgIdeal.nD Cert.ProjgIdeal.τ).loc Cert.ProjgIdeal.main_arg0) = m ((c.tc : Thread Cert.ProjgIdeal.nD Cert.ProjgIdeal.τ).loc Cert.ProjgIdeal.main_arg0)
          ∧ r.2.mem ((c.tc : Thread Cert.ProjgIdeal.nD Cert.ProjgIdeal.τ).loc Cert.ProjgIdeal.main_arg1) = m ((c.tc : Thread Cert.ProjgIdeal.nD Cert.ProjgIdeal.τ).loc Cert.ProjgIdeal.main_arg1))
      ∧ θ_run (Cert.ProjgRefIdeal.defs (F := Ideal)) (onTc (τ := Cert.ProjgRefIdeal.τ) (Cert.ProjgRefIdeal.main (F := Ideal))) ⟨m', fun _ => 0, g'⟩ (fun r => ∀ c : Dev Cert.ProjgRefIdeal.nD,
          r.2.mem ((c.tc : Thread Cert.ProjgRefIdeal.nD Cert.ProjgRefIdeal.τ).loc Cert.ProjgRefIdeal.main_v3) = v0 c
          ∧ r.2.mem ((c.tc : Thread Cert.ProjgRefIdeal.nD Cert.ProjgRefIdeal.τ).loc Cert.ProjgRefIdeal.main_arg0) = m' ((c.tc : Thread Cert.ProjgRefIdeal.nD Cert.ProjgRefIdeal.τ).loc Cert.ProjgRefIdeal.main_arg0)
          ∧ r.2.mem ((c.tc : Thread Cert.ProjgRefIdeal.nD Cert.ProjgRefIdeal.τ).loc Cert.ProjgRefIdeal.main_arg1) = m' ((c.tc : Thread Cert.ProjgRefIdeal.nD Cert.ProjgRefIdeal.τ).loc Cert.ProjgRefIdeal.main_arg1))

def preserves_Projqk_ProjqkIdeal : Prop :=
  True

def algebraic_ProjqkIdeal_ProjqkRefIdeal [hProjqkIdeal : Cert.ProjqkIdeal.Facts] [hProjqkRefIdeal : Cert.ProjqkRefIdeal.Facts] : Prop :=
  ∀ (m : (ℓ : Loc Cert.ProjqkIdeal.nD Cert.ProjqkIdeal.τ Cert.ProjqkIdeal.sig) → Buf (Elt Ideal) ℓ) (g : Dev Cert.ProjqkIdeal.nD → PrngReg)
    (m' : (ℓ : Loc Cert.ProjqkRefIdeal.nD Cert.ProjqkRefIdeal.τ Cert.ProjqkRefIdeal.sig) → Buf (Elt Ideal) ℓ) (g' : Dev Cert.ProjqkRefIdeal.nD → PrngReg), Pre_ProjqkIdeal m →
    (∀ c : Dev Cert.ProjqkIdeal.nD,
      m' ((c.tc : Thread Cert.ProjqkRefIdeal.nD Cert.ProjqkRefIdeal.τ).loc Cert.ProjqkRefIdeal.main_arg0) = m ((c.tc : Thread Cert.ProjqkIdeal.nD Cert.ProjqkIdeal.τ).loc Cert.ProjqkIdeal.main_arg0)
      ∧ m' ((c.tc : Thread Cert.ProjqkRefIdeal.nD Cert.ProjqkRefIdeal.τ).loc Cert.ProjqkRefIdeal.main_arg1) = m ((c.tc : Thread Cert.ProjqkIdeal.nD Cert.ProjqkIdeal.τ).loc Cert.ProjqkIdeal.main_arg1)
      ∧ m' ((c.tc : Thread Cert.ProjqkRefIdeal.nD Cert.ProjqkRefIdeal.τ).loc Cert.ProjqkRefIdeal.main_arg2) = m ((c.tc : Thread Cert.ProjqkIdeal.nD Cert.ProjqkIdeal.τ).loc Cert.ProjqkIdeal.main_arg2)
      ∧ m' ((c.tc : Thread Cert.ProjqkRefIdeal.nD Cert.ProjqkRefIdeal.τ).loc Cert.ProjqkRefIdeal.main_arg3) = m ((c.tc : Thread Cert.ProjqkIdeal.nD Cert.ProjqkIdeal.τ).loc Cert.ProjqkIdeal.main_arg3)) →
    ∃ (v0 : (c : Dev Cert.ProjqkIdeal.nD) → Buf (Elt Ideal) ((c.tc : Thread Cert.ProjqkIdeal.nD Cert.ProjqkIdeal.τ).loc Cert.ProjqkIdeal.main_v0_0)) (v1 : (c : Dev Cert.ProjqkIdeal.nD) → Buf (Elt Ideal) ((c.tc : Thread Cert.ProjqkIdeal.nD Cert.ProjqkIdeal.τ).loc Cert.ProjqkIdeal.main_v0_1)),
      θ_run (Cert.ProjqkIdeal.defs (F := Ideal)) (onTc (τ := Cert.ProjqkIdeal.τ) (Cert.ProjqkIdeal.main (F := Ideal))) ⟨m, fun _ => 0, g⟩ (fun r => ∀ c : Dev Cert.ProjqkIdeal.nD,
          r.2.mem ((c.tc : Thread Cert.ProjqkIdeal.nD Cert.ProjqkIdeal.τ).loc Cert.ProjqkIdeal.main_v0_0) = v0 c
          ∧ r.2.mem ((c.tc : Thread Cert.ProjqkIdeal.nD Cert.ProjqkIdeal.τ).loc Cert.ProjqkIdeal.main_v0_1) = v1 c
          ∧ r.2.mem ((c.tc : Thread Cert.ProjqkIdeal.nD Cert.ProjqkIdeal.τ).loc Cert.ProjqkIdeal.main_arg0) = m ((c.tc : Thread Cert.ProjqkIdeal.nD Cert.ProjqkIdeal.τ).loc Cert.ProjqkIdeal.main_arg0)
          ∧ r.2.mem ((c.tc : Thread Cert.ProjqkIdeal.nD Cert.ProjqkIdeal.τ).loc Cert.ProjqkIdeal.main_arg1) = m ((c.tc : Thread Cert.ProjqkIdeal.nD Cert.ProjqkIdeal.τ).loc Cert.ProjqkIdeal.main_arg1)
          ∧ r.2.mem ((c.tc : Thread Cert.ProjqkIdeal.nD Cert.ProjqkIdeal.τ).loc Cert.ProjqkIdeal.main_arg2) = m ((c.tc : Thread Cert.ProjqkIdeal.nD Cert.ProjqkIdeal.τ).loc Cert.ProjqkIdeal.main_arg2)
          ∧ r.2.mem ((c.tc : Thread Cert.ProjqkIdeal.nD Cert.ProjqkIdeal.τ).loc Cert.ProjqkIdeal.main_arg3) = m ((c.tc : Thread Cert.ProjqkIdeal.nD Cert.ProjqkIdeal.τ).loc Cert.ProjqkIdeal.main_arg3))
      ∧ θ_run (Cert.ProjqkRefIdeal.defs (F := Ideal)) (onTc (τ := Cert.ProjqkRefIdeal.τ) (Cert.ProjqkRefIdeal.main (F := Ideal))) ⟨m', fun _ => 0, g'⟩ (fun r => ∀ c : Dev Cert.ProjqkRefIdeal.nD,
          r.2.mem ((c.tc : Thread Cert.ProjqkRefIdeal.nD Cert.ProjqkRefIdeal.τ).loc Cert.ProjqkRefIdeal.main_v41) = v0 c
          ∧ r.2.mem ((c.tc : Thread Cert.ProjqkRefIdeal.nD Cert.ProjqkRefIdeal.τ).loc Cert.ProjqkRefIdeal.main_v45) = v1 c
          ∧ r.2.mem ((c.tc : Thread Cert.ProjqkRefIdeal.nD Cert.ProjqkRefIdeal.τ).loc Cert.ProjqkRefIdeal.main_arg0) = m' ((c.tc : Thread Cert.ProjqkRefIdeal.nD Cert.ProjqkRefIdeal.τ).loc Cert.ProjqkRefIdeal.main_arg0)
          ∧ r.2.mem ((c.tc : Thread Cert.ProjqkRefIdeal.nD Cert.ProjqkRefIdeal.τ).loc Cert.ProjqkRefIdeal.main_arg1) = m' ((c.tc : Thread Cert.ProjqkRefIdeal.nD Cert.ProjqkRefIdeal.τ).loc Cert.ProjqkRefIdeal.main_arg1)
          ∧ r.2.mem ((c.tc : Thread Cert.ProjqkRefIdeal.nD Cert.ProjqkRefIdeal.τ).loc Cert.ProjqkRefIdeal.main_arg2) = m' ((c.tc : Thread Cert.ProjqkRefIdeal.nD Cert.ProjqkRefIdeal.τ).loc Cert.ProjqkRefIdeal.main_arg2)
          ∧ r.2.mem ((c.tc : Thread Cert.ProjqkRefIdeal.nD Cert.ProjqkRefIdeal.τ).loc Cert.ProjqkRefIdeal.main_arg3) = m' ((c.tc : Thread Cert.ProjqkRefIdeal.nD Cert.ProjqkRefIdeal.τ).loc Cert.ProjqkRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v11_0)) (v1 : (c : Dev Cert.RopeIdeal.nD) → Buf (Elt Ideal) ((c.tc : Thread Cert.RopeIdeal.nD Cert.RopeIdeal.τ).loc Cert.RopeIdeal.main_v11_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v11_0) = v0 c
          ∧ r.2.mem ((c.tc : Thread Cert.RopeIdeal.nD Cert.RopeIdeal.τ).loc Cert.RopeIdeal.main_v11_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v17) = v0 c
          ∧ r.2.mem ((c.tc : Thread Cert.RopeRefIdeal.nD Cert.RopeRefIdeal.τ).loc Cert.RopeRefIdeal.main_v19) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hRglru : Cert.Rglru.Facts) (hRglruIdeal : Cert.RglruIdeal.Facts) (hMerge : Cert.Merge.Facts) (hMergeIdeal : Cert.MergeIdeal.Facts) (hMergeRefIdeal : Cert.MergeRefIdeal.Facts) (hXattn : Cert.Xattn.Facts) (hXattnIdeal : Cert.XattnIdeal.Facts) (hXattnRefIdeal : Cert.XattnRefIdeal.Facts) (hMemkv : Cert.Memkv.Facts) (hMemkvIdeal : Cert.MemkvIdeal.Facts) (hMemkvRefIdeal : Cert.MemkvRefIdeal.Facts) (hProjxy : Cert.Projxy.Facts) (hProjxyIdeal : Cert.ProjxyIdeal.Facts) (hProjxyRefIdeal : Cert.ProjxyRefIdeal.Facts) (hProjv : Cert.Projv.Facts) (hProjvIdeal : Cert.ProjvIdeal.Facts) (hProjvRefIdeal : Cert.ProjvRefIdeal.Facts) (hProjg : Cert.Projg.Facts) (hProjgIdeal : Cert.ProjgIdeal.Facts) (hProjgRefIdeal : Cert.ProjgRefIdeal.Facts) (hProjqk : Cert.Projqk.Facts) (hProjqkIdeal : Cert.ProjqkIdeal.Facts) (hProjqkRefIdeal : Cert.ProjqkRefIdeal.Facts) (hRope : Cert.Rope.Facts) (hRopeIdeal : Cert.RopeIdeal.Facts) (hRopeRefIdeal : Cert.RopeRefIdeal.Facts) (hNorm : Cert.Norm.Facts) (hNormIdeal : Cert.NormIdeal.Facts) (hNormRefIdeal : Cert.NormRefIdeal.Facts) (hPre_finite : Cert.Pre_finite.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnRefIdeal (hFfnRefIdeal := hFfnRefIdeal)
    ∧ quiescent_Rglru (hRglru := hRglru)
    ∧ quiescent_RglruIdeal (hRglruIdeal := hRglruIdeal)
    ∧ quiescent_Merge (hMerge := hMerge)
    ∧ quiescent_MergeIdeal (hMergeIdeal := hMergeIdeal)
    ∧ quiescent_MergeRefIdeal (hMergeRefIdeal := hMergeRefIdeal)
    ∧ quiescent_Xattn (hXattn := hXattn)
    ∧ quiescent_XattnIdeal (hXattnIdeal := hXattnIdeal)
    ∧ quiescent_XattnIdeal_pre_finite (hXattnIdeal := hXattnIdeal) (hPre_finite := hPre_finite)
    ∧ quiescent_XattnRefIdeal (hXattnRefIdeal := hXattnRefIdeal)
    ∧ quiescent_XattnRefIdeal_pre_finite (hXattnRefIdeal := hXattnRefIdeal) (hPre_finite := hPre_finite)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Projxy (hProjxy := hProjxy)
    ∧ quiescent_ProjxyIdeal (hProjxyIdeal := hProjxyIdeal)
    ∧ quiescent_ProjxyRefIdeal (hProjxyRefIdeal := hProjxyRefIdeal)
    ∧ quiescent_Projv (hProjv := hProjv)
    ∧ quiescent_ProjvIdeal (hProjvIdeal := hProjvIdeal)
    ∧ quiescent_ProjvRefIdeal (hProjvRefIdeal := hProjvRefIdeal)
    ∧ quiescent_Projg (hProjg := hProjg)
    ∧ quiescent_ProjgIdeal (hProjgIdeal := hProjgIdeal)
    ∧ quiescent_ProjgRefIdeal (hProjgRefIdeal := hProjgRefIdeal)
    ∧ quiescent_Projqk (hProjqk := hProjqk)
    ∧ quiescent_ProjqkIdeal (hProjqkIdeal := hProjqkIdeal)
    ∧ quiescent_ProjqkRefIdeal (hProjqkRefIdeal := hProjqkRefIdeal)
    ∧ quiescent_Rope (hRope := hRope)
    ∧ quiescent_RopeIdeal (hRopeIdeal := hRopeIdeal)
    ∧ quiescent_RopeRefIdeal (hRopeRefIdeal := hRopeRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_Rglru_RglruIdeal
    ∧ preserves_Merge_MergeIdeal
    ∧ algebraic_MergeIdeal_MergeRefIdeal (hMergeIdeal := hMergeIdeal) (hMergeRefIdeal := hMergeRefIdeal)
    ∧ preserves_Xattn_XattnIdeal
    ∧ algebraic_XattnIdeal_XattnRefIdeal_pre_finite (hXattnIdeal := hXattnIdeal) (hXattnRefIdeal := hXattnRefIdeal) (hPre_finite := hPre_finite)
    ∧ preserves_Memkv_MemkvIdeal
    ∧ algebraic_MemkvIdeal_MemkvRefIdeal (hMemkvIdeal := hMemkvIdeal) (hMemkvRefIdeal := hMemkvRefIdeal)
    ∧ preserves_Projxy_ProjxyIdeal
    ∧ algebraic_ProjxyIdeal_ProjxyRefIdeal (hProjxyIdeal := hProjxyIdeal) (hProjxyRefIdeal := hProjxyRefIdeal)
    ∧ preserves_Projv_ProjvIdeal
    ∧ algebraic_ProjvIdeal_ProjvRefIdeal (hProjvIdeal := hProjvIdeal) (hProjvRefIdeal := hProjvRefIdeal)
    ∧ preserves_Projg_ProjgIdeal
    ∧ algebraic_ProjgIdeal_ProjgRefIdeal (hProjgIdeal := hProjgIdeal) (hProjgRefIdeal := hProjgRefIdeal)
    ∧ preserves_Projqk_ProjqkIdeal
    ∧ algebraic_ProjqkIdeal_ProjqkRefIdeal (hProjqkIdeal := hProjqkIdeal) (hProjqkRefIdeal := hProjqkRefIdeal)
    ∧ preserves_Rope_RopeIdeal
    ∧ algebraic_RopeIdeal_RopeRefIdeal (hRopeIdeal := hRopeIdeal) (hRopeRefIdeal := hRopeRefIdeal)
    ∧ preserves_Norm_NormIdeal
    ∧ algebraic_NormIdeal_NormRefIdeal (hNormIdeal := hNormIdeal) (hNormRefIdeal := hNormRefIdeal)
-- ==== Pre_finite.lean ====
abbrev S16384x2048 : Shape := ⟨2, ![16384, 2048]⟩
abbrev S2048x2048 : Shape := ⟨2, ![2048, 2048]⟩
abbrev S2048 : Shape := ⟨1, ![2048]⟩
abbrev S2048x512 : Shape := ⟨2, ![2048, 512]⟩
abbrev S1024x1024 : Shape := ⟨2, ![1024, 1024]⟩
abbrev S512x2048 : Shape := ⟨2, ![512, 2048]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S2048x512 .f32) (main_arg5 : FVec F S1024x1024 .bf16) (main_v14 : IVec S_ 1) (main_v15 : FVec F S2048 .f32) (main_v16 : FVec F S2048 .f32) : IVec S_ 1 :=
  let main_v17 : IVec S2048 1 := cmpf .olt main_v15 main_v16
  let main_c_5 : IVec S_ 1 := constantI S_ 1 1#1
  let main_v18 : IVec S_ 1 := (fun x v => Host.reduce IntOp.andi x v reducesTo_S2048_S_d0 h_S_) main_v17 main_c_5
  let main_v19 : IVec S_ 1 := andi main_v14 main_v18
  let main_v20 : FVec F S2048x512 .f32 := Host.absf main_arg4
  let main_cst_6 : FVec F S_ .f32 := constant S_ .f32 0x7F800000#32
  let main_v21 : FVec F S2048x512 .f32 := broadcastInDim S2048x512 ![] bcast_S_S2048x512 main_cst_6
  let main_v22 : IVec S2048x512 1 := cmpf .olt main_v20 main_v21
  let main_c_7 : IVec S_ 1 := constantI S_ 1 1#1
  let main_v23 : IVec S_ 1 := (fun x v => Host.reduce IntOp.andi x v reducesTo_S2048x512_S_d0_1 h_S_) main_v22 main_c_7
  let main_v24 : IVec S_ 1 := andi main_v19 main_v23
  let main_v25 : FVec F S1024x1024 .f32 := (extf .f32 · bitsLt_bf16_f32) main_arg5
  let main_v26 : FVec F S1024x1024 .f32 := Host.absf main_v25
  let main_cst_8 : FVec F S_ .f32 := constant S_ .f32 0x7F800000#32
  let main_v27 : FVec F S1024x1024 .f32 := broadcastInDim S1024x1024 ![] bcast_S_S1024x1024 main_cst_8
  let main_v28 : IVec S1024x1024 1 := cmpf .olt main_v26 main_v27
  let main_c_9 : IVec S_ 1 := constantI S_ 1 1#1
  let main_v29 : IVec S_ 1 := (fun x v => Host.reduce IntOp.andi x v reducesTo_S1024x1024_S_d0_1 h_S_) main_v28 main_c_9
  let main_v30 : IVec S_ 1 := andi main_v24 main_v29
  main_v30

def fn {F : FTy → Type} [FloatOps F] (main_arg0 : FVec F S16384x2048 .bf16) (main_arg1 : FVec F S2048x2048 .f32) (main_arg2 : FVec F S16384x2048 .f32) (main_arg3 : FVec F S2048 .f32) (main_arg4 : FVec F S2048x512 .f32) (main_arg5 : FVec F S1024x1024 .bf16) (main_arg6 : FVec F S512x2048 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S2048x2048 .f32 := Host.absf main_arg1
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_c_1 : IVec S_ 1 := constantI S_ 1 1#1
  let main_v8 : IVec S_ 1 := (fun x v => Host.reduce IntOp.andi x v reducesTo_S2048x2048_S_d0_1 h_S_) main_v7 main_c_1
  let main_v9 : IVec S_ 1 := andi main_v4 main_v8
  let main_v10 : FVec F S16384x2048 .f32 := Host.absf main_arg2
  let main_cst_2 : FVec F S_ .f32 := constant S_ .f32 0x7F800000#32
  let main_v11 : FVec F S16384x2048 .f32 := broadcastInDim S16384x2048 ![] bcast_S_S16384x2048 main_cst_2
  let main_v12 : IVec S16384x2048 1 := cmpf .olt main_v10 main_v11
  let main_c_3 : IVec S_ 1 := constantI S_ 1 1#1
  let main_v13 : IVec S_ 1 := (fun x v => Host.reduce IntOp.andi x v reducesTo_S16384x2048_S_d0_1 h_S_) main_v12 main_c_3
  let main_v14 : IVec S_ 1 := andi main_v9 main_v13
  let main_v15 : FVec F S2048 .f32 := Host.absf main_arg3
  let main_cst_4 : FVec F S_ .f32 := constant S_ .f32 0x7F800000#32
  let main_v16 : FVec F S2048 .f32 := broadcastInDim S2048 ![] bcast_S_S2048 main_cst_4
  fn_part1 (F := F) main_arg4 main_arg5 main_v14 main_v15 main_v16
-- ==== Kernel.lean ====
abbrev S16384x4096 : Shape := ⟨2, ![16384, 4096]⟩
abbrev S2048x16384 : Shape := ⟨2, ![2048, 16384]⟩
abbrev S64x4096 : Shape := ⟨2, ![64, 4096]⟩
abbrev S16384x2048 : Shape := ⟨2, ![16384, 2048]⟩
abbrev S1024x1024 : Shape := ⟨2, ![1024, 1024]⟩
abbrev S4096x1024 : Shape := ⟨2, ![4096, 1024]⟩
abbrev S1024x4096 : Shape := ⟨2, ![1024, 4096]⟩
abbrev S16x1024 : Shape := ⟨2, ![16, 1024]⟩
abbrev S8x16x256 : Shape := ⟨3, ![8, 16, 256]⟩
abbrev S2x8x256x256 : Shape := ⟨4, ![2, 8, 256, 256]⟩
abbrev S8x144x256 : Shape := ⟨3, ![8, 144, 256]⟩
abbrev S16x256 : Shape := ⟨2, ![16, 256]⟩
abbrev S256x128 : Shape := ⟨2, ![256, 128]⟩
abbrev S16x128 : Shape := ⟨2, ![16, 128]⟩
abbrev S256x256 : Shape := ⟨2, ![256, 256]⟩
abbrev S1x1x256x256 : Shape := ⟨4, ![1, 1, 256, 256]⟩
abbrev S1x256 : Shape := ⟨2, ![1, 256]⟩
abbrev S1x16x256 : Shape := ⟨3, ![1, 16, 256]⟩
abbrev S1x1x256 : Shape := ⟨3, ![1, 1, 256]⟩
abbrev S1x1x128x256 : Shape := ⟨4, ![1, 1, 128, 256]⟩
abbrev S128x256 : Shape := ⟨2, ![128, 256]⟩
abbrev S256 : Shape := ⟨1, ![256]⟩
abbrev S144x256 : Shape := ⟨2, ![144, 256]⟩
abbrev S1x144x256 : Shape := ⟨3, ![1, 144, 256]⟩
abbrev S1x128x256 : Shape := ⟨3, ![1, 128, 256]⟩

abbrev nBuf : Space → Nat
  | .hbm => 4
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S2048x16384, .bf16⟩
  | .hbm, ⟨2, _⟩ => ⟨S64x4096, .f32⟩
  | .hbm, ⟨3, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x4096, .bf16⟩
  | .local _ .vmem, ⟨5, _⟩ => ⟨S1024x4096, .bf16⟩
  | .local _ .vmem, ⟨6, _⟩ => ⟨S16x1024, .f32⟩
  | .local _ .vmem, ⟨7, _⟩ => ⟨S16x1024, .f32⟩
  | .local _ .vmem, ⟨8, _⟩ => ⟨S1024x1024, .bf16⟩
  | .local _ .vmem, ⟨9, _⟩ => ⟨S1024x1024, .bf16⟩
  | .local _ .vmem, ⟨10, _⟩ => ⟨S8x16x256, .f32⟩
  | .local _ .vmem, ⟨11, _⟩ => ⟨S2x8x256x256, .f32⟩
  | .local _ .vmem, ⟨12, _⟩ => ⟨S8x144x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

@[reducible] def k0_t1_loop : Scf.Loop 32 :=
  let c0_i32 : BitVec 32 := 0#32
  let c4_i32_0 : BitVec 32 := 4#32
  let v1 : BitVec 32 := Scalar.addi c0_i32 c4_i32_0
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  v2
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v6 : Index := Scalar.indexCast v3
  let c0 : Index := 0#32
  ![v6.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v16 : Index := Scalar.indexCast v3
  let c128 : Index := 128#32
  ![v16.toNat, 128]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v26 : Index := Scalar.indexCast v3
  let c256 : Index := 256#32
  ![v26.toNat, 256]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v36 : Index := Scalar.indexCast v3
  let c384 : Index := 384#32
  ![v36.toNat, 384]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v46 : Index := Scalar.indexCast v3
  let c512 : Index := 512#32
  ![v46.toNat, 512]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v56 : Index := Scalar.indexCast v3
  let c640 : Index := 640#32
  ![v56.toNat, 640]
def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v66 : Index := Scalar.indexCast v3
  let c768 : Index := 768#32
  ![v66.toNat, 768]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v76 : Index := Scalar.indexCast v3
  let c896 : Index := 896#32
  ![v76.toNat, 896]
def k0_mult2 : BitVec 32 :=
  let c0_i32_34 : BitVec 32 := 0#32
  c0_i32_34
@[reducible] def k0_t2_loop (i : grid0.Coords) (k0_t1 : Fin k0_t1_loop.trips) : Scf.Loop 32 :=
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_806 : BitVec 32 := 1#32
  ⟨c0_i32_804, v2248, c1_i32_806⟩
def k0_mult3 (i : grid0.Coords) (k0_t1 : Fin k0_t1_loop.trips) (k0_t2 : Fin (k0_t2_loop i k0_t1).trips) : BitVec 32 :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1100 : BitVec 32 := 1#32
  let v2835 : BitVec 32 := Scalar.addi v2834 c1_i32_1100
  let c256_i32_1101 : BitVec 32 := 256#32
  let v2836 : BitVec 32 := Scalar.muli v2835 c256_i32_1101
  v2836
def k0_off9 (i : grid0.Coords) (k0_t1 : Fin k0_t1_loop.trips) (k0_t2 : Fin (k0_t2_loop i k0_t1).trips) (c1_i32_1100 : BitVec 32) : Fin 2 → Nat :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2838 : Index := Scalar.indexCast v2837
  let c0_1102 : Index := 0#32
  ![v2838.toNat, 0]
def k0_off10 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2840 : Index := Scalar.indexCast v3
  let c0_1103 : Index := 0#32
  ![v2840.toNat, 0]
def k0_off11 (i : grid0.Coords) (k0_t1 : Fin k0_t1_loop.trips) (k0_t2 : Fin (k0_t2_loop i k0_t1).trips) (c1_i32_1100 : BitVec 32) : Fin 2 → Nat :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2846 : Index := Scalar.indexCast v2837
  let c128_1109 : Index := 128#32
  ![v2846.toNat, 128]
def k0_off12 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2848 : Index := Scalar.indexCast v3
  let c128_1110 : Index := 128#32
  ![v2848.toNat, 128]
def k0_off13 (i : grid0.Coords) (k0_t1 : Fin k0_t1_loop.trips) (k0_t2 : Fin (k0_t2_loop i k0_t1).trips) (c1_i32_1100 : BitVec 32) : Fin 2 → Nat :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2854 : Index := Scalar.indexCast v2837
  let c256_1116 : Index := 256#32
  ![v2854.toNat, 256]
def k0_off14 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2856 : Index := Scalar.indexCast v3
  let c256_1117 : Index := 256#32
  ![v2856.toNat, 256]
def k0_off15 (i : grid0.Coords) (k0_t1 : Fin k0_t1_loop.trips) (k0_t2 : Fin (k0_t2_loop i k0_t1).trips) (c1_i32_1100 : BitVec 32) : Fin 2 → Nat :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2862 : Index := Scalar.indexCast v2837
  let c384_1123 : Index := 384#32
  ![v2862.toNat, 384]
def k0_off16 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2864 : Index := Scalar.indexCast v3
  let c384_1124 : Index := 384#32
  ![v2864.toNat, 384]
def k0_off17 (i : grid0.Coords) (k0_t1 : Fin k0_t1_loop.trips) (k0_t2 : Fin (k0_t2_loop i k0_t1).trips) (c1_i32_1100 : BitVec 32) : Fin 2 → Nat :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2870 : Index := Scalar.indexCast v2837
  let c512_1130 : Index := 512#32
  ![v2870.toNat, 512]
def k0_off18 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2872 : Index := Scalar.indexCast v3
  let c512_1131 : Index := 512#32
  ![v2872.toNat, 512]
def k0_off19 (i : grid0.Coords) (k0_t1 : Fin k0_t1_loop.trips) (k0_t2 : Fin (k0_t2_loop i k0_t1).trips) (c1_i32_1100 : BitVec 32) : Fin 2 → Nat :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2878 : Index := Scalar.indexCast v2837
  let c640_1137 : Index := 640#32
  ![v2878.toNat, 640]
def k0_off20 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2880 : Index := Scalar.indexCast v3
  let c640_1138 : Index := 640#32
  ![v2880.toNat, 640]
def k0_off21 (i : grid0.Coords) (k0_t1 : Fin k0_t1_loop.trips) (k0_t2 : Fin (k0_t2_loop i k0_t1).trips) (c1_i32_1100 : BitVec 32) : Fin 2 → Nat :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2886 : Index := Scalar.indexCast v2837
  let c768_1144 : Index := 768#32
  ![v2886.toNat, 768]
def k0_off22 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2888 : Index := Scalar.indexCast v3
  let c768_1145 : Index := 768#32
  ![v2888.toNat, 768]
def k0_off23 (i : grid0.Coords) (k0_t1 : Fin k0_t1_loop.trips) (k0_t2 : Fin (k0_t2_loop i k0_t1).trips) (c1_i32_1100 : BitVec 32) : Fin 2 → Nat :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2894 : Index := Scalar.indexCast v2837
  let c896_1151 : Index := 896#32
  ![v2894.toNat, 896]
def k0_off24 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2896 : Index := Scalar.indexCast v3
  let c896_1152 : Index := 896#32
  ![v2896.toNat, 896]
def k0_mult4 (i : grid0.Coords) (k0_t1 : Fin k0_t1_loop.trips) (k0_t2 : Fin (k0_t2_loop i k0_t1).trips) : BitVec 32 :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c256_i32_1158 : BitVec 32 := 256#32
  let v2902 : BitVec 32 := Scalar.muli v2834 c256_i32_1158
  v2902
def k0_off25 (i : grid0.Coords) (k0_t1 : Fin k0_t1_loop.trips) (k0_t2 : Fin (k0_t2_loop i k0_t1).trips) : Fin 3 → Nat :=
  let c0_1159 : Index := 0#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2904 : Index := Scalar.indexCast v2834
  let c0_1160 : Index := 0#32
  ![0, v2904.toNat, 0]
def k0_off26 (i : grid0.Coords) (k0_t1 : Fin k0_t1_loop.trips) (k0_t2 : Fin (k0_t2_loop i k0_t1).trips) : Fin 3 → Nat :=
  let c1_1177 : Index := 1#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2930 : Index := Scalar.indexCast v2834
  let c0_1178 : Index := 0#32
  ![1, v2930.toNat, 0]
def k0_off27 (i : grid0.Coords) (k0_t1 : Fin k0_t1_loop.trips) (k0_t2 : Fin (k0_t2_loop i k0_t1).trips) : Fin 3 → Nat :=
  let c2_1195 : Index := 2#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2956 : Index := Scalar.indexCast v2834
  let c0_1196 : Index := 0#32
  ![2, v2956.toNat, 0]
def k0_off28 (i : grid0.Coords) (k0_t1 : Fin k0_t1_loop.trips) (k0_t2 : Fin (k0_t2_loop i k0_t1).trips) : Fin 3 → Nat :=
  let c3_1213 : Index := 3#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v2982 : Index := Scalar.indexCast v2834
  let c0_1214 : Index := 0#32
  ![3, v2982.toNat, 0]
def k0_off29 (i : grid0.Coords) (k0_t1 : Fin k0_t1_loop.trips) (k0_t2 : Fin (k0_t2_loop i k0_t1).trips) : Fin 3 → Nat :=
  let c4_1231 : Index := 4#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v3008 : Index := Scalar.indexCast v2834
  let c0_1232 : Index := 0#32
  ![4, v3008.toNat, 0]
def k0_off30 (i : grid0.Coords) (k0_t1 : Fin k0_t1_loop.trips) (k0_t2 : Fin (k0_t2_loop i k0_t1).trips) : Fin 3 → Nat :=
  let c5_1249 : Index := 5#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v3034 : Index := Scalar.indexCast v2834
  let c0_1250 : Index := 0#32
  ![5, v3034.toNat, 0]
def k0_off31 (i : grid0.Coords) (k0_t1 : Fin k0_t1_loop.trips) (k0_t2 : Fin (k0_t2_loop i k0_t1).trips) : Fin 3 → Nat :=
  let c6_1267 : Index := 6#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v3060 : Index := Scalar.indexCast v2834
  let c0_1268 : Index := 0#32
  ![6, v3060.toNat, 0]
def k0_off32 (i : grid0.Coords) (k0_t1 : Fin k0_t1_loop.trips) (k0_t2 : Fin (k0_t2_loop i k0_t1).trips) : Fin 3 → Nat :=
  let c7_1285 : Index := 7#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let v3086 : Index := Scalar.indexCast v2834
  let c0_1286 : Index := 0#32
  ![7, v3086.toNat, 0]
def k0_off33 (i : grid0.Coords) (k0_t1 : Fin k0_t1_loop.trips) (k0_t2 : Fin (k0_t2_loop i k0_t1).trips) : Fin 2 → Nat :=
  let c0_1303 : Index := 0#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c256_i32_1158 : BitVec 32 := 256#32
  let v2902 : BitVec 32 := Scalar.muli v2834 c256_i32_1158
  let v2903 : BitVec 32 := v2902
  let v3112 : Index := Scalar.indexCast v2903
  ![0, v3112.toNat]
def k0_off34 (i : grid0.Coords) (k0_t1 : Fin k0_t1_loop.trips) (k0_t2 : Fin (k0_t2_loop i k0_t1).trips) : Fin 2 → Nat :=
  let c128_1311 : Index := 128#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c256_i32_1158 : BitVec 32 := 256#32
  let v2902 : BitVec 32 := Scalar.muli v2834 c256_i32_1158
  let v2903 : BitVec 32 := v2902
  let v3124 : Index := Scalar.indexCast v2903
  ![128, v3124.toNat]
def k0_off35 (i : grid0.Coords) (k0_t1 : Fin k0_t1_loop.trips) (k0_t2 : Fin (k0_t2_loop i k0_t1).trips) : Fin 2 → Nat :=
  let c256_1319 : Index := 256#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c256_i32_1158 : BitVec 32 := 256#32
  let v2902 : BitVec 32 := Scalar.muli v2834 c256_i32_1158
  let v2903 : BitVec 32 := v2902
  let v3136 : Index := Scalar.indexCast v2903
  ![256, v3136.toNat]
def k0_off36 (i : grid0.Coords) (k0_t1 : Fin k0_t1_loop.trips) (k0_t2 : Fin (k0_t2_loop i k0_t1).trips) : Fin 2 → Nat :=
  let c384_1327 : Index := 384#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c256_i32_1158 : BitVec 32 := 256#32
  let v2902 : BitVec 32 := Scalar.muli v2834 c256_i32_1158
  let v2903 : BitVec 32 := v2902
  let v3148 : Index := Scalar.indexCast v2903
  ![384, v3148.toNat]
def k0_off37 (i : grid0.Coords) (k0_t1 : Fin k0_t1_loop.trips) (k0_t2 : Fin (k0_t2_loop i k0_t1).trips) : Fin 2 → Nat :=
  let c512_1335 : Index := 512#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c256_i32_1158 : BitVec 32 := 256#32
  let v2902 : BitVec 32 := Scalar.muli v2834 c256_i32_1158
  let v2903 : BitVec 32 := v2902
  let v3160 : Index := Scalar.indexCast v2903
  ![512, v3160.toNat]
def k0_off38 (i : grid0.Coords) (k0_t1 : Fin k0_t1_loop.trips) (k0_t2 : Fin (k0_t2_loop i k0_t1).trips) : Fin 2 → Nat :=
  let c640_1343 : Index := 640#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c256_i32_1158 : BitVec 32 := 256#32
  let v2902 : BitVec 32 := Scalar.muli v2834 c256_i32_1158
  let v2903 : BitVec 32 := v2902
  let v3172 : Index := Scalar.indexCast v2903
  ![640, v3172.toNat]
def k0_off39 (i : grid0.Coords) (k0_t1 : Fin k0_t1_loop.trips) (k0_t2 : Fin (k0_t2_loop i k0_t1).trips) : Fin 2 → Nat :=
  let c768_1351 : Index := 768#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c256_i32_1158 : BitVec 32 := 256#32
  let v2902 : BitVec 32 := Scalar.muli v2834 c256_i32_1158
  let v2903 : BitVec 32 := v2902
  let v3184 : Index := Scalar.indexCast v2903
  ![768, v3184.toNat]
def k0_off40 (i : grid0.Coords) (k0_t1 : Fin k0_t1_loop.trips) (k0_t2 : Fin (k0_t2_loop i k0_t1).trips) : Fin 2 → Nat :=
  let c896_1359 : Index := 896#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c256_i32_1158 : BitVec 32 := 256#32
  let v2902 : BitVec 32 := Scalar.muli v2834 c256_i32_1158
  let v2903 : BitVec 32 := v2902
  let v3196 : Index := Scalar.indexCast v2903
  ![896, v3196.toNat]
def k0_mult5 (i : grid0.Coords) (k0_t1 : Fin k0_t1_loop.trips) (k0_t2 : Fin (k0_t2_loop i k0_t1).trips) : BitVec 32 :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c2_i32_1367 : BitVec 32 := 2#32
  let v3208 : BitVec 32 := Scalar.addi v2834 c2_i32_1367
  let c256_i32_1368 : BitVec 32 := 256#32
  let v3209 : BitVec 32 := Scalar.muli v3208 c256_i32_1368
  v3209
def k0_mult6 (i : grid0.Coords) (k0_t1 : Fin k0_t1_loop.trips) (k0_t2 : Fin (k0_t2_loop i k0_t1).trips) : BitVec 32 :=
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  v3276
def k0_off41 (i : grid0.Coords) (k0_t1 : Fin k0_t1_loop.trips) (k0_t2 : Fin (k0_t2_loop i k0_t1).trips) : Fin 3 → Nat :=
  let c0_1427 : Index := 0#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let v3278 : Index := Scalar.indexCast v3275
  let c0_1428 : Index := 0#32
  ![0, v3278.toNat, 0]
def k0_off42 (i : grid0.Coords) (k0_t1 : Fin k0_t1_loop.trips) (k0_t2 : Fin (k0_t2_loop i k0_t1).trips) : Fin 3 → Nat :=
  let c1_1445 : Index := 1#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let v3304 : Index := Scalar.indexCast v3275
  let c0_1446 : Index := 0#32
  ![1, v3304.toNat, 0]
def k0_off43 (i : grid0.Coords) (k0_t1 : Fin k0_t1_loop.trips) (k0_t2 : Fin (k0_t2_loop i k0_t1).trips) : Fin 3 → Nat :=
  let c2_1463 : Index := 2#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let v3330 : Index := Scalar.indexCast v3275
  let c0_1464 : Index := 0#32
  ![2, v3330.toNat, 0]
def k0_off44 (i : grid0.Coords) (k0_t1 : Fin k0_t1_loop.trips) (k0_t2 : Fin (k0_t2_loop i k0_t1).trips) : Fin 3 → Nat :=
  let c3_1481 : Index := 3#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let v3356 : Index := Scalar.indexCast v3275
  let c0_1482 : Index := 0#32
  ![3, v3356.toNat, 0]
def k0_off45 (i : grid0.Coords) (k0_t1 : Fin k0_t1_loop.trips) (k0_t2 : Fin (k0_t2_loop i k0_t1).trips) : Fin 3 → Nat :=
  let c4_1499 : Index := 4#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let v3382 : Index := Scalar.indexCast v3275
  let c0_1500 : Index := 0#32
  ![4, v3382.toNat, 0]
def k0_off46 (i : grid0.Coords) (k0_t1 : Fin k0_t1_loop.trips) (k0_t2 : Fin (k0_t2_loop i k0_t1).trips) : Fin 3 → Nat :=
  let c5_1517 : Index := 5#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let v3408 : Index := Scalar.indexCast v3275
  let c0_1518 : Index := 0#32
  ![5, v3408.toNat, 0]
def k0_off47 (i : grid0.Coords) (k0_t1 : Fin k0_t1_loop.trips) (k0_t2 : Fin (k0_t2_loop i k0_t1).trips) : Fin 3 → Nat :=
  let c6_1535 : Index := 6#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let v3434 : Index := Scalar.indexCast v3275
  let c0_1536 : Index := 0#32
  ![6, v3434.toNat, 0]
def k0_off48 (i : grid0.Coords) (k0_t1 : Fin k0_t1_loop.trips) (k0_t2 : Fin (k0_t2_loop i k0_t1).trips) : Fin 3 → Nat :=
  let c7_1553 : Index := 7#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let v3460 : Index := Scalar.indexCast v3275
  let c0_1554 : Index := 0#32
  ![7, v3460.toNat, 0]
def k0_off49 (i : grid0.Coords) (k0_t1 : Fin k0_t1_loop.trips) (k0_t2 : Fin (k0_t2_loop i k0_t1).trips) : Fin 2 → Nat :=
  let c0_1571 : Index := 0#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3486 : Index := Scalar.indexCast v3277
  ![0, v3486.toNat]
def k0_off50 (i : grid0.Coords) (k0_t1 : Fin k0_t1_loop.trips) (k0_t2 : Fin (k0_t2_loop i k0_t1).trips) : Fin 2 → Nat :=
  let c128_1579 : Index := 128#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3498 : Index := Scalar.indexCast v3277
  ![128, v3498.toNat]
def k0_off51 (i : grid0.Coords) (k0_t1 : Fin k0_t1_loop.trips) (k0_t2 : Fin (k0_t2_loop i k0_t1).trips) : Fin 2 → Nat :=
  let c256_1587 : Index := 256#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3510 : Index := Scalar.indexCast v3277
  ![256, v3510.toNat]
def k0_off52 (i : grid0.Coords) (k0_t1 : Fin k0_t1_loop.trips) (k0_t2 : Fin (k0_t2_loop i k0_t1).trips) : Fin 2 → Nat :=
  let c384_1595 : Index := 384#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3522 : Index := Scalar.indexCast v3277
  ![384, v3522.toNat]
def k0_off53 (i : grid0.Coords) (k0_t1 : Fin k0_t1_loop.trips) (k0_t2 : Fin (k0_t2_loop i k0_t1).trips) : Fin 2 → Nat :=
  let c512_1603 : Index := 512#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3534 : Index := Scalar.indexCast v3277
  ![512, v3534.toNat]
def k0_off54 (i : grid0.Coords) (k0_t1 : Fin k0_t1_loop.trips) (k0_t2 : Fin (k0_t2_loop i k0_t1).trips) : Fin 2 → Nat :=
  let c640_1611 : Index := 640#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3546 : Index := Scalar.indexCast v3277
  ![640, v3546.toNat]
def k0_off55 (i : grid0.Coords) (k0_t1 : Fin k0_t1_loop.trips) (k0_t2 : Fin (k0_t2_loop i k0_t1).trips) : Fin 2 → Nat :=
  let c768_1619 : Index := 768#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3558 : Index := Scalar.indexCast v3277
  ![768, v3558.toNat]
def k0_off56 (i : grid0.Coords) (k0_t1 : Fin k0_t1_loop.trips) (k0_t2 : Fin (k0_t2_loop i k0_t1).trips) : Fin 2 → Nat :=
  let c896_1627 : Index := 896#32
  let c2_i32_1099 : BitVec 32 := 2#32
  let c0_i32_804 : BitVec 32 := 0#32
  let c1_i32_806 : BitVec 32 := 1#32
  let arg12 : BitVec 32 := Scf.iv c0_i32_804 c1_i32_806 k0_t2
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3570 : Index := Scalar.indexCast v3277
  ![896, v3570.toNat]
@[reducible] def k0_t3_loop (i : grid0.Coords) (k0_t1 : Fin k0_t1_loop.trips) : Scf.Loop 32 :=
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let v2245 : BitVec 32 := Scalar.addi c0_i32_804 v2244
  let c1_i32_807 : BitVec 32 := 1#32
  ⟨v2248, v2245, c1_i32_807⟩
def k0_mult7 (i : grid0.Coords) (k0_t1 : Fin k0_t1_loop.trips) (k0_t3 : Fin (k0_t3_loop i k0_t1).trips) : BitVec 32 :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1100 : BitVec 32 := 1#32
  let v2835 : BitVec 32 := Scalar.addi v2834 c1_i32_1100
  let c256_i32_1101 : BitVec 32 := 256#32
  let v2836 : BitVec 32 := Scalar.muli v2835 c256_i32_1101
  v2836
def k0_off57 (i : grid0.Coords) (k0_t1 : Fin k0_t1_loop.trips) (k0_t3 : Fin (k0_t3_loop i k0_t1).trips) (c1_i32_1100 : BitVec 32) : Fin 2 → Nat :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2838 : Index := Scalar.indexCast v2837
  let c0_1102 : Index := 0#32
  ![v2838.toNat, 0]
def k0_off58 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2840 : Index := Scalar.indexCast v3
  let c0_1103 : Index := 0#32
  ![v2840.toNat, 0]
def k0_off59 (i : grid0.Coords) (k0_t1 : Fin k0_t1_loop.trips) (k0_t3 : Fin (k0_t3_loop i k0_t1).trips) (c1_i32_1100 : BitVec 32) : Fin 2 → Nat :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2846 : Index := Scalar.indexCast v2837
  let c128_1109 : Index := 128#32
  ![v2846.toNat, 128]
def k0_off60 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2848 : Index := Scalar.indexCast v3
  let c128_1110 : Index := 128#32
  ![v2848.toNat, 128]
def k0_off61 (i : grid0.Coords) (k0_t1 : Fin k0_t1_loop.trips) (k0_t3 : Fin (k0_t3_loop i k0_t1).trips) (c1_i32_1100 : BitVec 32) : Fin 2 → Nat :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2854 : Index := Scalar.indexCast v2837
  let c256_1116 : Index := 256#32
  ![v2854.toNat, 256]
def k0_off62 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2856 : Index := Scalar.indexCast v3
  let c256_1117 : Index := 256#32
  ![v2856.toNat, 256]
def k0_off63 (i : grid0.Coords) (k0_t1 : Fin k0_t1_loop.trips) (k0_t3 : Fin (k0_t3_loop i k0_t1).trips) (c1_i32_1100 : BitVec 32) : Fin 2 → Nat :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2862 : Index := Scalar.indexCast v2837
  let c384_1123 : Index := 384#32
  ![v2862.toNat, 384]
def k0_off64 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2864 : Index := Scalar.indexCast v3
  let c384_1124 : Index := 384#32
  ![v2864.toNat, 384]
def k0_off65 (i : grid0.Coords) (k0_t1 : Fin k0_t1_loop.trips) (k0_t3 : Fin (k0_t3_loop i k0_t1).trips) (c1_i32_1100 : BitVec 32) : Fin 2 → Nat :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2870 : Index := Scalar.indexCast v2837
  let c512_1130 : Index := 512#32
  ![v2870.toNat, 512]
def k0_off66 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2872 : Index := Scalar.indexCast v3
  let c512_1131 : Index := 512#32
  ![v2872.toNat, 512]
def k0_off67 (i : grid0.Coords) (k0_t1 : Fin k0_t1_loop.trips) (k0_t3 : Fin (k0_t3_loop i k0_t1).trips) (c1_i32_1100 : BitVec 32) : Fin 2 → Nat :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2878 : Index := Scalar.indexCast v2837
  let c640_1137 : Index := 640#32
  ![v2878.toNat, 640]
def k0_off68 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2880 : Index := Scalar.indexCast v3
  let c640_1138 : Index := 640#32
  ![v2880.toNat, 640]
def k0_off69 (i : grid0.Coords) (k0_t1 : Fin k0_t1_loop.trips) (k0_t3 : Fin (k0_t3_loop i k0_t1).trips) (c1_i32_1100 : BitVec 32) : Fin 2 → Nat :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2886 : Index := Scalar.indexCast v2837
  let c768_1144 : Index := 768#32
  ![v2886.toNat, 768]
def k0_off70 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2888 : Index := Scalar.indexCast v3
  let c768_1145 : Index := 768#32
  ![v2888.toNat, 768]
def k0_off71 (i : grid0.Coords) (k0_t1 : Fin k0_t1_loop.trips) (k0_t3 : Fin (k0_t3_loop i k0_t1).trips) (c1_i32_1100 : BitVec 32) : Fin 2 → Nat :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2835 : BitVec 32 := Scalar.addi v2834 c1_i32_1100
  let c256_i32_1101 : BitVec 32 := 256#32
  let v2836 : BitVec 32 := Scalar.muli v2835 c256_i32_1101
  let v2837 : BitVec 32 := v2836
  let v2894 : Index := Scalar.indexCast v2837
  let c896_1151 : Index := 896#32
  ![v2894.toNat, 896]
def k0_off72 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2896 : Index := Scalar.indexCast v3
  let c896_1152 : Index := 896#32
  ![v2896.toNat, 896]
def k0_mult8 (i : grid0.Coords) (k0_t1 : Fin k0_t1_loop.trips) (k0_t3 : Fin (k0_t3_loop i k0_t1).trips) : BitVec 32 :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c256_i32_1158 : BitVec 32 := 256#32
  let v2902 : BitVec 32 := Scalar.muli v2834 c256_i32_1158
  v2902
def k0_off73 (i : grid0.Coords) (k0_t1 : Fin k0_t1_loop.trips) (k0_t3 : Fin (k0_t3_loop i k0_t1).trips) : Fin 3 → Nat :=
  let c0_1159 : Index := 0#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2904 : Index := Scalar.indexCast v2834
  let c0_1160 : Index := 0#32
  ![0, v2904.toNat, 0]
def k0_off74 (i : grid0.Coords) (k0_t1 : Fin k0_t1_loop.trips) (k0_t3 : Fin (k0_t3_loop i k0_t1).trips) : Fin 3 → Nat :=
  let c1_1177 : Index := 1#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2930 : Index := Scalar.indexCast v2834
  let c0_1178 : Index := 0#32
  ![1, v2930.toNat, 0]
def k0_off75 (i : grid0.Coords) (k0_t1 : Fin k0_t1_loop.trips) (k0_t3 : Fin (k0_t3_loop i k0_t1).trips) : Fin 3 → Nat :=
  let c2_1195 : Index := 2#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2956 : Index := Scalar.indexCast v2834
  let c0_1196 : Index := 0#32
  ![2, v2956.toNat, 0]
def k0_off76 (i : grid0.Coords) (k0_t1 : Fin k0_t1_loop.trips) (k0_t3 : Fin (k0_t3_loop i k0_t1).trips) : Fin 3 → Nat :=
  let c3_1213 : Index := 3#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v2982 : Index := Scalar.indexCast v2834
  let c0_1214 : Index := 0#32
  ![3, v2982.toNat, 0]
def k0_off77 (i : grid0.Coords) (k0_t1 : Fin k0_t1_loop.trips) (k0_t3 : Fin (k0_t3_loop i k0_t1).trips) : Fin 3 → Nat :=
  let c4_1231 : Index := 4#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v3008 : Index := Scalar.indexCast v2834
  let c0_1232 : Index := 0#32
  ![4, v3008.toNat, 0]
def k0_off78 (i : grid0.Coords) (k0_t1 : Fin k0_t1_loop.trips) (k0_t3 : Fin (k0_t3_loop i k0_t1).trips) : Fin 3 → Nat :=
  let c5_1249 : Index := 5#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v3034 : Index := Scalar.indexCast v2834
  let c0_1250 : Index := 0#32
  ![5, v3034.toNat, 0]
def k0_off79 (i : grid0.Coords) (k0_t1 : Fin k0_t1_loop.trips) (k0_t3 : Fin (k0_t3_loop i k0_t1).trips) : Fin 3 → Nat :=
  let c6_1267 : Index := 6#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v3060 : Index := Scalar.indexCast v2834
  let c0_1268 : Index := 0#32
  ![6, v3060.toNat, 0]
def k0_off80 (i : grid0.Coords) (k0_t1 : Fin k0_t1_loop.trips) (k0_t3 : Fin (k0_t3_loop i k0_t1).trips) : Fin 3 → Nat :=
  let c7_1285 : Index := 7#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let v3086 : Index := Scalar.indexCast v2834
  let c0_1286 : Index := 0#32
  ![7, v3086.toNat, 0]
def k0_off81 (i : grid0.Coords) (k0_t1 : Fin k0_t1_loop.trips) (k0_t3 : Fin (k0_t3_loop i k0_t1).trips) : Fin 2 → Nat :=
  let c0_1303 : Index := 0#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c256_i32_1158 : BitVec 32 := 256#32
  let v2902 : BitVec 32 := Scalar.muli v2834 c256_i32_1158
  let v2903 : BitVec 32 := v2902
  let v3112 : Index := Scalar.indexCast v2903
  ![0, v3112.toNat]
def k0_off82 (i : grid0.Coords) (k0_t1 : Fin k0_t1_loop.trips) (k0_t3 : Fin (k0_t3_loop i k0_t1).trips) : Fin 2 → Nat :=
  let c128_1311 : Index := 128#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c256_i32_1158 : BitVec 32 := 256#32
  let v2902 : BitVec 32 := Scalar.muli v2834 c256_i32_1158
  let v2903 : BitVec 32 := v2902
  let v3124 : Index := Scalar.indexCast v2903
  ![128, v3124.toNat]
def k0_off83 (i : grid0.Coords) (k0_t1 : Fin k0_t1_loop.trips) (k0_t3 : Fin (k0_t3_loop i k0_t1).trips) : Fin 2 → Nat :=
  let c256_1319 : Index := 256#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c256_i32_1158 : BitVec 32 := 256#32
  let v2902 : BitVec 32 := Scalar.muli v2834 c256_i32_1158
  let v2903 : BitVec 32 := v2902
  let v3136 : Index := Scalar.indexCast v2903
  ![256, v3136.toNat]
def k0_off84 (i : grid0.Coords) (k0_t1 : Fin k0_t1_loop.trips) (k0_t3 : Fin (k0_t3_loop i k0_t1).trips) : Fin 2 → Nat :=
  let c384_1327 : Index := 384#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c256_i32_1158 : BitVec 32 := 256#32
  let v2902 : BitVec 32 := Scalar.muli v2834 c256_i32_1158
  let v2903 : BitVec 32 := v2902
  let v3148 : Index := Scalar.indexCast v2903
  ![384, v3148.toNat]
def k0_off85 (i : grid0.Coords) (k0_t1 : Fin k0_t1_loop.trips) (k0_t3 : Fin (k0_t3_loop i k0_t1).trips) : Fin 2 → Nat :=
  let c512_1335 : Index := 512#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c256_i32_1158 : BitVec 32 := 256#32
  let v2902 : BitVec 32 := Scalar.muli v2834 c256_i32_1158
  let v2903 : BitVec 32 := v2902
  let v3160 : Index := Scalar.indexCast v2903
  ![512, v3160.toNat]
def k0_off86 (i : grid0.Coords) (k0_t1 : Fin k0_t1_loop.trips) (k0_t3 : Fin (k0_t3_loop i k0_t1).trips) : Fin 2 → Nat :=
  let c640_1343 : Index := 640#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c256_i32_1158 : BitVec 32 := 256#32
  let v2902 : BitVec 32 := Scalar.muli v2834 c256_i32_1158
  let v2903 : BitVec 32 := v2902
  let v3172 : Index := Scalar.indexCast v2903
  ![640, v3172.toNat]
def k0_off87 (i : grid0.Coords) (k0_t1 : Fin k0_t1_loop.trips) (k0_t3 : Fin (k0_t3_loop i k0_t1).trips) : Fin 2 → Nat :=
  let c768_1351 : Index := 768#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c256_i32_1158 : BitVec 32 := 256#32
  let v2902 : BitVec 32 := Scalar.muli v2834 c256_i32_1158
  let v2903 : BitVec 32 := v2902
  let v3184 : Index := Scalar.indexCast v2903
  ![768, v3184.toNat]
def k0_off88 (i : grid0.Coords) (k0_t1 : Fin k0_t1_loop.trips) (k0_t3 : Fin (k0_t3_loop i k0_t1).trips) : Fin 2 → Nat :=
  let c896_1359 : Index := 896#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c256_i32_1158 : BitVec 32 := 256#32
  let v2902 : BitVec 32 := Scalar.muli v2834 c256_i32_1158
  let v2903 : BitVec 32 := v2902
  let v3196 : Index := Scalar.indexCast v2903
  ![896, v3196.toNat]
def k0_mult9 (i : grid0.Coords) (k0_t1 : Fin k0_t1_loop.trips) (k0_t3 : Fin (k0_t3_loop i k0_t1).trips) : BitVec 32 :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c2_i32_1367 : BitVec 32 := 2#32
  let v3208 : BitVec 32 := Scalar.addi v2834 c2_i32_1367
  let c256_i32_1368 : BitVec 32 := 256#32
  let v3209 : BitVec 32 := Scalar.muli v3208 c256_i32_1368
  v3209
def k0_mult10 (i : grid0.Coords) (k0_t1 : Fin k0_t1_loop.trips) (k0_t3 : Fin (k0_t3_loop i k0_t1).trips) : BitVec 32 :=
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  v3276
def k0_off89 (i : grid0.Coords) (k0_t1 : Fin k0_t1_loop.trips) (k0_t3 : Fin (k0_t3_loop i k0_t1).trips) : Fin 3 → Nat :=
  let c0_1427 : Index := 0#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let v3278 : Index := Scalar.indexCast v3275
  let c0_1428 : Index := 0#32
  ![0, v3278.toNat, 0]
def k0_off90 (i : grid0.Coords) (k0_t1 : Fin k0_t1_loop.trips) (k0_t3 : Fin (k0_t3_loop i k0_t1).trips) : Fin 3 → Nat :=
  let c1_1445 : Index := 1#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let v3304 : Index := Scalar.indexCast v3275
  let c0_1446 : Index := 0#32
  ![1, v3304.toNat, 0]
def k0_off91 (i : grid0.Coords) (k0_t1 : Fin k0_t1_loop.trips) (k0_t3 : Fin (k0_t3_loop i k0_t1).trips) : Fin 3 → Nat :=
  let c2_1463 : Index := 2#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let v3330 : Index := Scalar.indexCast v3275
  let c0_1464 : Index := 0#32
  ![2, v3330.toNat, 0]
def k0_off92 (i : grid0.Coords) (k0_t1 : Fin k0_t1_loop.trips) (k0_t3 : Fin (k0_t3_loop i k0_t1).trips) : Fin 3 → Nat :=
  let c3_1481 : Index := 3#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let v3356 : Index := Scalar.indexCast v3275
  let c0_1482 : Index := 0#32
  ![3, v3356.toNat, 0]
def k0_off93 (i : grid0.Coords) (k0_t1 : Fin k0_t1_loop.trips) (k0_t3 : Fin (k0_t3_loop i k0_t1).trips) : Fin 3 → Nat :=
  let c4_1499 : Index := 4#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let v3382 : Index := Scalar.indexCast v3275
  let c0_1500 : Index := 0#32
  ![4, v3382.toNat, 0]
def k0_off94 (i : grid0.Coords) (k0_t1 : Fin k0_t1_loop.trips) (k0_t3 : Fin (k0_t3_loop i k0_t1).trips) : Fin 3 → Nat :=
  let c5_1517 : Index := 5#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let v3408 : Index := Scalar.indexCast v3275
  let c0_1518 : Index := 0#32
  ![5, v3408.toNat, 0]
def k0_off95 (i : grid0.Coords) (k0_t1 : Fin k0_t1_loop.trips) (k0_t3 : Fin (k0_t3_loop i k0_t1).trips) : Fin 3 → Nat :=
  let c6_1535 : Index := 6#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let v3434 : Index := Scalar.indexCast v3275
  let c0_1536 : Index := 0#32
  ![6, v3434.toNat, 0]
def k0_off96 (i : grid0.Coords) (k0_t1 : Fin k0_t1_loop.trips) (k0_t3 : Fin (k0_t3_loop i k0_t1).trips) : Fin 3 → Nat :=
  let c7_1553 : Index := 7#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let v3460 : Index := Scalar.indexCast v3275
  let c0_1554 : Index := 0#32
  ![7, v3460.toNat, 0]
def k0_off97 (i : grid0.Coords) (k0_t1 : Fin k0_t1_loop.trips) (k0_t3 : Fin (k0_t3_loop i k0_t1).trips) : Fin 2 → Nat :=
  let c0_1571 : Index := 0#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3486 : Index := Scalar.indexCast v3277
  ![0, v3486.toNat]
def k0_off98 (i : grid0.Coords) (k0_t1 : Fin k0_t1_loop.trips) (k0_t3 : Fin (k0_t3_loop i k0_t1).trips) : Fin 2 → Nat :=
  let c128_1579 : Index := 128#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3498 : Index := Scalar.indexCast v3277
  ![128, v3498.toNat]
def k0_off99 (i : grid0.Coords) (k0_t1 : Fin k0_t1_loop.trips) (k0_t3 : Fin (k0_t3_loop i k0_t1).trips) : Fin 2 → Nat :=
  let c256_1587 : Index := 256#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3510 : Index := Scalar.indexCast v3277
  ![256, v3510.toNat]
def k0_off100 (i : grid0.Coords) (k0_t1 : Fin k0_t1_loop.trips) (k0_t3 : Fin (k0_t3_loop i k0_t1).trips) : Fin 2 → Nat :=
  let c384_1595 : Index := 384#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3522 : Index := Scalar.indexCast v3277
  ![384, v3522.toNat]
def k0_off101 (i : grid0.Coords) (k0_t1 : Fin k0_t1_loop.trips) (k0_t3 : Fin (k0_t3_loop i k0_t1).trips) : Fin 2 → Nat :=
  let c512_1603 : Index := 512#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3534 : Index := Scalar.indexCast v3277
  ![512, v3534.toNat]
def k0_off102 (i : grid0.Coords) (k0_t1 : Fin k0_t1_loop.trips) (k0_t3 : Fin (k0_t3_loop i k0_t1).trips) : Fin 2 → Nat :=
  let c640_1611 : Index := 640#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3546 : Index := Scalar.indexCast v3277
  ![640, v3546.toNat]
def k0_off103 (i : grid0.Coords) (k0_t1 : Fin k0_t1_loop.trips) (k0_t3 : Fin (k0_t3_loop i k0_t1).trips) : Fin 2 → Nat :=
  let c768_1619 : Index := 768#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3558 : Index := Scalar.indexCast v3277
  ![768, v3558.toNat]
def k0_off104 (i : grid0.Coords) (k0_t1 : Fin k0_t1_loop.trips) (k0_t3 : Fin (k0_t3_loop i k0_t1).trips) : Fin 2 → Nat :=
  let c896_1627 : Index := 896#32
  let c2_i32_1099 : BitVec 32 := 2#32
  let c0_i32_804 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_803 : BitVec 32 := 1#32
  let v2243 : BitVec 32 := Scalar.shrui v4 c1_i32_803
  let v2244 : BitVec 32 := Scalar.subi v2243 c0_i32_804
  let c1_i32_805 : BitVec 32 := 1#32
  let v2246 : BitVec 32 := Scalar.divsi v2244 c1_i32_805
  let v2247 : BitVec 32 := Scalar.muli v2246 c1_i32_805
  let v2248 : BitVec 32 := Scalar.addi c0_i32_804 v2247
  let c1_i32_807 : BitVec 32 := 1#32
  let arg12 : BitVec 32 := Scf.iv v2248 c1_i32_807 k0_t3
  let v2834 : BitVec 32 := Scalar.muli c2_i32_1099 arg12
  let c1_i32_1425 : BitVec 32 := 1#32
  let v3275 : BitVec 32 := Scalar.addi v2834 c1_i32_1425
  let c256_i32_1426 : BitVec 32 := 256#32
  let v3276 : BitVec 32 := Scalar.muli v3275 c256_i32_1426
  let v3277 : BitVec 32 := v3276
  let v3570 : Index := Scalar.indexCast v3277
  ![896, v3570.toNat]
def k0_cond1 (i : grid0.Coords) (k0_t1 : Fin k0_t1_loop.trips) : BitVec 1 :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let c1_i32_809 : BitVec 32 := 1#32
  let v2252 : BitVec 1 := Scalar.cmpi .eq v2251 c1_i32_809
  let v2253 : BitVec 32 := Scalar.extui v2252
  let c0_i32_810 : BitVec 32 := 0#32
  let v2254 : BitVec 1 := Scalar.cmpi .ne v2253 c0_i32_810
  v2254

def k0_mult11 (i : grid0.Coords) (k0_t1 : Fin k0_t1_loop.trips) : BitVec 32 :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_1099 : BitVec 32 := 256#32
  let v2834 : BitVec 32 := Scalar.muli v4 c256_i32_1099
  v2834
def k0_off105 (i : grid0.Coords) (k0_t1 : Fin k0_t1_loop.trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_1099 : BitVec 32 := 256#32
  let v2834 : BitVec 32 := Scalar.muli v4 c256_i32_1099
  let v2835 : BitVec 32 := v2834
  let v2836 : Index := Scalar.indexCast v2835
  let c0_1100 : Index := 0#32
  ![v2836.toNat, 0]
def k0_off106 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2838 : Index := Scalar.indexCast v3
  let c0_1101 : Index := 0#32
  ![v2838.toNat, 0]
def k0_off107 (i : grid0.Coords) (k0_t1 : Fin k0_t1_loop.trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_1099 : BitVec 32 := 256#32
  let v2834 : BitVec 32 := Scalar.muli v4 c256_i32_1099
  let v2835 : BitVec 32 := v2834
  let v2844 : Index := Scalar.indexCast v2835
  let c128_1107 : Index := 128#32
  ![v2844.toNat, 128]
def k0_off108 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2846 : Index := Scalar.indexCast v3
  let c128_1108 : Index := 128#32
  ![v2846.toNat, 128]
def k0_off109 (i : grid0.Coords) (k0_t1 : Fin k0_t1_loop.trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_1099 : BitVec 32 := 256#32
  let v2834 : BitVec 32 := Scalar.muli v4 c256_i32_1099
  let v2835 : BitVec 32 := v2834
  let v2852 : Index := Scalar.indexCast v2835
  let c256_1114 : Index := 256#32
  ![v2852.toNat, 256]
def k0_off110 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2854 : Index := Scalar.indexCast v3
  let c256_1115 : Index := 256#32
  ![v2854.toNat, 256]
def k0_off111 (i : grid0.Coords) (k0_t1 : Fin k0_t1_loop.trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_1099 : BitVec 32 := 256#32
  let v2834 : BitVec 32 := Scalar.muli v4 c256_i32_1099
  let v2835 : BitVec 32 := v2834
  let v2860 : Index := Scalar.indexCast v2835
  let c384_1121 : Index := 384#32
  ![v2860.toNat, 384]
def k0_off112 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2862 : Index := Scalar.indexCast v3
  let c384_1122 : Index := 384#32
  ![v2862.toNat, 384]
def k0_off113 (i : grid0.Coords) (k0_t1 : Fin k0_t1_loop.trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_1099 : BitVec 32 := 256#32
  let v2834 : BitVec 32 := Scalar.muli v4 c256_i32_1099
  let v2835 : BitVec 32 := v2834
  let v2868 : Index := Scalar.indexCast v2835
  let c512_1128 : Index := 512#32
  ![v2868.toNat, 512]
def k0_off114 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2870 : Index := Scalar.indexCast v3
  let c512_1129 : Index := 512#32
  ![v2870.toNat, 512]
def k0_off115 (i : grid0.Coords) (k0_t1 : Fin k0_t1_loop.trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_1099 : BitVec 32 := 256#32
  let v2834 : BitVec 32 := Scalar.muli v4 c256_i32_1099
  let v2835 : BitVec 32 := v2834
  let v2876 : Index := Scalar.indexCast v2835
  let c640_1135 : Index := 640#32
  ![v2876.toNat, 640]
def k0_off116 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2878 : Index := Scalar.indexCast v3
  let c640_1136 : Index := 640#32
  ![v2878.toNat, 640]
def k0_off117 (i : grid0.Coords) (k0_t1 : Fin k0_t1_loop.trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_1099 : BitVec 32 := 256#32
  let v2834 : BitVec 32 := Scalar.muli v4 c256_i32_1099
  let v2835 : BitVec 32 := v2834
  let v2884 : Index := Scalar.indexCast v2835
  let c768_1142 : Index := 768#32
  ![v2884.toNat, 768]
def k0_off118 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2886 : Index := Scalar.indexCast v3
  let c768_1143 : Index := 768#32
  ![v2886.toNat, 768]
def k0_off119 (i : grid0.Coords) (k0_t1 : Fin k0_t1_loop.trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_1099 : BitVec 32 := 256#32
  let v2834 : BitVec 32 := Scalar.muli v4 c256_i32_1099
  let v2835 : BitVec 32 := v2834
  let v2892 : Index := Scalar.indexCast v2835
  let c896_1149 : Index := 896#32
  ![v2892.toNat, 896]
def k0_off120 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v2 : BitVec 32 := Scalar.muli arg11 c256_i32
  let v3 : BitVec 32 := v2
  let v2894 : Index := Scalar.indexCast v3
  let c896_1150 : Index := 896#32
  ![v2894.toNat, 896]
def k0_mult12 (i : grid0.Coords) (k0_t1 : Fin k0_t1_loop.trips) : BitVec 32 :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let c256_i32_1157 : BitVec 32 := 256#32
  let v2901 : BitVec 32 := Scalar.muli v2900 c256_i32_1157
  v2901
def k0_off121 (i : grid0.Coords) (k0_t1 : Fin k0_t1_loop.trips) : Fin 3 → Nat :=
  let c0_1158 : Index := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let v2903 : Index := Scalar.indexCast v2900
  let c0_1159 : Index := 0#32
  ![0, v2903.toNat, 0]
def k0_off122 (i : grid0.Coords) (k0_t1 : Fin k0_t1_loop.trips) : Fin 3 → Nat :=
  let c1_1176 : Index := 1#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let v2929 : Index := Scalar.indexCast v2900
  let c0_1177 : Index := 0#32
  ![1, v2929.toNat, 0]
def k0_off123 (i : grid0.Coords) (k0_t1 : Fin k0_t1_loop.trips) : Fin 3 → Nat :=
  let c2_1194 : Index := 2#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let v2955 : Index := Scalar.indexCast v2900
  let c0_1195 : Index := 0#32
  ![2, v2955.toNat, 0]
def k0_off124 (i : grid0.Coords) (k0_t1 : Fin k0_t1_loop.trips) : Fin 3 → Nat :=
  let c3_1212 : Index := 3#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let v2981 : Index := Scalar.indexCast v2900
  let c0_1213 : Index := 0#32
  ![3, v2981.toNat, 0]
def k0_off125 (i : grid0.Coords) (k0_t1 : Fin k0_t1_loop.trips) : Fin 3 → Nat :=
  let c4_1230 : Index := 4#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let v3007 : Index := Scalar.indexCast v2900
  let c0_1231 : Index := 0#32
  ![4, v3007.toNat, 0]
def k0_off126 (i : grid0.Coords) (k0_t1 : Fin k0_t1_loop.trips) : Fin 3 → Nat :=
  let c5_1248 : Index := 5#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let v3033 : Index := Scalar.indexCast v2900
  let c0_1249 : Index := 0#32
  ![5, v3033.toNat, 0]
def k0_off127 (i : grid0.Coords) (k0_t1 : Fin k0_t1_loop.trips) : Fin 3 → Nat :=
  let c6_1266 : Index := 6#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let v3059 : Index := Scalar.indexCast v2900
  let c0_1267 : Index := 0#32
  ![6, v3059.toNat, 0]
def k0_off128 (i : grid0.Coords) (k0_t1 : Fin k0_t1_loop.trips) : Fin 3 → Nat :=
  let c7_1284 : Index := 7#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let v3085 : Index := Scalar.indexCast v2900
  let c0_1285 : Index := 0#32
  ![7, v3085.toNat, 0]
def k0_off129 (i : grid0.Coords) (k0_t1 : Fin k0_t1_loop.trips) : Fin 2 → Nat :=
  let c0_1302 : Index := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let c256_i32_1157 : BitVec 32 := 256#32
  let v2901 : BitVec 32 := Scalar.muli v2900 c256_i32_1157
  let v2902 : BitVec 32 := v2901
  let v3111 : Index := Scalar.indexCast v2902
  ![0, v3111.toNat]
def k0_off130 (i : grid0.Coords) (k0_t1 : Fin k0_t1_loop.trips) : Fin 2 → Nat :=
  let c128_1310 : Index := 128#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let c256_i32_1157 : BitVec 32 := 256#32
  let v2901 : BitVec 32 := Scalar.muli v2900 c256_i32_1157
  let v2902 : BitVec 32 := v2901
  let v3123 : Index := Scalar.indexCast v2902
  ![128, v3123.toNat]
def k0_off131 (i : grid0.Coords) (k0_t1 : Fin k0_t1_loop.trips) : Fin 2 → Nat :=
  let c256_1318 : Index := 256#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let c256_i32_1157 : BitVec 32 := 256#32
  let v2901 : BitVec 32 := Scalar.muli v2900 c256_i32_1157
  let v2902 : BitVec 32 := v2901
  let v3135 : Index := Scalar.indexCast v2902
  ![256, v3135.toNat]
def k0_off132 (i : grid0.Coords) (k0_t1 : Fin k0_t1_loop.trips) : Fin 2 → Nat :=
  let c384_1326 : Index := 384#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let c256_i32_1157 : BitVec 32 := 256#32
  let v2901 : BitVec 32 := Scalar.muli v2900 c256_i32_1157
  let v2902 : BitVec 32 := v2901
  let v3147 : Index := Scalar.indexCast v2902
  ![384, v3147.toNat]
def k0_off133 (i : grid0.Coords) (k0_t1 : Fin k0_t1_loop.trips) : Fin 2 → Nat :=
  let c512_1334 : Index := 512#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let c256_i32_1157 : BitVec 32 := 256#32
  let v2901 : BitVec 32 := Scalar.muli v2900 c256_i32_1157
  let v2902 : BitVec 32 := v2901
  let v3159 : Index := Scalar.indexCast v2902
  ![512, v3159.toNat]
def k0_off134 (i : grid0.Coords) (k0_t1 : Fin k0_t1_loop.trips) : Fin 2 → Nat :=
  let c640_1342 : Index := 640#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let c256_i32_1157 : BitVec 32 := 256#32
  let v2901 : BitVec 32 := Scalar.muli v2900 c256_i32_1157
  let v2902 : BitVec 32 := v2901
  let v3171 : Index := Scalar.indexCast v2902
  ![640, v3171.toNat]
def k0_off135 (i : grid0.Coords) (k0_t1 : Fin k0_t1_loop.trips) : Fin 2 → Nat :=
  let c768_1350 : Index := 768#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let c256_i32_1157 : BitVec 32 := 256#32
  let v2901 : BitVec 32 := Scalar.muli v2900 c256_i32_1157
  let v2902 : BitVec 32 := v2901
  let v3183 : Index := Scalar.indexCast v2902
  ![768, v3183.toNat]
def k0_off136 (i : grid0.Coords) (k0_t1 : Fin k0_t1_loop.trips) : Fin 2 → Nat :=
  let c896_1358 : Index := 896#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_1156 : BitVec 32 := 1#32
  let v2900 : BitVec 32 := Scalar.subi v4 c1_i32_1156
  let c256_i32_1157 : BitVec 32 := 256#32
  let v2901 : BitVec 32 := Scalar.muli v2900 c256_i32_1157
  let v2902 : BitVec 32 := v2901
  let v3195 : Index := Scalar.indexCast v2902
  ![896, v3195.toNat]
def k0_mult13 (i : grid0.Coords) (k0_t1 : Fin k0_t1_loop.trips) : BitVec 32 :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_811 : BitVec 32 := 256#32
  let v2256 : BitVec 32 := Scalar.muli v4 c256_i32_811
  v2256
def k0_off137 (i : grid0.Coords) (k0_t1 : Fin k0_t1_loop.trips) : Fin 3 → Nat :=
  let c0_812 : Index := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let v2258 : Index := Scalar.indexCast v4
  let c0_813 : Index := 0#32
  ![0, v2258.toNat, 0]
def k0_off138 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2263 : Index := Scalar.indexCast v2251
  let c0_815 : Index := 0#32
  let c0_816 : Index := 0#32
  let c0_817 : Index := 0#32
  ![v2263.toNat, 0, 0, 0]
def k0_off139 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2273 : Index := Scalar.indexCast v2251
  let c0_820 : Index := 0#32
  let c128_821 : Index := 128#32
  let c0_822 : Index := 0#32
  ![v2273.toNat, 0, 128, 0]
def k0_off140 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2292 : Index := Scalar.indexCast v2251
  let c0_826 : Index := 0#32
  let c0_827 : Index := 0#32
  let c0_828 : Index := 0#32
  ![v2292.toNat, 0, 0, 0]
def k0_off141 (i : grid0.Coords) (k0_t1 : Fin k0_t1_loop.trips) : Fin 3 → Nat :=
  let c1_832 : Index := 1#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let v2308 : Index := Scalar.indexCast v4
  let c0_833 : Index := 0#32
  ![1, v2308.toNat, 0]
def k0_off142 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2313 : Index := Scalar.indexCast v2251
  let c1_835 : Index := 1#32
  let c0_836 : Index := 0#32
  let c0_837 : Index := 0#32
  ![v2313.toNat, 1, 0, 0]
def k0_off143 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2323 : Index := Scalar.indexCast v2251
  let c1_840 : Index := 1#32
  let c128_841 : Index := 128#32
  let c0_842 : Index := 0#32
  ![v2323.toNat, 1, 128, 0]
def k0_off144 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2342 : Index := Scalar.indexCast v2251
  let c1_847 : Index := 1#32
  let c0_848 : Index := 0#32
  let c0_849 : Index := 0#32
  ![v2342.toNat, 1, 0, 0]
def k0_off145 (i : grid0.Coords) (k0_t1 : Fin k0_t1_loop.trips) : Fin 3 → Nat :=
  let c2_853 : Index := 2#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let v2358 : Index := Scalar.indexCast v4
  let c0_854 : Index := 0#32
  ![2, v2358.toNat, 0]
def k0_off146 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2363 : Index := Scalar.indexCast v2251
  let c2_856 : Index := 2#32
  let c0_857 : Index := 0#32
  let c0_858 : Index := 0#32
  ![v2363.toNat, 2, 0, 0]
def k0_off147 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2373 : Index := Scalar.indexCast v2251
  let c2_861 : Index := 2#32
  let c128_862 : Index := 128#32
  let c0_863 : Index := 0#32
  ![v2373.toNat, 2, 128, 0]
def k0_off148 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2392 : Index := Scalar.indexCast v2251
  let c2_868 : Index := 2#32
  let c0_869 : Index := 0#32
  let c0_870 : Index := 0#32
  ![v2392.toNat, 2, 0, 0]
def k0_off149 (i : grid0.Coords) (k0_t1 : Fin k0_t1_loop.trips) : Fin 3 → Nat :=
  let c3_874 : Index := 3#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let v2408 : Index := Scalar.indexCast v4
  let c0_875 : Index := 0#32
  ![3, v2408.toNat, 0]
def k0_off150 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2413 : Index := Scalar.indexCast v2251
  let c3_877 : Index := 3#32
  let c0_878 : Index := 0#32
  let c0_879 : Index := 0#32
  ![v2413.toNat, 3, 0, 0]
def k0_off151 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2423 : Index := Scalar.indexCast v2251
  let c3_882 : Index := 3#32
  let c128_883 : Index := 128#32
  let c0_884 : Index := 0#32
  ![v2423.toNat, 3, 128, 0]
def k0_off152 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2442 : Index := Scalar.indexCast v2251
  let c3_889 : Index := 3#32
  let c0_890 : Index := 0#32
  let c0_891 : Index := 0#32
  ![v2442.toNat, 3, 0, 0]
def k0_off153 (i : grid0.Coords) (k0_t1 : Fin k0_t1_loop.trips) : Fin 3 → Nat :=
  let c4_895 : Index := 4#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let v2458 : Index := Scalar.indexCast v4
  let c0_896 : Index := 0#32
  ![4, v2458.toNat, 0]
def k0_off154 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2463 : Index := Scalar.indexCast v2251
  let c4_898 : Index := 4#32
  let c0_899 : Index := 0#32
  let c0_900 : Index := 0#32
  ![v2463.toNat, 4, 0, 0]
def k0_off155 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2473 : Index := Scalar.indexCast v2251
  let c4_903 : Index := 4#32
  let c128_904 : Index := 128#32
  let c0_905 : Index := 0#32
  ![v2473.toNat, 4, 128, 0]
def k0_off156 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2492 : Index := Scalar.indexCast v2251
  let c4_910 : Index := 4#32
  let c0_911 : Index := 0#32
  let c0_912 : Index := 0#32
  ![v2492.toNat, 4, 0, 0]
def k0_off157 (i : grid0.Coords) (k0_t1 : Fin k0_t1_loop.trips) : Fin 3 → Nat :=
  let c5_916 : Index := 5#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let v2508 : Index := Scalar.indexCast v4
  let c0_917 : Index := 0#32
  ![5, v2508.toNat, 0]
def k0_off158 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2513 : Index := Scalar.indexCast v2251
  let c5_919 : Index := 5#32
  let c0_920 : Index := 0#32
  let c0_921 : Index := 0#32
  ![v2513.toNat, 5, 0, 0]
def k0_off159 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2523 : Index := Scalar.indexCast v2251
  let c5_924 : Index := 5#32
  let c128_925 : Index := 128#32
  let c0_926 : Index := 0#32
  ![v2523.toNat, 5, 128, 0]
def k0_off160 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2542 : Index := Scalar.indexCast v2251
  let c5_931 : Index := 5#32
  let c0_932 : Index := 0#32
  let c0_933 : Index := 0#32
  ![v2542.toNat, 5, 0, 0]
def k0_off161 (i : grid0.Coords) (k0_t1 : Fin k0_t1_loop.trips) : Fin 3 → Nat :=
  let c6_937 : Index := 6#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let v2558 : Index := Scalar.indexCast v4
  let c0_938 : Index := 0#32
  ![6, v2558.toNat, 0]
def k0_off162 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2563 : Index := Scalar.indexCast v2251
  let c6_940 : Index := 6#32
  let c0_941 : Index := 0#32
  let c0_942 : Index := 0#32
  ![v2563.toNat, 6, 0, 0]
def k0_off163 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2573 : Index := Scalar.indexCast v2251
  let c6_945 : Index := 6#32
  let c128_946 : Index := 128#32
  let c0_947 : Index := 0#32
  ![v2573.toNat, 6, 128, 0]
def k0_off164 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2592 : Index := Scalar.indexCast v2251
  let c6_952 : Index := 6#32
  let c0_953 : Index := 0#32
  let c0_954 : Index := 0#32
  ![v2592.toNat, 6, 0, 0]
def k0_off165 (i : grid0.Coords) (k0_t1 : Fin k0_t1_loop.trips) : Fin 3 → Nat :=
  let c7_958 : Index := 7#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let v2608 : Index := Scalar.indexCast v4
  let c0_959 : Index := 0#32
  ![7, v2608.toNat, 0]
def k0_off166 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2613 : Index := Scalar.indexCast v2251
  let c7_961 : Index := 7#32
  let c0_962 : Index := 0#32
  let c0_963 : Index := 0#32
  ![v2613.toNat, 7, 0, 0]
def k0_off167 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2623 : Index := Scalar.indexCast v2251
  let c7_966 : Index := 7#32
  let c128_967 : Index := 128#32
  let c0_968 : Index := 0#32
  ![v2623.toNat, 7, 128, 0]
def k0_off168 (i : grid0.Coords) (k0_t1 : Fin k0_t1_loop.trips) : Fin 4 → Nat :=
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c1_i32_808 : BitVec 32 := 1#32
  let v2251 : BitVec 32 := Scalar.andi v4 c1_i32_808
  let v2642 : Index := Scalar.indexCast v2251
  let c7_973 : Index := 7#32
  let c0_974 : Index := 0#32
  let c0_975 : Index := 0#32
  ![v2642.toNat, 7, 0, 0]
def k0_off169 (i : grid0.Coords) (k0_t1 : Fin k0_t1_loop.trips) : Fin 2 → Nat :=
  let c0_979 : Index := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_811 : BitVec 32 := 256#32
  let v2256 : BitVec 32 := Scalar.muli v4 c256_i32_811
  let v2257 : BitVec 32 := v2256
  let v2658 : Index := Scalar.indexCast v2257
  ![0, v2658.toNat]
def k0_off170 (i : grid0.Coords) (k0_t1 : Fin k0_t1_loop.trips) : Fin 2 → Nat :=
  let c128_987 : Index := 128#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_811 : BitVec 32 := 256#32
  let v2256 : BitVec 32 := Scalar.muli v4 c256_i32_811
  let v2257 : BitVec 32 := v2256
  let v2670 : Index := Scalar.indexCast v2257
  ![128, v2670.toNat]
def k0_off171 (i : grid0.Coords) (k0_t1 : Fin k0_t1_loop.trips) : Fin 2 → Nat :=
  let c256_995 : Index := 256#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_811 : BitVec 32 := 256#32
  let v2256 : BitVec 32 := Scalar.muli v4 c256_i32_811
  let v2257 : BitVec 32 := v2256
  let v2682 : Index := Scalar.indexCast v2257
  ![256, v2682.toNat]
def k0_off172 (i : grid0.Coords) (k0_t1 : Fin k0_t1_loop.trips) : Fin 2 → Nat :=
  let c384_1003 : Index := 384#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_811 : BitVec 32 := 256#32
  let v2256 : BitVec 32 := Scalar.muli v4 c256_i32_811
  let v2257 : BitVec 32 := v2256
  let v2694 : Index := Scalar.indexCast v2257
  ![384, v2694.toNat]
def k0_off173 (i : grid0.Coords) (k0_t1 : Fin k0_t1_loop.trips) : Fin 2 → Nat :=
  let c512_1011 : Index := 512#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_811 : BitVec 32 := 256#32
  let v2256 : BitVec 32 := Scalar.muli v4 c256_i32_811
  let v2257 : BitVec 32 := v2256
  let v2706 : Index := Scalar.indexCast v2257
  ![512, v2706.toNat]
def k0_off174 (i : grid0.Coords) (k0_t1 : Fin k0_t1_loop.trips) : Fin 2 → Nat :=
  let c640_1019 : Index := 640#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_811 : BitVec 32 := 256#32
  let v2256 : BitVec 32 := Scalar.muli v4 c256_i32_811
  let v2257 : BitVec 32 := v2256
  let v2718 : Index := Scalar.indexCast v2257
  ![640, v2718.toNat]
def k0_off175 (i : grid0.Coords) (k0_t1 : Fin k0_t1_loop.trips) : Fin 2 → Nat :=
  let c768_1027 : Index := 768#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_811 : BitVec 32 := 256#32
  let v2256 : BitVec 32 := Scalar.muli v4 c256_i32_811
  let v2257 : BitVec 32 := v2256
  let v2730 : Index := Scalar.indexCast v2257
  ![768, v2730.toNat]
def k0_off176 (i : grid0.Coords) (k0_t1 : Fin k0_t1_loop.trips) : Fin 2 → Nat :=
  let c896_1035 : Index := 896#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg11 : BitVec 32 := Scf.iv c0_i32 c1_i32 k0_t1
  let v4 : BitVec 32 := Scalar.addi v0 arg11
  let c256_i32_811 : BitVec 32 := 256#32
  let v2256 : BitVec 32 := Scalar.muli v4 c256_i32_811
  let v2257 : BitVec 32 := v2256
  let v2742 : Index := Scalar.indexCast v2257
  ![896, v2742.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "unmask" => some ⊤
  | _ => none
-- ==== Ffn.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S_, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Rglru.lean ====
abbrev S16384x4096 : Shape := ⟨2, ![16384, 4096]⟩
abbrev S4x2048 : Shape := ⟨2, ![4, 2048]⟩
abbrev S2048 : Shape := ⟨1, ![2048]⟩
abbrev S16x128x128 : Shape := ⟨3, ![16, 128, 128]⟩
abbrev S1x2048 : Shape := ⟨2, ![1, 2048]⟩
abbrev S_ : Shape := ⟨0, ![]⟩
abbrev S16384x2048 : Shape := ⟨2, ![16384, 2048]⟩
abbrev S512x512 : Shape := ⟨2, ![512, 512]⟩
abbrev S4x512 : Shape := ⟨2, ![4, 512]⟩
abbrev S1x512 : Shape := ⟨2, ![1, 512]⟩
abbrev S4x128x128 : Shape := ⟨3, ![4, 128, 128]⟩
abbrev S4x536x128 : Shape := ⟨3, ![4, 536, 128]⟩
abbrev S4x576x128 : Shape := ⟨3, ![4, 576, 128]⟩
abbrev S24x512 : Shape := ⟨2, ![24, 512]⟩
abbrev S8x128 : Shape := ⟨2, ![8, 128]⟩
abbrev S1x8x128 : Shape := ⟨3, ![1, 8, 128]⟩
abbrev S512x128 : Shape := ⟨2, ![512, 128]⟩
abbrev S1x128 : Shape := ⟨2, ![1, 128]⟩
abbrev S1x512x128 : Shape := ⟨3, ![1, 512, 128]⟩
abbrev S1x128x128 : Shape := ⟨3, ![1, 128, 128]⟩
abbrev S128x128 : Shape := ⟨2, ![128, 128]⟩
abbrev S8x512 : Shape := ⟨2, ![8, 512]⟩
abbrev S64x128 : Shape := ⟨2, ![64, 128]⟩
abbrev S1x64x128 : Shape := ⟨3, ![1, 64, 128]⟩

abbrev nBuf : Space → Nat
  | .hbm => 27
  | .vmem => 27
  | .smem => 0
  | _ => 0

abbrev bufTy : (tb : Table) → Fin (tcTables nBuf tb) → BufTy
  | .hbm, ⟨0, _⟩ => ⟨S16384x4096, .f32⟩
  | .hbm, ⟨1, _⟩ => ⟨S4x2048, .f32⟩
  | .hbm, ⟨2, _⟩ => ⟨S2048, .f32⟩
  | .hbm, ⟨3, _⟩ => ⟨S16x128x128, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S_, .f32⟩
  | .hbm, ⟨10, _⟩ => ⟨S16x128x128, .f32⟩
  | .hbm, ⟨11, _⟩ => ⟨S16x128x128, .f32⟩
  | .hbm, ⟨12, _⟩ => ⟨S16x128x128, .bf16⟩
  | .hbm, ⟨13, _⟩ => ⟨S_, .f32⟩
  | .hbm, ⟨14, _⟩ => ⟨S16x128x128, .f32⟩
  | .hbm, ⟨15, _⟩ => ⟨S16x128x128, .f32⟩
  | .hbm, ⟨16, _⟩ => ⟨S16x128x128, .bf16⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S16384x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S4x128x128, .bf16⟩
  | .local _ .vmem, ⟨9, _⟩ => ⟨S4x128x128, .bf16⟩
  | .local _ .vmem, ⟨10, _⟩ => ⟨S4x128x128, .bf16⟩
  | .local _ .vmem, ⟨11, _⟩ => ⟨S4x128x128, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S4x536x128, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S4x576x128, .f32⟩
  | .local _ .vmem, ⟨25, _⟩ => ⟨S24x512, .f32⟩
  | .local _ .vmem, ⟨26, _⟩ => ⟨S1x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Merge.lean ====
abbrev S16384x2048 : Shape := ⟨2, ![16384, 2048]⟩
abbrev S2048x2048 : Shape := ⟨2, ![2048, 2048]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .f32⟩
  | .hbm, ⟨3, _⟩ => ⟨S2048x2048, .f32⟩
  | .hbm, ⟨4, _⟩ => ⟨S16384x4096, .bf16⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x2048 : Shape := ⟨2, ![16384, 2048]⟩
abbrev S2048x2048 : Shape := ⟨2, ![2048, 2048]⟩
abbrev S16384x4096 : Shape := ⟨2, ![16384, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .f32⟩
  | .hbm, ⟨3, _⟩ => ⟨S2048x2048, .f32⟩
  | .hbm, ⟨4, _⟩ => ⟨S16384x4096, .bf16⟩
  | .hbm, ⟨5, _⟩ => ⟨S16384x4096, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Xattn.lean ====
abbrev S16384x2048 : Shape := ⟨2, ![16384, 2048]⟩
abbrev S2048x2048 : Shape := ⟨2, ![2048, 2048]⟩
abbrev S2048 : Shape := ⟨1, ![2048]⟩
abbrev S2048x512 : Shape := ⟨2, ![2048, 512]⟩
abbrev S1024x1024 : Shape := ⟨2, ![1024, 1024]⟩
abbrev S512x2048 : Shape := ⟨2, ![512, 2048]⟩
abbrev S1x2048 : Shape := ⟨2, ![1, 2048]⟩
abbrev S256x1024 : Shape := ⟨2, ![256, 1024]⟩
abbrev S512 : Shape := ⟨1, ![512]⟩
abbrev S512x1 : Shape := ⟨2, ![512, 1]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩

abbrev nBuf : Space → Nat
  | .hbm => 12
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048x512, .f32⟩
  | .hbm, ⟨5, _⟩ => ⟨S1024x1024, .bf16⟩
  | .hbm, ⟨6, _⟩ => ⟨S512x2048, .f32⟩
  | .hbm, ⟨7, _⟩ => ⟨S2048x2048, .bf16⟩
  | .hbm, ⟨8, _⟩ => ⟨S2048x512, .bf16⟩
  | .hbm, ⟨9, _⟩ => ⟨S512x2048, .bf16⟩
  | .hbm, ⟨10, _⟩ => ⟨S1x2048, .f32⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S2048x512, .bf16⟩
  | .local _ .vmem, ⟨7, _⟩ => ⟨S256x1024, .bf16⟩
  | .local _ .vmem, ⟨8, _⟩ => ⟨S256x1024, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== XattnRefIdeal.lean ====
abbrev S16384x2048 : Shape := ⟨2, ![16384, 2048]⟩
abbrev S2048x2048 : Shape := ⟨2, ![2048, 2048]⟩
abbrev S2048 : Shape := ⟨1, ![2048]⟩
abbrev S2048x512 : Shape := ⟨2, ![2048, 512]⟩
abbrev S1024x1024 : Shape := ⟨2, ![1024, 1024]⟩
abbrev S512x2048 : Shape := ⟨2, ![512, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x512 : Shape := ⟨2, ![16384, 512]⟩
abbrev S4x4096x4x128 : Shape := ⟨4, ![4, 4096, 4, 128]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048x512, .f32⟩
  | .hbm, ⟨5, _⟩ => ⟨S1024x1024, .bf16⟩
  | .hbm, ⟨6, _⟩ => ⟨S512x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x512, .f32⟩
  | .hbm, ⟨27, _⟩ => ⟨S4x4096x4x128, .f32⟩
  | .hbm, ⟨28, _⟩ => ⟨S1024x1024, .f32⟩
  | .hbm, ⟨29, _⟩ => ⟨S4x256x1024, .f32⟩
  | .hbm, ⟨30, _⟩ => ⟨S4x256x512, .f32⟩
  | .hbm, ⟨31, _⟩ => ⟨S4x256x4x128, .f32⟩
  | .hbm, ⟨32, _⟩ => ⟨S4x256x512, .f32⟩
  | .hbm, ⟨33, _⟩ => ⟨S4x256x4x128, .f32⟩
  | .hbm, ⟨34, _⟩ => ⟨S4x4x4096x256, .f32⟩
  | .hbm, ⟨35, _⟩ => ⟨S_, .f32⟩
  | .hbm, ⟨36, _⟩ => ⟨S4x4x4096x256, .f32⟩
  | .hbm, ⟨37, _⟩ => ⟨S4x4x4096x256, .f32⟩
  | .hbm, ⟨38, _⟩ => ⟨S_, .f32⟩
  | .hbm, ⟨39, _⟩ => ⟨S4x4x4096, .f32⟩
  | .hbm, ⟨40, _⟩ => ⟨S_, .f32⟩
  | .hbm, ⟨41, _⟩ => ⟨S4x4x4096, .f32⟩
  | .hbm, ⟨42, _⟩ => ⟨S4x4x4096, .f32⟩
  | .hbm, ⟨43, _⟩ => ⟨S4x4x4096x1, .f32⟩
  | .hbm, ⟨44, _⟩ => ⟨S4x4x4096x256, .f32⟩
  | .hbm, ⟨45, _⟩ => ⟨S4x4x4096x256, .f32⟩
  | .hbm, ⟨46, _⟩ => ⟨S4x4x4096x256, .f32⟩
  | .hbm, ⟨47, _⟩ => ⟨S_, .f32⟩
  | .hbm, ⟨48, _⟩ => ⟨S4x4x4096, .f32⟩
  | .hbm, ⟨49, _⟩ => ⟨S4x4x4096x1, .f32⟩
  | .hbm, ⟨50, _⟩ => ⟨S4x4x4096x256, .f32⟩
  | .hbm, ⟨51, _⟩ => ⟨S4x4x4096x256, .f32⟩
  | .hbm, ⟨52, _⟩ => ⟨S4x4x128x4096, .f32⟩
  | .hbm, ⟨53, _⟩ => ⟨S4x4096x4x128, .f32⟩
  | .hbm, ⟨54, _⟩ => ⟨S16384x512, .f32⟩
  | .hbm, ⟨55, _⟩ => ⟨S16384x2048, .f32⟩
  | .hbm, ⟨56, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Memkv.lean ====
abbrev S4x256x2048 : Shape := ⟨3, ![4, 256, 2048]⟩
abbrev S2048 : Shape := ⟨1, ![2048]⟩
abbrev S2048x1024 : Shape := ⟨2, ![2048, 1024]⟩
abbrev S1024x2048 : Shape := ⟨2, ![1024, 2048]⟩
abbrev S1x2048 : Shape := ⟨2, ![1, 2048]⟩
abbrev S1024x1024 : Shape := ⟨2, ![1024, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x1024, .f32⟩
  | .hbm, ⟨3, _⟩ => ⟨S1024x2048, .f32⟩
  | .hbm, ⟨4, _⟩ => ⟨S2048x1024, .bf16⟩
  | .hbm, ⟨5, _⟩ => ⟨S1x2048, .f32⟩
  | .hbm, ⟨6, _⟩ => ⟨S1024x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemkvRefIdeal.lean ====
abbrev S4x256x2048 : Shape := ⟨3, ![4, 256, 2048]⟩
abbrev S2048 : Shape := ⟨1, ![2048]⟩
abbrev S2048x1024 : Shape := ⟨2, ![2048, 1024]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x256x1024 : Shape := ⟨3, ![4, 256, 1024]⟩
abbrev S1024x1024 : Shape := ⟨2, ![1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x1024, .f32⟩
  | .hbm, ⟨3, _⟩ => ⟨S4x256x2048, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x2048, .f32⟩
  | .hbm, ⟨15, _⟩ => ⟨S4x256x2048, .f32⟩
  | .hbm, ⟨16, _⟩ => ⟨S1x1x2048, .f32⟩
  | .hbm, ⟨17, _⟩ => ⟨S4x256x2048, .f32⟩
  | .hbm, ⟨18, _⟩ => ⟨S4x256x2048, .f32⟩
  | .hbm, ⟨19, _⟩ => ⟨S4x256x1024, .f32⟩
  | .hbm, ⟨20, _⟩ => ⟨S1024x1024, .f32⟩
  | .hbm, ⟨21, _⟩ => ⟨S1024x1024, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Projxy.lean ====
abbrev S16384x2048 : Shape := ⟨2, ![16384, 2048]⟩
abbrev S2048x14336 : Shape := ⟨2, ![2048, 14336]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x14336, .f32⟩
  | .hbm, ⟨2, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjxyRefIdeal.lean ====
abbrev S16384x2048 : Shape := ⟨2, ![16384, 2048]⟩
abbrev S2048x14336 : Shape := ⟨2, ![2048, 14336]⟩
abbrev S16384x14336 : Shape := ⟨2, ![16384, 14336]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x14336, .f32⟩
  | .hbm, ⟨2, _⟩ => ⟨S16384x2048, .f32⟩
  | .hbm, ⟨3, _⟩ => ⟨S16384x14336, .f32⟩
  | .hbm, ⟨4, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Projv.lean ====
abbrev S16384x2048 : Shape := ⟨2, ![16384, 2048]⟩
abbrev S2048x14336 : Shape := ⟨2, ![2048, 14336]⟩
abbrev S2048x16384 : Shape := ⟨2, ![2048, 16384]⟩
abbrev S2048x2048 : Shape := ⟨2, ![2048, 2048]⟩
abbrev S2048x1024 : Shape := ⟨2, ![2048, 1024]⟩
abbrev S1024x2048 : Shape := ⟨2, ![1024, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x14336, .f32⟩
  | .hbm, ⟨2, _⟩ => ⟨S2048x16384, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjvRefIdeal.lean ====
abbrev S16384x2048 : Shape := ⟨2, ![16384, 2048]⟩
abbrev S2048x14336 : Shape := ⟨2, ![2048, 14336]⟩
abbrev S16384x14336 : Shape := ⟨2, ![16384, 14336]⟩
abbrev S2048x16384 : Shape := ⟨2, ![2048, 16384]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x14336, .f32⟩
  | .hbm, ⟨2, _⟩ => ⟨S16384x2048, .f32⟩
  | .hbm, ⟨3, _⟩ => ⟨S16384x14336, .f32⟩
  | .hbm, ⟨4, _⟩ => ⟨S16384x2048, .f32⟩
  | .hbm, ⟨5, _⟩ => ⟨S2048x16384, .f32⟩
  | .hbm, ⟨6, _⟩ => ⟨S2048x16384, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Projg.lean ====
abbrev S16384x2048 : Shape := ⟨2, ![16384, 2048]⟩
abbrev S2048x14336 : Shape := ⟨2, ![2048, 14336]⟩
abbrev S16384x4096 : Shape := ⟨2, ![16384, 4096]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x14336, .f32⟩
  | .hbm, ⟨2, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg0 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjgRefIdeal.lean ====
abbrev S16384x2048 : Shape := ⟨2, ![16384, 2048]⟩
abbrev S2048x14336 : Shape := ⟨2, ![2048, 14336]⟩
abbrev S16384x14336 : Shape := ⟨2, ![16384, 14336]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x14336, .f32⟩
  | .hbm, ⟨2, _⟩ => ⟨S16384x2048, .f32⟩
  | .hbm, ⟨3, _⟩ => ⟨S16384x14336, .f32⟩
  | .hbm, ⟨4, _⟩ => ⟨S16384x4096, .f32⟩
  | .hbm, ⟨5, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Projqk.lean ====
abbrev S16384x2048 : Shape := ⟨2, ![16384, 2048]⟩
abbrev S2048x14336 : Shape := ⟨2, ![2048, 14336]⟩
abbrev S16384x128 : Shape := ⟨2, ![16384, 128]⟩
abbrev S16384x4096 : Shape := ⟨2, ![16384, 4096]⟩
abbrev S16x4x4096 : Shape := ⟨3, ![16, 4, 4096]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩
abbrev S1x4x1024 : Shape := ⟨3, ![1, 4, 1024]⟩
abbrev S256x128 : Shape := ⟨2, ![256, 128]⟩
abbrev S2048x512 : Shape := ⟨2, ![2048, 512]⟩
abbrev S1024x512 : Shape := ⟨2, ![1024, 512]⟩
abbrev S4x256x128 : Shape := ⟨3, ![4, 256, 128]⟩
abbrev S4x128 : Shape := ⟨2, ![4, 128]⟩
abbrev S1x4x128 : Shape := ⟨3, ![1, 4, 128]⟩

abbrev nBuf : Space → Nat
  | .hbm => 6
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2048x14336, .f32⟩
  | .hbm, ⟨2, _⟩ => ⟨S16384x128, .f32⟩
  | .hbm, ⟨3, _⟩ => ⟨S16384x128, .f32⟩
  | .hbm, ⟨4, _⟩ => ⟨S16384x4096, .bf16⟩
  | .hbm, ⟨5, _⟩ => ⟨S16x4x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S1x4x1024, .f32⟩
  | .local _ .vmem, ⟨11, _⟩ => ⟨S1x4x1024, .f32⟩
  | .local _ .vmem, ⟨12, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjqkRefIdeal.lean ====
abbrev S16384x2048 : Shape := ⟨2, ![16384, 2048]⟩
abbrev S2048x14336 : Shape := ⟨2, ![2048, 14336]⟩
abbrev S16384x128 : Shape := ⟨2, ![16384, 128]⟩
abbrev S16384x14336 : Shape := ⟨2, ![16384, 14336]⟩
abbrev S16384x16x128 : Shape := ⟨3, ![16384, 16, 128]⟩
abbrev S16384x16x16 : Shape := ⟨3, ![16384, 16, 16]⟩
abbrev S16384x16x48 : Shape := ⟨3, ![16384, 16, 48]⟩
abbrev S16384x16x64 : Shape := ⟨3, ![16384, 16, 64]⟩
abbrev S16384x1x128 : Shape := ⟨3, ![16384, 1, 128]⟩
abbrev S_ : Shape := ⟨0, ![]⟩
abbrev S16384x4096 : Shape := ⟨2, ![16384, 4096]⟩
abbrev S16x4x256x4096 : Shape := ⟨4, ![16, 4, 256, 4096]⟩
abbrev S16x4x4096 : Shape := ⟨3, ![16, 4, 4096]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x14336, .f32⟩
  | .hbm, ⟨2, _⟩ => ⟨S16384x128, .f32⟩
  | .hbm, ⟨3, _⟩ => ⟨S16384x128, .f32⟩
  | .hbm, ⟨4, _⟩ => ⟨S16384x2048, .f32⟩
  | .hbm, ⟨5, _⟩ => ⟨S16384x14336, .f32⟩
  | .hbm, ⟨6, _⟩ => ⟨S16384x2048, .f32⟩
  | .hbm, ⟨7, _⟩ => ⟨S16384x16x128, .f32⟩
  | .hbm, ⟨8, _⟩ => ⟨S16384x16x16, .f32⟩
  | .hbm, ⟨9, _⟩ => ⟨S16384x16x48, .f32⟩
  | .hbm, ⟨10, _⟩ => ⟨S16384x16x16, .f32⟩
  | .hbm, ⟨11, _⟩ => ⟨S16384x16x48, .f32⟩
  | .hbm, ⟨12, _⟩ => ⟨S16384x16x128, .f32⟩
  | .hbm, ⟨13, _⟩ => ⟨S16384x16x64, .f32⟩
  | .hbm, ⟨14, _⟩ => ⟨S16384x16x64, .f32⟩
  | .hbm, ⟨15, _⟩ => ⟨S16384x16x128, .f32⟩
  | .hbm, ⟨16, _⟩ => ⟨S16384x1x128, .f32⟩
  | .hbm, ⟨17, _⟩ => ⟨S16384x16x128, .f32⟩
  | .hbm, ⟨18, _⟩ => ⟨S16384x16x128, .f32⟩
  | .hbm, ⟨19, _⟩ => ⟨S16384x1x128, .f32⟩
  | .hbm, ⟨20, _⟩ => ⟨S16384x16x128, .f32⟩
  | .hbm, ⟨21, _⟩ => ⟨S16384x16x128, .f32⟩
  | .hbm, ⟨22, _⟩ => ⟨S16384x16x128, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x16x128, .f32⟩
  | .hbm, ⟨29, _⟩ => ⟨S16384x16x16, .f32⟩
  | .hbm, ⟨30, _⟩ => ⟨S16384x16x48, .f32⟩
  | .hbm, ⟨31, _⟩ => ⟨S16384x16x16, .f32⟩
  | .hbm, ⟨32, _⟩ => ⟨S16384x16x48, .f32⟩
  | .hbm, ⟨33, _⟩ => ⟨S16384x16x128, .f32⟩
  | .hbm, ⟨34, _⟩ => ⟨S16384x16x64, .f32⟩
  | .hbm, ⟨35, _⟩ => ⟨S16384x16x64, .f32⟩
  | .hbm, ⟨36, _⟩ => ⟨S16384x16x128, .f32⟩
  | .hbm, ⟨37, _⟩ => ⟨S16384x1x128, .f32⟩
  | .hbm, ⟨38, _⟩ => ⟨S16384x16x128, .f32⟩
  | .hbm, ⟨39, _⟩ => ⟨S16384x16x128, .f32⟩
  | .hbm, ⟨40, _⟩ => ⟨S16384x1x128, .f32⟩
  | .hbm, ⟨41, _⟩ => ⟨S16384x16x128, .f32⟩
  | .hbm, ⟨42, _⟩ => ⟨S16384x16x128, .f32⟩
  | .hbm, ⟨43, _⟩ => ⟨S16384x16x128, .f32⟩
  | .hbm, ⟨44, _⟩ => ⟨S16384x2048, .f32⟩
  | .hbm, ⟨45, _⟩ => ⟨S16384x4096, .f32⟩
  | .hbm, ⟨46, _⟩ => ⟨S16384x4096, .bf16⟩
  | .hbm, ⟨47, _⟩ => ⟨S16x4x256x4096, .f32⟩
  | .hbm, ⟨48, _⟩ => ⟨S_, .f32⟩
  | .hbm, ⟨49, _⟩ => ⟨S16x4x4096, .f32⟩
  | .hbm, ⟨50, _⟩ => ⟨S_, .f32⟩
  | .hbm, ⟨51, _⟩ => ⟨S16x4x4096, .f32⟩
  | .hbm, ⟨52, _⟩ => ⟨S16x4x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_0 : Ref sig .tc := ⟨.hbm, 48, rfl⟩
abbrev main_v43 : Ref sig .tc := ⟨.hbm, 49, rfl⟩
abbrev main_cst_1 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== Rope.lean ====
abbrev S4x4096 : Shape := ⟨2, ![4, 4096]⟩
abbrev S16384x1 : Shape := ⟨2, ![16384, 1]⟩
abbrev S16 : Shape := ⟨1, ![16]⟩
abbrev S_ : Shape := ⟨0, ![]⟩
abbrev S48 : Shape := ⟨1, ![48]⟩
abbrev S128 : Shape := ⟨1, ![128]⟩
abbrev S1x128 : Shape := ⟨2, ![1, 128]⟩
abbrev S16384x128 : Shape := ⟨2, ![16384, 128]⟩
abbrev S1024x1 : Shape := ⟨2, ![1024, 1]⟩
abbrev S1024x128 : Shape := ⟨2, ![1024, 128]⟩

abbrev nBuf : Space → Nat
  | .hbm => 17
  | .vmem => 7
  | .smem => 0
  | _ => 0

abbrev bufTy : (tb : Table) → Fin (tcTables nBuf tb) → BufTy
  | .hbm, ⟨0, _⟩ => ⟨S4x4096, .i32⟩
  | .hbm, ⟨1, _⟩ => ⟨S4x4096, .f32⟩
  | .hbm, ⟨2, _⟩ => ⟨S16384x1, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S48, .f32⟩
  | .hbm, ⟨13, _⟩ => ⟨S128, .f32⟩
  | .hbm, ⟨14, _⟩ => ⟨S1x128, .f32⟩
  | .hbm, ⟨15, _⟩ => ⟨S16384x128, .f32⟩
  | .hbm, ⟨16, _⟩ => ⟨S16384x128, .f32⟩
  | .local _ .vmem, ⟨0, _⟩ => ⟨S1024x1, .f32⟩
  | .local _ .vmem, ⟨1, _⟩ => ⟨S1024x1, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S4x4096 : Shape := ⟨2, ![4, 4096]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x48 : Shape := ⟨2, ![16384, 48]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16384, .i32⟩
  | .hbm, ⟨10, _⟩ => ⟨S16384, .f32⟩
  | .hbm, ⟨11, _⟩ => ⟨S16384x1, .f32⟩
  | .hbm, ⟨12, _⟩ => ⟨S1x16, .f32⟩
  | .hbm, ⟨13, _⟩ => ⟨S16384x16, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S_, .f32⟩
  | .hbm, ⟨19, _⟩ => ⟨S16384x48, .f32⟩
  | .hbm, ⟨20, _⟩ => ⟨S_, .f32⟩
  | .hbm, ⟨21, _⟩ => ⟨S16384x48, .f32⟩
  | .hbm, ⟨22, _⟩ => ⟨S16384x128, .f32⟩
  | .hbm, ⟨23, _⟩ => ⟨S16384x16, .f32⟩
  | .hbm, ⟨24, _⟩ => ⟨S16384x128, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Moba.KernelIdealLoop.lean ====
module

public import proofs.«01_k».proof.Proof.Gen.KernelIdeal.Loops
public import proofs.«01_k».proof.Proof.Gen.KernelIdeal.Frame

@[expose] public section

set_option maxRecDepth 16384

noncomputable section

namespace Cert.Proof.Moba.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What the tile loop owns before every trip: the three staged inputs and the block means at their contents, the output block and the
    three scratch buffers at any. -/
abbrev held (c : Dev nD) (arg3 : Memref sig .tc .vmem S1024x1024 .bf16) (arg4 : Memref sig .tc .vmem S4096x1024 .bf16) (arg5 : Memref sig .tc .vmem S1024x4096 .bf16) (arg6 : Memref sig .tc .vmem S16x1024 .f32) (arg7 : Memref sig .tc .vmem S1024x1024 .bf16) (arg8 : Memref sig .tc .vmem S8x16x256 .f32) (arg9 : Memref sig .tc .vmem S2x8x256x256 .f32) (arg10 : Memref sig .tc .vmem S8x144x256 .f32) (X3 : BufTy.Contents (Elt F) arg3.view.ty) (X4 : BufTy.Contents (Elt F) arg4.view.ty) (X5 : BufTy.Contents (Elt F) arg5.view.ty) (X6 : BufTy.Contents (Elt F) arg6.view.ty) : sProp 𝕄G :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (∃ f, arg7.view.loc (c : Thread nD τ) ↦[arg7.view.set]{fullShare} f) ∗ (∃ f, arg8.view.loc (c : Thread nD τ) ↦[arg8.view.set]{fullShare} f)
    ∗ (∃ f, arg9.view.loc (c : Thread nD τ) ↦[arg9.view.set]{fullShare} f) ∗ (∃ f, arg10.view.loc (c : Thread nD τ) ↦[arg10.view.set]{fullShare} f))

/-- The tile loop by what it owns: one trip runs from those buffers to those buffers. -/
@[sl_loop] def tiles (c : Dev nD) (i : grid0.Coords) (arg3 : Memref sig .tc .vmem S1024x1024 .bf16) (harg3 : arg3.IsWhole) (arg4 : Memref sig .tc .vmem S4096x1024 .bf16) (harg4 : arg4.IsWhole) (arg5 : Memref sig .tc .vmem S1024x4096 .bf16) (harg5 : arg5.IsWhole) (arg6 : Memref sig .tc .vmem S16x1024 .f32) (harg6 : arg6.IsWhole) (arg7 : Memref sig .tc .vmem S1024x1024 .bf16) (harg7 : arg7.IsWhole) (arg8 : Memref sig .tc .vmem S8x16x256 .f32) (harg8 : arg8.IsWhole) (arg9 : Memref sig .tc .vmem S2x8x256x256 .f32) (harg9 : arg9.IsWhole) (arg10 : Memref sig .tc .vmem S8x144x256 .f32) (harg10 : arg10.IsWhole) (v0 : BitVec 32) (X3 : BufTy.Contents (Elt F) arg3.view.ty) (X4 : BufTy.Contents (Elt F) arg4.view.ty) (X5 : BufTy.Contents (Elt F) arg5.view.ty) (X6 : BufTy.Contents (Elt F) arg6.view.ty) :
    Gen.LoopInvTy_k0_t1 (F := F) Unit ℕ (UR sig nD τ) ℕ Variants.none c none Set.univ i arg3 harg3 arg4 harg4 arg5 harg5 arg6 harg6 arg7 harg7 arg8 harg8 arg9 harg9 arg10 harg10 v0 where
  inv := fun _ _ => held (F := F) c arg3 arg4 arg5 arg6 arg7 arg8 arg9 arg10 X3 X4 X5 X6
  step k acc := by
    unfold Gen.k0_t1_body
    iintro ⟨H3, H4, H5, H6, ⟨%f7, H7⟩, ⟨%f8, H8⟩, ⟨%f9, H9⟩, ⟨%f10, H10⟩⟩
    sl_exec
    generalize arg8.view.writes (Elt F) arg8.view.junk _ = g8
    generalize arg9.view.writes (Elt F) f9 _ = g9
    generalize arg10.view.writes (Elt F) arg10.view.junk _ = g10
    iapply (wp_wand_r Idealize.ShloMosaic.frame (wpE (defs₀ (F := F)) Variants.none (c : Thread nD τ) none)
      (Q := fun _ => held (F := F) c arg3 arg4 arg5 arg6 arg7 arg8 arg9 arg10 X3 X4 X5 X6))
    isplitl [H3 H4 H5 H6 H7 H8 H9 H10]
    · by_cases hc : k0_cond1 i k = 1#1
      all_goals
        sl_exec (disch := first | exact hc | assumption)
        sl_step
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        iexists _; iexact H10
    iintro %st ⟨H3, H4, H5, H6, ⟨%h7, H7⟩, ⟨%h8, H8⟩, ⟨%h9, H9⟩, ⟨%h10, H10⟩⟩
    sl_exec
    sl_step
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10

end Cert.Proof.Moba.KernelIdeal

end
-- ==== Proof.Moba.KernelIdealFrame.lean ====
/-
  The frame of the block-sparse attention kernel: the tile loop of the neighbouring module inside the pipeline's launch.
-/
module

public import proofs.«01_k».proof.Defs
public import proofs.«01_k».proof.Proof.Moba.KernelIdealLoop
public import Idealize.ShloMosaic.Lib.Quiescent

@[expose] public section

set_option maxRecDepth 16384

noncomputable section

namespace Cert.Proof.Moba.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-- The kernel on whole buffers: it reads its four inputs and gives them back, the output block and the scratch at some contents. -/
theorem kernel_run (c : Dev nD) (i : grid0.Coords) (arg3 : Memref sig .tc .vmem S1024x1024 .bf16) (harg3 : arg3.IsWhole) (arg4 : Memref sig .tc .vmem S4096x1024 .bf16) (harg4 : arg4.IsWhole) (arg5 : Memref sig .tc .vmem S1024x4096 .bf16) (harg5 : arg5.IsWhole) (arg6 : Memref sig .tc .vmem S16x1024 .f32) (harg6 : arg6.IsWhole) (arg7 : Memref sig .tc .vmem S1024x1024 .bf16) (harg7 : arg7.IsWhole) (arg8 : Memref sig .tc .vmem S8x16x256 .f32) (harg8 : arg8.IsWhole) (arg9 : Memref sig .tc .vmem S2x8x256x256 .f32) (harg9 : arg9.IsWhole) (arg10 : Memref sig .tc .vmem S8x144x256 .f32) (harg10 : arg10.IsWhole)
    (x0 : Vec F S1024x1024 .bf16) (x1 : Vec F S4096x1024 .bf16) (x2 : Vec F S1024x4096 .bf16) (x3 : Vec F S16x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ (cc0_moba i arg3 harg3 arg4 harg4 arg5 harg5 arg6 harg6 arg7 harg7 arg8 harg8 arg9 harg9 arg10 harg10) K := by
  simp only [cc0_moba_eq_skeleton]; unfold cc0_moba_skel
  unfold owns
  iintro ⟨⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, Hk⟩
  sl_exec
  sl_step
  iapply Hk
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

variable (m : (ℓ : Loc nD τ sig) → Buf (Elt F) ℓ) (ρ : Dev nD → PrngReg)

/-- The proof data: the arrays as launched, every input block left in place, nothing said of the output block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := Pipeline.ΦA spec0 c
  q w := Pipeline.shareOf spec0 w
  owed _ := 0

/-- The window whose contents the frame does not follow: the output's. -/
abbrev unread : Fin cfg0.W → Bool := fun w => w == 4

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The class invariant: the three scratch buffers and the generator's register at some contents. -/
theorem held_rest (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The kernel at every grid point, as the launch asks for it. -/
theorem body (c : Dev nD) : BodyObligationLoose (dats (F := F) m 0 c) (defs₀ (F := F)) Variants.none () Set.univ unread := fun t => by
  rw [bigSep_W0, bigSep_W0]
  rw [show defs₀ (F := F) .tc cfg0.body (cfg0.bodyArgs t (cfg0.slots t)) = bodyAt0 t from by unfold defs₀; rw [Defs.onTc_tc]]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ X, owns (c : Thread nD τ) (st0_4 t) fullShare X))
    ⊢ wp frame (wpE (defs₀ (F := F)) Variants.none c none) Set.univ (bodyAt0 t) fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ (∃ X, owns (c : Thread nD τ) (st0_4 t) fullShare X))
  rw [show (dats m 0 c).owesAt () t.succ = (dats m 0 c).owesAt () t.castSucc from rfl, after_0, after_1, after_2, after_3]
  simp only [before_0, before_1, before_2, before_3]
  rw [show (dats m 0 c).Φ t.succ = Pipeline.ΦA spec0 c from rfl, show (dats m 0 c).Φ t.castSucc = Pipeline.ΦA spec0 c from rfl, held_rest]
  unfold bodyAt0
  iintro ⟨⟨⟨HS0, HS1, HS2⟩, Hg⟩, Ho, ⟨%d0, H0⟩, ⟨%d1, H1⟩, ⟨%d2, H2⟩, ⟨%d3, H3⟩, H4⟩
  iapply (kernel_run c (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  iexact H4

set_option backward.isDefEq.respectTransparency.types false in
/-- The launch: every argument array ends as it was, every counter at zero. -/
theorem run : θ_run defs (onTc (τ := τ) (main (F := F))) (s₀ m ρ)
    (fun r => (Pipeline.RDat.FramePost cfg0 (fun c => (dats m 0 c).toRForget unread) (V m)) r ∧ r.2.sem = fun _ => 0) :=
  Pipeline.θ_run_frame_forget_shared (Q' := _) cfgs (dats m) (0 : Fin 1) launch₀0 defs₀ Variants.none unread m ρ main
    (hbody := fun c => body m c) (hq := fun _ _ _ => rfl)
    (howed := fun _ _ => rfl) (V := V m) (hmain := hmain m Variants.none) (hA := A_eq m) (hΦ := fun _ _ => rfl)

/-- The argument arrays end as they were and every counter reads zero. -/
theorem frame : θ_run (defs (F := F)) (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c =>
    ⟨(h.1.arr_in c 1 rfl).trans ((A_eq m c 1).trans (V_main_arg0 m c)),
     (h.1.arr_in c 2 rfl).trans ((A_eq m c 2).trans (V_main_arg1 m c)),
     (h.1.arr_in c 3 rfl).trans ((A_eq m c 3).trans (V_main_arg2 m c))⟩, h.2⟩) (run m ρ)

end Cert.Proof.Moba.KernelIdeal

end
-- ==== Proof.Ffn.Pay.lean ====
/-
  The feed-forward kernel's stored values, read one element at a time over the extended reals.
-/
module

public import proofs.«01_k».proof.Proof.Gen.FfnIdeal.Value
public import Idealize.ShloMosaic.Lib.Pointwise

@[expose] public section

set_option maxRecDepth 16384

noncomputable section

open Idealize.ShloMosaic Idealize.ShloMosaic.TcCoe Idealize.SL.Sem

/-! ## The row functions the layer is made of -/

namespace Cert.Rows

/-- The factor a row is normalised by: one over the root of its mean square plus the small constant. -/
def scale (y : Fin 2048 → EReal) : EReal :=
  Ideal.rsqrt (Ideal.div (∑ k, y k * y k) (Ideal.ofBits .f32 0x45000000#32) + Ideal.ofBits .f32 0x358637BD#32)

/-- A row normalised by its root mean square and weighted. -/
def rms (y g : Fin 2048 → EReal) (k : Fin 2048) : EReal := y k * scale y * g k

/-- One hidden unit of the gated feed-forward layer at a normalised row: `silu (h · a) * (h · b)`. -/
def unit (h a b : Fin 2048 → EReal) : EReal :=
  (∑ k, h k * a k) * Ideal.logistic (∑ k, h k * a k) * ∑ k, h k * b k

end Cert.Rows

namespace Cert.FfnIdeal.Hand

open Cert.FfnIdeal Cert.FfnIdeal.Gen Cert.Rows

/-- The first store of a row tile keeps the normalised rows. -/
theorem pay1_apply (x : Vec Ideal S1024x2048 .f32) (g : Vec Ideal S1x2048 .f32) (r : Fin 1024) (k : Fin 2048) :
    k0_pay1 x g (ix2 r k) = rms (fun k => x (ix2 r k)) (fun k => g (ix2 0 k)) k := by
  unfold rms scale
  pointwise [k0_pay1]

/-- The accumulator starts at zero. -/
theorem pay2_apply (r : Fin 1024) (k : Fin 2048) : (k0_pay2 : FVec Ideal S1024x2048 .f32) (ix2 r k) = 0 := by
  pointwise [k0_pay2]

/-- One step of the accumulation: the sum over the block's 512 hidden units is added to what was there. -/
theorem pay3_apply (h : Vec Ideal S1024x2048 .bf16) (a b : Vec Ideal S2048x512 .bf16) (acc : Vec Ideal S1024x2048 .f32)
    (d : Vec Ideal S512x2048 .bf16) (r : Fin 1024) (l : Fin 2048) :
    k0_pay3 h a b acc d (ix2 r l)
      = acc (ix2 r l) + ∑ j : Fin 512, unit (fun k => h (ix2 r k)) (fun k => a (ix2 k j)) (fun k => b (ix2 k j)) * d (ix2 j l) := by
  unfold unit
  pointwise [k0_pay3]

/-- The last store of a row tile: the residual is added and the row normalised once more. -/
theorem pay4_apply (x acc : Vec Ideal S1024x2048 .f32) (g : Vec Ideal S1x2048 .f32) (r : Fin 1024) (k : Fin 2048) :
    k0_pay4 x acc g (ix2 r k) = rms (fun k => x (ix2 r k) + acc (ix2 r k)) (fun k => g (ix2 0 k)) k := by
  unfold rms scale
  pointwise [k0_pay4]

end Cert.FfnIdeal.Hand

end
-- ==== Proof.Ffn.Steps.lean ====
/-
  What each grid point of the feed-forward kernel leaves behind, and the blocks it reads, at coordinates.
-/
module

public import proofs.«01_k».proof.Proof.Ffn.Pay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.FfnIdeal.Value Cert.Rows

variable (m : (ℓ : Loc nD τ sig) → Buf (Elt Ideal) ℓ)

/-- The windows' block indices: the row tile is `t / 11`, the block of hidden units `t % 11`. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![0, 0] ∧ win0_6.index t = ![t.val / 11, 0] :=
  (by decide +kernel : ∀ t : Fin grid0.N, _)

/-- A point that opens a row tile normalises the rows, clears the accumulator and adds the first block. -/
theorem st_first (c : Dev nD) (t : Fin cfg0.N) (acc : Vec Ideal S1024x2048 .f32 × Vec Ideal S1024x2048 .bf16)
    (h0 : t.val % 11 = 0) (h1 : ¬t.val % 11 = 10) :
    stAt0 m c t.val t.isLt acc
      = (k0_pay3 (k0_pay1 (iblk m c 0 t) (iblk m c 1 t)) (iblk m c 2 t) (iblk m c 3 t) (k0_pay2 (F := Ideal)) (iblk m c 4 t),
         k0_pay1 (iblk m c 0 t) (iblk m c 1 t)) := by
  rw [stAt0_A m c t acc h0 h1]
  refine Prod.ext ?_ ?_
  · dsimp only; frame_out
  · dsimp only; frame_out

/-- A point inside a row tile adds its block of hidden units. -/
theorem st_mid (c : Dev nD) (t : Fin cfg0.N) (acc : Vec Ideal S1024x2048 .f32 × Vec Ideal S1024x2048 .bf16)
    (h0 : ¬t.val % 11 = 0) (h1 : ¬t.val % 11 = 10) :
    stAt0 m c t.val t.isLt acc = (k0_pay3 acc.2 (iblk m c 2 t) (iblk m c 3 t) acc.1 (iblk m c 4 t), acc.2) := by
  rw [stAt0_B m c t acc h0 h1]
  refine Prod.ext ?_ ?_
  · dsimp only; frame_out
    exact congrArg (fun h => k0_pay3 h (iblk m c 2 t) (iblk m c 3 t) acc.1 (iblk m c 4 t))
      (Memref.IsWhole.read_unread (Val := Elt Ideal) (Memref.isWhole_whole cc0_scratch0) acc.2)
  · rfl

/-- The last point of a row tile adds its block, then the residual, and normalises. -/
theorem st_last (c : Dev nD) (t : Fin cfg0.N) (acc : Vec Ideal S1024x2048 .f32 × Vec Ideal S1024x2048 .bf16)
    (h0 : ¬t.val % 11 = 0) (h1 : t.val % 11 = 10) :
    stAt0 m c t.val t.isLt acc
      = (k0_pay4 (iblk m c 0 t) (k0_pay3 acc.2 (iblk m c 2 t) (iblk m c 3 t) acc.1 (iblk m c 4 t)) (iblk m c 5 t), acc.2) := by
  rw [stAt0_C m c t acc h0 h1]
  refine Prod.ext ?_ ?_
  · dsimp only; frame_out
    exact congrArg (fun h => k0_pay4 (iblk m c 0 t) (k0_pay3 h (iblk m c 2 t) (iblk m c 3 t) acc.1 (iblk m c 4 t)) (iblk m c 5 t))
      (Memref.IsWhole.read_unread (Val := Elt Ideal) (Memref.isWhole_whole cc0_scratch0) acc.2)
  · rfl

/-! ## The argument arrays, and the blocks of them a point reads -/

abbrev X (c : Dev nD) : Vec Ideal S16384x2048 .f32 := m ((c : Thread nD τ).loc main_arg0)
abbrev G1 (c : Dev nD) : Vec Ideal S2048 .f32 := m ((c : Thread nD τ).loc main_arg1)
abbrev WA (c : Dev nD) : Vec Ideal S2048x5632 .f32 := m ((c : Thread nD τ).loc main_arg2)
abbrev WB (c : Dev nD) : Vec Ideal S2048x5632 .f32 := m ((c : Thread nD τ).loc main_arg3)
abbrev WD (c : Dev nD) : Vec Ideal S5632x2048 .f32 := m ((c : Thread nD τ).loc main_arg4)
abbrev G2 (c : Dev nD) : Vec Ideal S2048 .f32 := m ((c : Thread nD τ).loc main_arg5)

theorem N_eq : cfg0.N = 176 := N_0
theorem row_lt (t : Fin cfg0.N) (r : Fin 1024) : 1024 * (t.val / 11) + r.val < 16384 := by
  have h : t.val < 176 := lt_of_lt_of_eq t.isLt N_eq; have := r.isLt; omega
theorem hid_lt (n : ℕ) (j : Fin 512) : 512 * (n % 11) + j.val < 5632 := by
  have := j.isLt; omega

theorem blk0 (c : Dev nD) (t : Fin cfg0.N) (r : Fin 1024) (k : Fin 2048) :
    iblk m c 0 t (ix2 r k) = X m c (ix2 ⟨1024 * (t.val / 11) + r.val, row_lt t r⟩ k) := by
  blk_point [iblk, V, idx t]

theorem blk1 (c : Dev nD) (t : Fin cfg0.N) (k : Fin 2048) : iblk m c 1 t (ix2 0 k) = G1 m c (ix1 k) := by
  blk_point [iblk, V, idx t]

theorem blk5 (c : Dev nD) (t : Fin cfg0.N) (k : Fin 2048) : iblk m c 5 t (ix2 0 k) = G2 m c (ix1 k) := by
  blk_point [iblk, V, idx t]

theorem blk2 (c : Dev nD) (t : Fin cfg0.N) (k : Fin 2048) (j : Fin 512) :
    iblk m c 2 t (ix2 k j) = WA m c (ix2 k ⟨512 * (t.val % 11) + j.val, hid_lt _ j⟩) := by
  blk_point [iblk, V, idx t]

theorem blk3 (c : Dev nD) (t : Fin cfg0.N) (k : Fin 2048) (j : Fin 512) :
    iblk m c 3 t (ix2 k j) = WB m c (ix2 k ⟨512 * (t.val % 11) + j.val, hid_lt _ j⟩) := by
  blk_point [iblk, V, idx t]

theorem blk4 (c : Dev nD) (t : Fin cfg0.N) (j : Fin 512) (l : Fin 2048) :
    iblk m c 4 t (ix2 j l) = WD m c (ix2 ⟨512 * (t.val % 11) + j.val, hid_lt _ j⟩ l) := by
  blk_point [iblk, V, idx t]

end Cert.FfnIdeal.Hand

end
-- ==== Proof.Ffn.Sum.lean ====
/-
  The feed-forward kernel's accumulation over the eleven blocks of hidden units, and the array it ends with.
-/
module

public import proofs.«01_k».proof.Proof.Ffn.Steps

@[expose] public section

set_option maxRecDepth 16384

noncomputable section

open Idealize.ShloMosaic Idealize.ShloMosaic.TcCoe Idealize.SL.Sem

namespace Cert.FfnIdeal.Hand

open Cert.FfnIdeal Cert.FfnIdeal.Gen Cert.FfnIdeal.Value Cert.Rows

variable (m : (ℓ : Loc nD τ sig) → Buf (Elt Ideal) ℓ)

/-- Row `R` of the input, normalised. -/
def hrow (c : Dev nD) (R : Fin 16384) (k : Fin 2048) : EReal :=
  rms (fun k => X m c (ix2 R k)) (fun k => G1 m c (ix1 k)) k

/-- Hidden unit `q`'s contribution to element `l` of row `R`. -/
def term (c : Dev nD) (R : Fin 16384) (l : Fin 2048) (q : Fin 5632) : EReal :=
  unit (hrow m c R) (fun k => WA m c (ix2 k q)) (fun k => WB m c (ix2 k q)) * WD m c (ix2 q l)

/-- The same contribution by the unit's number, nothing past the last unit. -/
def termAt (c : Dev nD) (R : Fin 16384) (l : Fin 2048) (n : ℕ) : EReal := if h : n < 5632 then term m c R l ⟨n, h⟩ else 0

/-- One element of the layer's result. -/
def out (c : Dev nD) (R : Fin 16384) (k : Fin 2048) : EReal :=
  rms (fun k => X m c (ix2 R k) + ∑ q, term m c R k q) (fun k => G2 m c (ix1 k)) k

/-- The array row that row `r` of point `t`'s tile is. -/
abbrev row (t : Fin cfg0.N) (r : Fin 1024) : Fin 16384 := ⟨1024 * (t.val / 11) + r.val, row_lt t r⟩

theorem sum_all (c : Dev nD) (R : Fin 16384) (l : Fin 2048) :
    ∑ n ∈ Finset.range 5632, termAt m c R l n = ∑ q, term m c R l q := by
  rw [Finset.sum_range]
  exact Finset.sum_congr rfl fun q _ => dif_pos q.isLt

/-- The rows kept in the scratch are the normalised rows. -/
theorem keep (c : Dev nD) (t : Fin cfg0.N) (r : Fin 1024) (k : Fin 2048) :
    k0_pay1 (iblk m c 0 t) (iblk m c 1 t) (ix2 r k) = hrow m c (row t r) k := by
  rw [pay1_apply]
  unfold hrow
  simp only [blk0, blk1]

/-- One accumulation step at coordinates: it adds the contributions of the block's 512 hidden units. -/
theorem add_block (c : Dev nD) (t : Fin cfg0.N) (h : Vec Ideal S1024x2048 .bf16) (acc : Vec Ideal S1024x2048 .f32)
    (r : Fin 1024) (l : Fin 2048) (hh : ∀ k, h (ix2 r k) = hrow m c (row t r) k)
    (ha : acc (ix2 r l) = ∑ n ∈ Finset.range (512 * (t.val % 11)), termAt m c (row t r) l n) :
    k0_pay3 h (iblk m c 2 t) (iblk m c 3 t) acc (iblk m c 4 t) (ix2 r l)
      = ∑ n ∈ Finset.range (512 * (t.val % 11 + 1)), termAt m c (row t r) l n := by
  rw [pay3_apply, ha, Nat.mul_succ, Finset.sum_range_add, Finset.sum_range (n := 512)]
  refine congrArg (_ + ·) (Finset.sum_congr rfl fun j _ => ?_)
  rw [termAt, dif_pos (hid_lt _ j), term, blk4]
  simp only [blk2, blk3, hh]

/-- WHAT THE KERNEL HOLDS after every point: the normalised rows; the sum over the hidden units so far; and the finished
    rows after a tile's last point. -/
theorem held (c : Dev nD) (n : ℕ) : ∀ hn : n < cfg0.N,
    (∀ r k, (outsAt0 m c n hn).2 (ix2 r k) = hrow m c (row ⟨n, hn⟩ r) k)
    ∧ (n % 11 < 10 → ∀ r l, (outsAt0 m c n hn).1 (ix2 r l)
        = ∑ q ∈ Finset.range (512 * (n % 11 + 1)), termAt m c (row ⟨n, hn⟩ r) l q)
    ∧ (n % 11 = 10 → ∀ r k, (outsAt0 m c n hn).1 (ix2 r k) = out m c (row ⟨n, hn⟩ r) k) := by
  have first : ∀ (t : Fin cfg0.N) acc, t.val % 11 = 0 →
      (∀ r k, (stAt0 m c t.val t.isLt acc).2 (ix2 r k) = hrow m c (row t r) k)
      ∧ (t.val % 11 < 10 → ∀ r l, (stAt0 m c t.val t.isLt acc).1 (ix2 r l)
          = ∑ q ∈ Finset.range (512 * (t.val % 11 + 1)), termAt m c (row t r) l q)
      ∧ (t.val % 11 = 10 → ∀ r k, (stAt0 m c t.val t.isLt acc).1 (ix2 r k) = out m c (row t r) k) := by
    intro t acc h0
    rw [st_first m c t acc h0 (by omega)]
    refine ⟨fun r k => keep m c t r k, fun _ r l => ?_, fun h => absurd h (by omega)⟩
    refine add_block m c t _ _ r l (fun k => keep m c t r k) ?_
    rw [h0, Nat.mul_zero, Finset.sum_range_zero]
    exact pay2_apply r l
  induction n with
  | zero =>
    intro hn
    rw [outsAt0_zero]
    exact first ⟨0, hn⟩ junk0 rfl
  | succ n ih =>
    intro hn
    obtain ⟨i1, i2, -⟩ := ih (Nat.lt_of_succ_lt hn)
    rw [outsAt0_succ]
    generalize outsAt0 m c n (Nat.lt_of_succ_lt hn) = acc at i1 i2 ⊢
    by_cases h0 : (n + 1) % 11 = 0
    · exact first ⟨n + 1, hn⟩ acc h0
    have hd : (n + 1) / 11 = n / 11 := by omega
    have hm : (n + 1) % 11 = n % 11 + 1 := by omega
    have hr : ∀ r, row ⟨n, Nat.lt_of_succ_lt hn⟩ r = row ⟨n + 1, hn⟩ r := fun r => Fin.ext (by dsimp only; rw [hd])
    have j1 : ∀ r k, acc.2 (ix2 r k) = hrow m c (row ⟨n + 1, hn⟩ r) k := fun r k => by rw [i1, hr]
    have j2 : ∀ r l, acc.1 (ix2 r l) = ∑ q ∈ Finset.range (512 * ((n + 1) % 11)), termAt m c (row ⟨n + 1, hn⟩ r) l q :=
      fun r l => by rw [i2 (by omega), hr, hm]
    have j3 := fun r l => add_block m c ⟨n + 1, hn⟩ acc.2 acc.1 r l (j1 r) (j2 r l)
    by_cases h1 : (n + 1) % 11 = 10
    · rw [st_last m c ⟨n + 1, hn⟩ acc h0 h1]
      refine ⟨j1, fun h => absurd h (by omega), fun _ r k => ?_⟩
      dsimp only
      rw [pay4_apply]
      unfold out
      simp only [j3, blk0, blk5, h1, ← sum_all]
    · rw [st_mid m c ⟨n + 1, hn⟩ acc h0 h1]
      exact ⟨j1, fun _ r l => j3 r l, fun h => absurd h h1⟩

/-- The result array, element by element. -/
def result (c : Dev nD) : Vec Ideal S16384x2048 .f32 := fun i => out m c (i 0) (i 1)

/-- THE ARRAY after the run is the layer's result. -/
theorem final (c : Dev nD) : (dats m 0 c).arrAt 6 cfg0.N = result m c := by
  refine (dats m 0 c).arrAt_eq_of_covers 6 _ (by decide +kernel) fun t hf y => ?_
  have hm : t.val % 11 = 10 := (flush0_6 t).mp hf
  blk_simp
  rw [after0_6]
  have e := (held m c t.val t.isLt).2.2 hm (y 0) (y 1)
  refine ((congrArg (outsAt0 m c t.val t.isLt).1 (eq_ix2 _)).trans e).trans ?_
  unfold result
  congr 1
  · exact Fin.ext (by blk_simp [idx t]; show 1024 * (t.val / 11) + (y 0).val = _; omega)
  · exact Fin.ext (by blk_simp [idx t])

end Cert.FfnIdeal.Hand

end
-- ==== Proof.Ffn.Ref.lean ====
/-
  The feed-forward reference read at an element, and the claim.
-/
module

public import proofs.«01_k».proof.Proof.Ffn.Sum
public import proofs.«01_k».proof.Proof.Gen.FfnRefIdeal.Read

@[expose] public section

set_option maxRecDepth 16384

noncomputable section

open Idealize.ShloMosaic Idealize.ShloMosaic.TcCoe Idealize.SL.Sem

namespace Cert.FfnRefIdeal.Hand

open Cert.FfnRefIdeal Cert.FfnRefIdeal.Gen Cert.FfnRefIdeal.Read Cert.Rows

/-- The reference at an element: the residual row plus its hidden units' contributions, normalised. -/
theorem ref_apply (x : FVec Ideal S16384x2048 .f32) (g : FVec Ideal S2048 .f32) (a b : FVec Ideal S2048x5632 .f32)
    (d : FVec Ideal S5632x2048 .f32) (f : FVec Ideal S2048 .f32) (R : Fin 16384) (l : Fin 2048) :
    val_main_v31 (F := Ideal) x g a b d f (ix2 R l)
      = rms (fun k => x (ix2 R k) + ∑ q, unit (rms (fun k => x (ix2 R k)) (fun k => g (ix1 k))) (fun k => a (ix2 k q)) (fun k => b (ix2 k q)) * d (ix2 q k))
          (fun k => f (ix1 k)) l := by
  unfold rms scale unit Ideal.logistic
  pointwise [val_main_v31, val_main_v30, val_main_v29, val_main_v28, val_main_v27, val_main_v26, val_main_v25, val_main_v24,
    val_main_cst_4, val_main_v23, val_main_v22, val_main_cst_3, val_main_v21, val_main_v20, val_main_cst_2,
    val_main_v19, val_main_v18, val_main_v17, val_main_v16, val_main_v15, val_main_v14, val_main_call0_v5,
    val_main_call0_v4, val_main_call0_cst_0, val_main_call0_v3, val_main_call0_v2, val_main_call0_cst,
    val_main_call0_v1, val_main_call0_v0, val_main_v13, val_main_v12, val_main_v11, val_main_v10, val_main_v9,
    val_main_v8, val_main_v7, val_main_v6, val_main_v5, val_main_cst_1, val_main_v4, val_main_v3, val_main_cst_0,
    val_main_v2, val_main_v1, val_main_cst, val_main_v0]

end Cert.FfnRefIdeal.Hand

end
-- ==== Proof.Ffn.Claims.lean ====
/-
  The feed-forward claims, each on its own.
-/
module

public import proofs.«01_k».proof.Defs
public import proofs.«01_k».proof.Proof.Gen.Ffn.Frame
public import proofs.«01_k».proof.Proof.Ffn.Ref
public import Idealize.ShloMosaic.Lib.Quiescent

@[expose] public section

set_option maxRecDepth 16384

noncomputable section

open Idealize.ShloMosaic Idealize.ShloMosaic.TcCoe Idealize.SL.Sem

namespace Cert.Proof.Ffn

/-- The kernel's frame. -/
theorem frame : Cert.quiescent_Ffn := fun m ρ _ => Cert.Ffn.Gen.frame m ρ
/-- The idealized kernel's frame. -/
theorem frame_ideal : Cert.quiescent_FfnIdeal := fun m ρ _ => Cert.FfnIdeal.Gen.frame m ρ
/-- The reference's frame: its run read at the arguments. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel's result is the reference's: both are the same row function of the arguments, element by element. -/
theorem algebraic : Cert.algebraic_FfnIdeal_FfnRefIdeal := by
  intro m ρ m' ρ' _ hag
  refine ⟨fun c => Cert.FfnIdeal.Hand.result m c, ?_, ?_⟩
  · exact (θ_run Cert.FfnIdeal.defs _ _).mono
      (fun _ h c => ⟨(h c).1.trans (Cert.FfnIdeal.Hand.final m c), (h c).2⟩)
      (Cert.FfnIdeal.Value.run_blocks (F := Ideal) m ρ)
  · refine (θ_run Cert.FfnRefIdeal.defs _ _).mono (fun _ h c => ⟨(h c).1.trans ?_, (h c).2⟩)
      (Cert.FfnRefIdeal.Value.run (F := Ideal) m' ρ')
    obtain ⟨h0, h1, h2, h3, h4, h5⟩ := hag c
    rw [Cert.FfnRefIdeal.Read.val_main_v31_eq, h0, h1, h2, h3, h4, h5]
    funext i
    exact (congrArg _ (eq_ix2 i)).trans (Cert.FfnRefIdeal.Hand.ref_apply _ _ _ _ _ _ (i 0) (i 1))

end Cert.Proof.Ffn

end
-- ==== Proof.Merge.Half.lean ====
/-
  The logistic function by way of the hyperbolic tangent, over the extended reals.
-/
module

public import Idealize.ShloMosaic.Lib.IdealHost
public import Idealize.ShloMosaic.Lib.Pointwise

@[expose] public section

noncomputable section

open Idealize.ShloMosaic

namespace Cert.Rows

/-- The single-precision word of one half. -/
theorem half_word : Ideal.ofBits .f32 0x3F000000#32 = ((1 / 2 : ℝ) : EReal) := by
  simp [Ideal.ofBits, Ideal.ieee, -EReal.coe_mul]; norm_num

/-- Half the tangent of half the argument, plus one half, over the reals. -/
theorem half_tanh_real (x : ℝ) : 1 / 2 * Real.tanh (1 / 2 * x) + 1 / 2 = 1 / (1 + Real.exp (-x)) := by
  have hy : Real.exp (-x) = Real.exp (-(1 / 2 * x)) * Real.exp (-(1 / 2 * x)) := by rw [← Real.exp_add]; congr 1; ring
  have hp : Real.exp (1 / 2 * x) * Real.exp (-(1 / 2 * x)) = 1 := by rw [← Real.exp_add]; simp
  have h1 : 0 < Real.exp (1 / 2 * x) := Real.exp_pos _
  have h2 : 0 < Real.exp (-(1 / 2 * x)) := Real.exp_pos _
  rw [Real.tanh_eq_sinh_div_cosh, Real.sinh_eq, Real.cosh_eq, hy]
  generalize Real.exp (1 / 2 * x) = a at *
  generalize Real.exp (-(1 / 2 * x)) = b at *
  have h3 : a + b ≠ 0 := by positivity
  have h4 : 1 + b * b ≠ 0 := by positivity
  field_simp
  nlinarith [hp]

/-- The same over the extended reals: the gate the kernel computes is the logistic function. -/
theorem half_tanh (x : EReal) :
    Ideal.ofBits .f32 0x3F000000#32 * Ideal.tanh (Ideal.ofBits .f32 0x3F000000#32 * x) + Ideal.ofBits .f32 0x3F000000#32
      = Ideal.logistic x := by
  rw [half_word]
  have hh : (0 : ℝ) < 1 / 2 := by norm_num
  induction x using EReal.rec with
  | bot =>
    rw [EReal.coe_mul_bot_of_pos hh, Ideal.logistic_bot]
    show ((1 / 2 : ℝ) : EReal) * (((-1 : ℝ)) : EReal) + ((1 / 2 : ℝ) : EReal) = ((0 : ℝ) : EReal)
    rw [← EReal.coe_mul, ← EReal.coe_add]
    norm_num
  | top =>
    rw [EReal.coe_mul_top_of_pos hh, Ideal.logistic_top]
    show ((1 / 2 : ℝ) : EReal) * ((1 : ℝ) : EReal) + ((1 / 2 : ℝ) : EReal) = ((1 : ℝ) : EReal)
    rw [← EReal.coe_mul, ← EReal.coe_add]
    norm_num
  | coe r =>
    rw [← EReal.coe_mul, Ideal.logistic_coe]
    show ((1 / 2 : ℝ) : EReal) * ((Real.tanh (1 / 2 * r) : ℝ) : EReal) + ((1 / 2 : ℝ) : EReal) = _
    rw [← EReal.coe_mul, ← EReal.coe_add, half_tanh_real]
    congr 1
    first | rfl | simp | (rw [one_div])

end Cert.Rows

end
-- ==== Proof.Merge.Claims.lean ====
/-
  The gated merge of the two branches: the kernel's tiles and the plain formula agree.
-/
module

public import proofs.«01_k».proof.Defs
public import proofs.«01_k».proof.Proof.Gen.MergeIdeal.Value
public import proofs.«01_k».proof.Proof.Gen.MergeRefIdeal.Read
public import proofs.«01_k».proof.Proof.Gen.Merge.Frame
public import proofs.«01_k».proof.Proof.Merge.Half
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Rows

/-- One merged element: each branch's row against its column, gated. -/
def merged (a b : EReal) (p q u w : Fin 2048 → EReal) : EReal :=
  Ideal.logistic a * (∑ k, p k * u k) + Ideal.logistic b * ∑ k, q k * w k

end Cert.Rows

namespace Cert.MergeIdeal.Hand

open Cert.MergeIdeal Cert.MergeIdeal.Gen Cert.MergeIdeal.Value Cert.Rows

theorem pay2_apply (w : Vec Ideal S2048x512 .f32) (k : Fin 2048) (j : Fin 512) : k0_pay2 w (ix2 k j) = w (ix2 k j) := by
  pointwise [k0_pay2]

theorem pay3_apply (w : Vec Ideal S2048x512 .f32) (k : Fin 2048) (j : Fin 512) : k0_pay3 w (ix2 k j) = w (ix2 k j) := by
  pointwise [k0_pay3]

/-- One branch: its gate, the half-angle form of the logistic, times its product. -/
theorem pay4_apply (g : Vec Ideal S1024x512 .bf16) (x : Vec Ideal S1024x2048 .bf16) (w : Vec Ideal S2048x512 .bf16) (r : Fin 1024) (j : Fin 512) :
    k0_pay4 g x w (ix2 r j) = Ideal.logistic (g (ix2 r j)) * ∑ k, x (ix2 r k) * w (ix2 k j) := by
  rw [← half_tanh]
  pointwise [k0_pay4]

theorem pay5_apply (g : Vec Ideal S1024x512 .bf16) (x : Vec Ideal S1024x2048 .bf16) (w : Vec Ideal S2048x512 .bf16) (r : Fin 1024) (j : Fin 512) :
    k0_pay5 g x w (ix2 r j) = Ideal.logistic (g (ix2 r j)) * ∑ k, x (ix2 r k) * w (ix2 k j) := by
  rw [← half_tanh]
  pointwise [k0_pay5]

theorem pay1_apply (x y : FVec Ideal S1024x512 .f32) (r : Fin 1024) (j : Fin 512) : k0_pay1 x y (ix2 r j) = x (ix2 r j) + y (ix2 r j) := by
  pointwise [k0_pay1]

variable (m : (ℓ : Loc nD τ sig) → Buf (Elt Ideal) ℓ)

/-- The windows' block indices: the column tile is `t / 16`, the row tile `t % 16`; the second gate lies four tiles further. -/
theorem idx : ∀ t : Fin cfg0.N, win0_0.index t = ![t.val % 16, 0] ∧ win0_1.index t = ![t.val % 16, 0]
    ∧ win0_2.index t = ![0, t.val / 16] ∧ win0_3.index t = ![0, t.val / 16] ∧ win0_4.index t = ![t.val % 16, t.val / 16]
    ∧ win0_5.index t = ![t.val % 16, t.val / 16 + 4] ∧ win0_6.index t = ![t.val % 16, t.val / 16] :=
  (by decide +kernel : ∀ t : Fin grid0.N, _)

abbrev Acc : Type := Vec Ideal S1024x512 .bf16 × Vec Ideal S2048x512 .bf16 × Vec Ideal S2048x512 .bf16

/-- The stored tile, from the point's blocks and the kept weights. -/
abbrev tile (c : Dev nD) (t : Fin cfg0.N) (u w : Vec Ideal S2048x512 .bf16) : Vec Ideal S1024x512 .bf16 :=
  k0_pay1 (k0_pay4 (iblk m c 4 t) (iblk m c 0 t) u) (k0_pay5 (iblk m c 5 t) (iblk m c 1 t) w)

/-- The first row tile of a column tile keeps both weights and stores its tile. -/
theorem st_first (c : Dev nD) (t : Fin cfg0.N) (acc : Acc) (h0 : t.val % 16 = 0) :
    stAt0 m c t.val t.isLt acc = (tile m c t (k0_pay2 (iblk m c 2 t)) (k0_pay3 (iblk m c 3 t)), k0_pay2 (iblk m c 2 t), k0_pay3 (iblk m c 3 t)) := by
  rw [stAt0_A m c t acc h0 h0]
  refine Prod.ext ?_ (Prod.ext ?_ ?_)
  · dsimp only; frame_out
  · dsimp only; frame_out
  · dsimp only; frame_out

/-- Every other row tile uses the weights kept by the first. -/
theorem st_next (c : Dev nD) (t : Fin cfg0.N) (acc : Acc) (h0 : ¬t.val % 16 = 0) :
    stAt0 m c t.val t.isLt acc = (tile m c t acc.2.1 acc.2.2, acc.2.1, acc.2.2) := by
  rw [stAt0_B m c t acc h0 h0]
  refine Prod.ext ?_ (Prod.ext rfl rfl)
  dsimp only; frame_out
  exact congrArg₂ (fun u w => tile m c t u w)
    (Memref.IsWhole.read_unread (Val := Elt Ideal) (Memref.isWhole_whole cc0_scratch0) acc.2.1)
    (Memref.IsWhole.read_unread (Val := Elt Ideal) (Memref.isWhole_whole cc0_scratch1) acc.2.2)

abbrev P (c : Dev nD) : Vec Ideal S16384x2048 .bf16 := m ((c : Thread nD τ).loc main_arg0)
abbrev Q (c : Dev nD) : Vec Ideal S16384x2048 .bf16 := m ((c : Thread nD τ).loc main_arg1)
abbrev U (c : Dev nD) : Vec Ideal S2048x2048 .f32 := m ((c : Thread nD τ).loc main_arg2)
abbrev W (c : Dev nD) : Vec Ideal S2048x2048 .f32 := m ((c : Thread nD τ).loc main_arg3)
abbrev G (c : Dev nD) : Vec Ideal S16384x4096 .bf16 := m ((c : Thread nD τ).loc main_arg4)

theorem N_eq : cfg0.N = 64 := N_0
theorem row_lt (t : Fin cfg0.N) (r : Fin 1024) : 1024 * (t.val % 16) + r.val < 16384 := by
  have h := r.isLt; omega
theorem col_lt (t : Fin cfg0.N) (j : Fin 512) : 512 * (t.val / 16) + j.val < 2048 := by
  have h : t.val < 64 := lt_of_lt_of_eq t.isLt N_eq; have := j.isLt; omega
abbrev row (t : Fin cfg0.N) (r : Fin 1024) : Fin 16384 := ⟨1024 * (t.val % 16) + r.val, row_lt t r⟩
abbrev col (t : Fin cfg0.N) (j : Fin 512) : Fin 2048 := ⟨512 * (t.val / 16) + j.val, col_lt t j⟩
/-- The column of the first branch's gate, and of the second's. -/
abbrev colA (l : Fin 2048) : Fin 4096 := ⟨l.val, by have := l.isLt; omega⟩
abbrev colB (l : Fin 2048) : Fin 4096 := ⟨2048 + l.val, by have := l.isLt; omega⟩

theorem blk0 (c : Dev nD) (t : Fin cfg0.N) (r : Fin 1024) (k : Fin 2048) : iblk m c 0 t (ix2 r k) = P m c (ix2 (row t r) k) := by
  blk_point [iblk, V, idx t]
theorem blk1 (c : Dev nD) (t : Fin cfg0.N) (r : Fin 1024) (k : Fin 2048) : iblk m c 1 t (ix2 r k) = Q m c (ix2 (row t r) k) := by
  blk_point [iblk, V, idx t]
theorem blk2 (c : Dev nD) (t : Fin cfg0.N) (k : Fin 2048) (j : Fin 512) : iblk m c 2 t (ix2 k j) = U m c (ix2 k (col t j)) := by
  blk_point [iblk, V, idx t]
theorem blk3 (c : Dev nD) (t : Fin cfg0.N) (k : Fin 2048) (j : Fin 512) : iblk m c 3 t (ix2 k j) = W m c (ix2 k (col t j)) := by
  blk_point [iblk, V, idx t]
theorem blk4 (c : Dev nD) (t : Fin cfg0.N) (r : Fin 1024) (j : Fin 512) : iblk m c 4 t (ix2 r j) = G m c (ix2 (row t r) (colA (col t j))) := by
  blk_point [iblk, V, idx t]
theorem blk5 (c : Dev nD) (t : Fin cfg0.N) (r : Fin 1024) (j : Fin 512) : iblk m c 5 t (ix2 r j) = G m c (ix2 (row t r) (colB (col t j))) := by
  blk_point [iblk, V, idx t]

/-- The merged result at row `R`, column `l`. -/
def out (c : Dev nD) (R : Fin 16384) (l : Fin 2048) : EReal :=
  merged (G m c (ix2 R (colA l))) (G m c (ix2 R (colB l))) (fun k => P m c (ix2 R k)) (fun k => Q m c (ix2 R k))
    (fun k => U m c (ix2 k l)) (fun k => W m c (ix2 k l))

/-- A tile made with the column tile's weights is the result there. -/
theorem tile_apply (c : Dev nD) (t : Fin cfg0.N) (u w : Vec Ideal S2048x512 .bf16) (hu : ∀ k j, u (ix2 k j) = U m c (ix2 k (col t j)))
    (hw : ∀ k j, w (ix2 k j) = W m c (ix2 k (col t j))) (r : Fin 1024) (j : Fin 512) :
    tile m c t u w (ix2 r j) = out m c (row t r) (col t j) := by
  unfold tile out merged
  rw [pay1_apply, pay4_apply, pay5_apply]
  simp only [blk0, blk1, blk4, blk5, hu, hw]

/-- After point `n` the kept weights are the column tile's and the output block is the result's. -/
theorem held (c : Dev nD) (n : ℕ) : ∀ hn : n < cfg0.N,
    (∀ k j, (outsAt0 m c n hn).2.1 (ix2 k j) = U m c (ix2 k (col ⟨n, hn⟩ j)))
    ∧ (∀ k j, (outsAt0 m c n hn).2.2 (ix2 k j) = W m c (ix2 k (col ⟨n, hn⟩ j)))
    ∧ (∀ r j, (outsAt0 m c n hn).1 (ix2 r j) = out m c (row ⟨n, hn⟩ r) (col ⟨n, hn⟩ j)) := by
  have first : ∀ (t : Fin cfg0.N) acc, t.val % 16 = 0 →
      (∀ k j, (stAt0 m c t.val t.isLt acc).2.1 (ix2 k j) = U m c (ix2 k (col t j)))
      ∧ (∀ k j, (stAt0 m c t.val t.isLt acc).2.2 (ix2 k j) = W m c (ix2 k (col t j)))
      ∧ (∀ r j, (stAt0 m c t.val t.isLt acc).1 (ix2 r j) = out m c (row t r) (col t j)) := by
    intro t acc h0
    rw [st_first m c t acc h0]
    have e1 : ∀ k j, k0_pay2 (iblk m c 2 t) (ix2 k j) = U m c (ix2 k (col t j)) := fun k j => (pay2_apply _ k j).trans (blk2 m c t k j)
    have e2 : ∀ k j, k0_pay3 (iblk m c 3 t) (ix2 k j) = W m c (ix2 k (col t j)) := fun k j => (pay3_apply _ k j).trans (blk3 m c t k j)
    exact ⟨e1, e2, tile_apply m c t _ _ e1 e2⟩
  induction n with
  | zero =>
    intro hn
    rw [outsAt0_zero]
    exact first ⟨0, hn⟩ junk0 rfl
  | succ n ih =>
    intro hn
    obtain ⟨i1, i2, -⟩ := ih (Nat.lt_of_succ_lt hn)
    rw [outsAt0_succ]
    generalize outsAt0 m c n (Nat.lt_of_succ_lt hn) = acc at i1 i2 ⊢
    by_cases h0 : (n + 1) % 16 = 0
    · exact first ⟨n + 1, hn⟩ acc h0
    have hd : n / 16 = (n + 1) / 16 := by omega
    simp only [col, hd] at i1 i2
    rw [st_next m c ⟨n + 1, hn⟩ acc h0]
    exact ⟨i1, i2, tile_apply m c ⟨n + 1, hn⟩ _ _ i1 i2⟩

/-- The result array, element by element. -/
def result (c : Dev nD) : Vec Ideal S16384x2048 .bf16 := fun i => out m c (i 0) (i 1)

/-- The array after the run is the merged result. -/
theorem final (c : Dev nD) : (dats m 0 c).arrAt 6 cfg0.N = result m c := by
  refine (dats m 0 c).arrAt_eq_of_covers 6 _ (by decide +kernel) fun t hf y => ?_
  blk_simp
  rw [after0_6]
  refine ((congrArg (outsAt0 m c t.val t.isLt).1 (eq_ix2 _)).trans ((held m c t.val t.isLt).2.2 (y 0) (y 1))).trans ?_
  unfold result
  congr 1
  · exact Fin.ext (by blk_simp [idx t]; show 1024 * (t.val % 16) + (y 0).val = _; omega)
  · exact Fin.ext (by blk_simp [idx t]; show 512 * (t.val / 16) + (y 1).val = _; omega)

end Cert.MergeIdeal.Hand

namespace Cert.MergeRefIdeal.Hand

open Cert.MergeRefIdeal Cert.MergeRefIdeal.Gen Cert.MergeRefIdeal.Read Cert.Rows

/-- The reference at an element. -/
theorem ref_apply (p q : FVec Ideal S16384x2048 .bf16) (u w : FVec Ideal S2048x2048 .f32) (g : FVec Ideal S16384x4096 .bf16) (R : Fin 16384) (l : Fin 2048) :
    val_main_v22 (F := Ideal) p q u w g (ix2 R l)
      = merged (g (ix2 R ⟨l.val, by have := l.isLt; omega⟩)) (g (ix2 R ⟨2048 + l.val, by have := l.isLt; omega⟩)) (fun k => p (ix2 R k)) (fun k => q (ix2 R k))
          (fun k => u (ix2 k l)) (fun k => w (ix2 k l)) := by
  unfold merged Ideal.logistic
  pointwise [val_main_v22, val_main_v21, val_main_v20, val_main_v19, val_main_v18, val_main_cst_2, val_main_v17, val_main_v16, val_main_cst_1, val_main_v15, val_main_v14, val_main_v13, val_main_v12, val_main_v11, val_main_v10, val_main_cst_0, val_main_v9, val_main_v8, val_main_cst, val_main_v7, val_main_v6, val_main_v5, val_main_v4, val_main_v3, val_main_v2, val_main_v1, val_main_v0]

end Cert.MergeRefIdeal.Hand

namespace Cert.Proof.Merge

/-- The kernel's frame. -/
theorem frame : Cert.quiescent_Merge := fun m ρ _ => Cert.Merge.Gen.frame m ρ
/-- The idealized kernel's frame. -/
theorem frame_ideal : Cert.quiescent_MergeIdeal := fun m ρ _ => Cert.MergeIdeal.Gen.frame m ρ
/-- The reference's frame: its run read at the arguments. -/
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The kernel's result is the reference's: both are the same function of the arguments, element by element. -/
theorem algebraic : Cert.algebraic_MergeIdeal_MergeRefIdeal := by
  intro m ρ m' ρ' _ hag
  refine ⟨fun c => Cert.MergeIdeal.Hand.result m c, ?_, ?_⟩
  · exact (θ_run Cert.MergeIdeal.defs _ _).mono
      (fun _ h c => ⟨(h c).1.trans (Cert.MergeIdeal.Hand.final m c), (h c).2⟩)
      (Cert.MergeIdeal.Value.run_blocks (F := Ideal) m ρ)
  · refine (θ_run Cert.MergeRefIdeal.defs _ _).mono (fun _ h c => ⟨(h c).1.trans ?_, (h c).2⟩)
      (Cert.MergeRefIdeal.Value.run (F := Ideal) m' ρ')
    obtain ⟨h0, h1, h2, h3, h4⟩ := hag c
    rw [Cert.MergeRefIdeal.Read.val_main_v22_eq, h0, h1, h2, h3, h4]
    funext i
    exact (congrArg _ (eq_ix2 i)).trans (Cert.MergeRefIdeal.Hand.ref_apply _ _ _ _ _ (i 0) (i 1))

end Cert.Proof.Merge

end
-- ==== Proof.Memkv.Claims.lean ====
/-
  The memory's keys and values: the kernel's row tiles and the plain formula agree.
-/
module

public import proofs.«01_k».proof.Defs
public import proofs.«01_k».proof.Proof.Gen.MemkvIdeal.Value
public import proofs.«01_k».proof.Proof.Gen.MemkvRefIdeal.Read
public import proofs.«01_k».proof.Proof.Gen.Memkv.Frame
public import proofs.«01_k».proof.Proof.Ffn.Pay
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MemkvIdeal.Hand

open Cert.MemkvIdeal Cert.MemkvIdeal.Gen Cert.MemkvIdeal.Value Cert.Rows

theorem pay1_apply (x : Vec Ideal S256x2048 .f32) (g : Vec Ideal S1x2048 .f32) (w : Vec Ideal S2048x1024 .bf16) (r : Fin 256) (l : Fin 1024) :
    k0_pay1 x g w (ix2 r l) = ∑ k, rms (fun k => x (ix2 r k)) (fun k => g (ix2 0 k)) k * w (ix2 k l) := by
  unfold rms scale
  pointwise [k0_pay1]

theorem out_eq (x : Vec Ideal S256x2048 .f32) (g : Vec Ideal S1x2048 .f32) (w : Vec Ideal S2048x1024 .bf16) : Gen.out0_3 x g w = k0_pay1 x g w := by
  frame_out

variable (m : (ℓ : Loc nD τ sig) → Buf (Elt Ideal) ℓ)

/-- The windows' block indices: point `t` takes the memory of batch element `t`. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

abbrev X (c : Dev nD) : Vec Ideal S4x256x2048 .f32 := m ((c : Thread nD τ).loc main_arg0)
abbrev G (c : Dev nD) : Vec Ideal S2048 .f32 := m ((c : Thread nD τ).loc main_arg1)
abbrev W (c : Dev nD) : Vec Ideal S2048x1024 .f32 := m ((c : Thread nD τ).loc main_arg2)

theorem N_eq : cfg0.N = 4 := N_0

theorem blk0 (c : Dev nD) (t : Fin cfg0.N) (r : Fin 256) (k : Fin 2048) :
    iblk m c 0 t (ix2 r k) = X m c (ix3 ⟨t.val, lt_of_lt_of_eq t.isLt N_eq⟩ r k) := by
  blk_point [iblk, V, idx t]
theorem blk1 (c : Dev nD) (t : Fin cfg0.N) (k : Fin 2048) : iblk m c 1 t (ix2 0 k) = G m c (ix1 k) := by
  blk_point [iblk, V, idx t]
theorem blk2 (c : Dev nD) (t : Fin cfg0.N) (k : Fin 2048) (l : Fin 1024) : iblk m c 2 t (ix2 k l) = W m c (ix2 k l) := by
  blk_point [iblk, V, idx t]

/-- What point `t` stores. -/
theorem point (c : Dev nD) (t : Fin cfg0.N) (r : Fin 256) (l : Fin 1024) :
    k0_pay1 (iblk m c 0 t) (iblk m c 1 t) (iblk m c 2 t) (ix2 r l)
      = ∑ k, rms (fun k => X m c (ix3 ⟨t.val, lt_of_lt_of_eq t.isLt N_eq⟩ r k)) (fun k => G m c (ix1 k)) k * W m c (ix2 k l) := by
  rw [pay1_apply]
  simp only [blk0, blk1, blk2]

/-- The result array, element by element: row `R` is memory slot `R % 256` of batch element `R / 256`. -/
def result (c : Dev nD) : Vec Ideal S1024x1024 .bf16 := fun i =>
  ∑ k, rms (fun k => X m c (ix3 ⟨(i 0).val / 256, by have h : (i 0).val < 1024 := (i 0).isLt; omega⟩ ⟨(i 0).val % 256, Nat.mod_lt _ (by decide)⟩ k))
    (fun k => G m c (ix1 k)) k * W m c (ix2 k (i 1))

/-- The array after the run is the projected memory. -/
theorem final (c : Dev nD) : (dats m 0 c).arrAt 3 cfg0.N = result m c := by
  refine (dats m 0 c).arrAt_eq_of_covers 3 _ (by decide +kernel) fun t hf y => ?_
  blk_simp
  rw [after0_3, out_eq]
  refine ((congrArg (k0_pay1 _ _ _) (eq_ix2 _)).trans (point m c t (y 0) (y 1))).trans ?_
  unfold result
  have hy : (y 0).val < 256 := (y 0).isLt
  have e0 : (((cfg0.win 3).blk t).view.emb y 0).val = 256 * t.val + (y 0).val := by
    show win0_3.index t 0 * 256 + 1 * (y 0).val = _; simp [(idx t).2.2.2]; omega
  have e1 : (((cfg0.win 3).blk t).view.emb y 1).val = (y 1).val := by
    show win0_3.index t 1 * 1024 + 1 * (y 1).val = _; simp [(idx t).2.2.2]
  refine Finset.sum_congr rfl fun k _ => ?_
  congr 1
  · congr 1
    funext k
    congr 2
    · exact Fin.ext (by show t.val = (((cfg0.win 3).blk t).view.emb y 0).val / 256; omega)
    · exact Fin.ext (by show (y 0).val = (((cfg0.win 3).blk t).view.emb y 0).val % 256; omega)
  · congr 2
    exact Fin.ext e1.symm

end Cert.MemkvIdeal.Hand

namespace Cert.MemkvRefIdeal.Hand

open Cert.MemkvRefIdeal Cert.MemkvRefIdeal.Gen Cert.MemkvRefIdeal.Read Cert.Rows

/-- The reference at an element. -/
theorem ref_apply (x : FVec Ideal S4x256x2048 .f32) (g : FVec Ideal S2048 .f32) (w : FVec Ideal S2048x1024 .f32) (R : Fin 1024) (l : Fin 1024) :
    val_main_v15 (F := Ideal) x g w (ix2 R l)
      = ∑ k, rms (fun k => x (ix3 ⟨R.val / 256, by have := R.isLt; omega⟩ ⟨R.val % 256, Nat.mod_lt _ (by decide)⟩ k)) (fun k => g (ix1 k)) k * w (ix2 k l) := by
  unfold rms scale
  pointwise [val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

end Cert.MemkvRefIdeal.Hand

namespace Cert.Proof.Memkv

/-- The kernel's frame. -/
theorem frame : Cert.quiescent_Memkv := fun m ρ _ => Cert.Memkv.Gen.frame m ρ
/-- The idealized kernel's frame. -/
theorem frame_ideal : Cert.quiescent_MemkvIdeal := fun m ρ _ => Cert.MemkvIdeal.Gen.frame m ρ
/-- The reference's frame: its run read at the arguments. -/
theorem frame_ref : Cert.quiescent_MemkvRefIdeal := fun m ρ _ =>
  (θ_run Cert.MemkvRefIdeal.defs _ _).mono (fun r h => ⟨fun c => (h c).2, sem_eq_zero_of_no_sems (by decide) r.2⟩)
    (Cert.MemkvRefIdeal.Value.run (F := Ideal) m ρ)

/-- The kernel's result is the reference's: both are the same function of the arguments, element by element. -/
theorem algebraic : Cert.algebraic_MemkvIdeal_MemkvRefIdeal := by
  intro m ρ m' ρ' _ hag
  refine ⟨fun c => Cert.MemkvIdeal.Hand.result m c, ?_, ?_⟩
  · exact (θ_run Cert.MemkvIdeal.defs _ _).mono
      (fun _ h c => ⟨(h c).1.trans (Cert.MemkvIdeal.Hand.final m c), (h c).2⟩)
      (Cert.MemkvIdeal.Value.run_blocks (F := Ideal) m ρ)
  · refine (θ_run Cert.MemkvRefIdeal.defs _ _).mono (fun _ h c => ⟨(h c).1.trans ?_, (h c).2⟩)
      (Cert.MemkvRefIdeal.Value.run (F := Ideal) m' ρ')
    obtain ⟨h0, h1, h2⟩ := hag c
    rw [Cert.MemkvRefIdeal.Read.val_main_v15_eq, h0, h1, h2]
    funext i
    exact (congrArg _ (eq_ix2 i)).trans (Cert.MemkvRefIdeal.Hand.ref_apply _ _ _ (i 0) (i 1))

end Cert.Proof.Memkv

end
-- ==== Proof.Projxy.Claims.lean ====
/-
  The projection of the two recurrent branches: the kernel's tiles and the plain product agree.
-/
module

public import proofs.«01_k».proof.Defs
public import proofs.«01_k».proof.Proof.Gen.ProjxyIdeal.Value
public import proofs.«01_k».proof.Proof.Gen.ProjxyRefIdeal.Read
public import proofs.«01_k».proof.Proof.Gen.Projxy.Frame
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjxyIdeal.Hand

open Cert.ProjxyIdeal Cert.ProjxyIdeal.Gen Cert.ProjxyIdeal.Value

/-- The weight block is kept as it is: the narrowing is the identity over the extended reals. -/
theorem pay1_apply (w : Vec Ideal S2048x1024 .f32) (k : Fin 2048) (j : Fin 1024) : k0_pay1 w (ix2 k j) = w (ix2 k j) := by
  pointwise [k0_pay1]

/-- The stored block: rows of the tile against columns of the kept weights. -/
theorem pay2_apply (x : Vec Ideal S1024x2048 .bf16) (w : Vec Ideal S2048x1024 .bf16) (r : Fin 1024) (j : Fin 1024) :
    k0_pay2 x w (ix2 r j) = ∑ k, x (ix2 r k) * w (ix2 k j) := by
  pointwise [k0_pay2]

variable (m : (ℓ : Loc nD τ sig) → Buf (Elt Ideal) ℓ)

/-- The windows' block indices: the column tile is `t / 16`, the row tile `t % 16`. -/
theorem idx : ∀ t : Fin cfg0.N, win0_0.index t = ![t.val % 16, 0] ∧ win0_1.index t = ![0, t.val / 16 + 0]
    ∧ win0_2.index t = ![t.val % 16, t.val / 16] :=
  (by decide +kernel : ∀ t : Fin grid0.N, _)

/-- The first row tile of a column tile keeps the weights and stores its product. -/
theorem st_first (c : Dev nD) (t : Fin cfg0.N) (acc : Vec Ideal S1024x1024 .f32 × Vec Ideal S2048x1024 .bf16) (h0 : t.val % 16 = 0) :
    stAt0 m c t.val t.isLt acc = (k0_pay2 (iblk m c 0 t) (k0_pay1 (iblk m c 1 t)), k0_pay1 (iblk m c 1 t)) := by
  rw [stAt0_A m c t acc h0]
  refine Prod.ext ?_ ?_
  · dsimp only; frame_out
  · dsimp only; frame_out

/-- Every other row tile uses the weights kept by the first. -/
theorem st_next (c : Dev nD) (t : Fin cfg0.N) (acc : Vec Ideal S1024x1024 .f32 × Vec Ideal S2048x1024 .bf16) (h0 : ¬t.val % 16 = 0) :
    stAt0 m c t.val t.isLt acc = (k0_pay2 (iblk m c 0 t) acc.2, acc.2) := by
  rw [stAt0_B m c t acc h0]
  refine Prod.ext ?_ ?_
  · dsimp only; frame_out
    exact congrArg (fun h => k0_pay2 (iblk m c 0 t) h)
      (Memref.IsWhole.read_unread (Val := Elt Ideal) (Memref.isWhole_whole cc0_scratch0) acc.2)
  · rfl

abbrev X (c : Dev nD) : Vec Ideal S16384x2048 .bf16 := m ((c : Thread nD τ).loc main_arg0)
abbrev W (c : Dev nD) : Vec Ideal S2048x14336 .f32 := m ((c : Thread nD τ).loc main_arg1)

theorem N_eq : cfg0.N = 64 := N_0
theorem row_lt (t : Fin cfg0.N) (r : Fin 1024) : 1024 * (t.val % 16) + r.val < 16384 := by
  have h := r.isLt; omega
theorem col_lt (t : Fin cfg0.N) (j : Fin 1024) : 0 + (1024 * (t.val / 16) + j.val) < 14336 := by
  have h : t.val < 64 := lt_of_lt_of_eq t.isLt N_eq; have := j.isLt; omega

theorem blk0 (c : Dev nD) (t : Fin cfg0.N) (r : Fin 1024) (k : Fin 2048) :
    iblk m c 0 t (ix2 r k) = X m c (ix2 ⟨1024 * (t.val % 16) + r.val, row_lt t r⟩ k) := by
  blk_point [iblk, V, idx t]

theorem blk1 (c : Dev nD) (t : Fin cfg0.N) (k : Fin 2048) (j : Fin 1024) :
    iblk m c 1 t (ix2 k j) = W m c (ix2 k ⟨0 + (1024 * (t.val / 16) + j.val), col_lt t j⟩) := by
  blk_point [iblk, V, idx t]

/-- After point `n` the kept weights are the column tile's and the output block is its product. -/
theorem held (c : Dev nD) (n : ℕ) : ∀ hn : n < cfg0.N,
    (∀ k j, (outsAt0 m c n hn).2 (ix2 k j) = W m c (ix2 k ⟨0 + (1024 * (n / 16) + j.val), col_lt ⟨n, hn⟩ j⟩))
    ∧ (∀ r j, (outsAt0 m c n hn).1 (ix2 r j) = ∑ k, X m c (ix2 ⟨1024 * (n % 16) + r.val, row_lt ⟨n, hn⟩ r⟩ k)
        * W m c (ix2 k ⟨0 + (1024 * (n / 16) + j.val), col_lt ⟨n, hn⟩ j⟩)) := by
  have first : ∀ (t : Fin cfg0.N) acc, t.val % 16 = 0 →
      (∀ k j, (stAt0 m c t.val t.isLt acc).2 (ix2 k j) = W m c (ix2 k ⟨0 + (1024 * (t.val / 16) + j.val), col_lt t j⟩))
      ∧ (∀ r j, (stAt0 m c t.val t.isLt acc).1 (ix2 r j) = ∑ k, X m c (ix2 ⟨1024 * (t.val % 16) + r.val, row_lt t r⟩ k)
          * W m c (ix2 k ⟨0 + (1024 * (t.val / 16) + j.val), col_lt t j⟩)) := by
    intro t acc h0
    rw [st_first m c t acc h0]
    refine ⟨fun k j => ?_, fun r j => ?_⟩
    · dsimp only; rw [pay1_apply, blk1]
    · dsimp only; rw [pay2_apply]; simp only [pay1_apply, blk0, blk1]
  induction n with
  | zero =>
    intro hn
    rw [outsAt0_zero]
    exact first ⟨0, hn⟩ junk0 rfl
  | succ n ih =>
    intro hn
    obtain ⟨i1, -⟩ := ih (Nat.lt_of_succ_lt hn)
    rw [outsAt0_succ]
    generalize outsAt0 m c n (Nat.lt_of_succ_lt hn) = acc at i1 ⊢
    by_cases h0 : (n + 1) % 16 = 0
    · exact first ⟨n + 1, hn⟩ acc h0
    have hd : n / 16 = (n + 1) / 16 := by omega
    simp only [hd] at i1
    rw [st_next m c ⟨n + 1, hn⟩ acc h0]
    refine ⟨i1, fun r j => ?_⟩
    dsimp only
    rw [pay2_apply]
    simp only [blk0, i1]

/-- The result array, element by element. -/
def result (c : Dev nD) : Vec Ideal S16384x4096 .f32 := fun i =>
  ∑ k, X m c (ix2 (i 0) k) * W m c (ix2 k ⟨0 + (i 1).val, by have h : (i 1).val < 4096 := (i 1).isLt; omega⟩)

/-- The array after the run is the product. -/
theorem final (c : Dev nD) : (dats m 0 c).arrAt 2 cfg0.N = result m c := by
  refine (dats m 0 c).arrAt_eq_of_covers 2 _ (by decide +kernel) fun t hf y => ?_
  blk_simp
  rw [after0_2]
  refine ((congrArg (outsAt0 m c t.val t.isLt).1 (eq_ix2 _)).trans ((held m c t.val t.isLt).2 (y 0) (y 1))).trans ?_
  unfold result
  refine Finset.sum_congr rfl fun k _ => ?_
  congr 3
  · exact Fin.ext (by blk_simp [idx t]; show 1024 * (t.val % 16) + (y 0).val = _; omega)
  · exact Fin.ext (by blk_simp [idx t]; dsimp only; omega)

end Cert.ProjxyIdeal.Hand

namespace Cert.ProjxyRefIdeal.Hand

open Cert.ProjxyRefIdeal Cert.ProjxyRefIdeal.Gen Cert.ProjxyRefIdeal.Read

/-- The reference at an element: the row against the column of its part of the weights. -/
theorem ref_apply (x : FVec Ideal S16384x2048 .bf16) (w : FVec Ideal S2048x14336 .f32) (R : Fin 16384) (l : Fin 4096) :
    val_main_v2 (F := Ideal) x w (ix2 R l) = ∑ k, x (ix2 R k) * w (ix2 k ⟨0 + l.val, by have := l.isLt; omega⟩) := by
  pointwise [val_main_v2, val_main_v1, val_main_v0]

end Cert.ProjxyRefIdeal.Hand

namespace Cert.Proof.Projxy

/-- The kernel's frame. -/
theorem frame : Cert.quiescent_Projxy := fun m ρ _ => Cert.Projxy.Gen.frame m ρ
/-- The idealized kernel's frame. -/
theorem frame_ideal : Cert.quiescent_ProjxyIdeal := fun m ρ _ => Cert.ProjxyIdeal.Gen.frame m ρ
/-- The reference's frame: its run read at the arguments. -/
theorem frame_ref : Cert.quiescent_ProjxyRefIdeal := fun m ρ _ =>
  (θ_run Cert.ProjxyRefIdeal.defs _ _).mono (fun r h => ⟨fun c => (h c).2, sem_eq_zero_of_no_sems (by decide) r.2⟩)
    (Cert.ProjxyRefIdeal.Value.run (F := Ideal) m ρ)

/-- The kernel's result is the reference's: both are the same function of the arguments, element by element. -/
theorem algebraic : Cert.algebraic_ProjxyIdeal_ProjxyRefIdeal := by
  intro m ρ m' ρ' _ hag
  refine ⟨fun c => Cert.ProjxyIdeal.Hand.result m c, ?_, ?_⟩
  · exact (θ_run Cert.ProjxyIdeal.defs _ _).mono
      (fun _ h c => ⟨(h c).1.trans (Cert.ProjxyIdeal.Hand.final m c), (h c).2⟩)
      (Cert.ProjxyIdeal.Value.run_blocks (F := Ideal) m ρ)
  · refine (θ_run Cert.ProjxyRefIdeal.defs _ _).mono (fun _ h c => ⟨(h c).1.trans ?_, (h c).2⟩)
      (Cert.ProjxyRefIdeal.Value.run (F := Ideal) m' ρ')
    obtain ⟨h0, h1⟩ := hag c
    rw [Cert.ProjxyRefIdeal.Read.val_main_v2_eq, h0, h1]
    funext i
    exact (congrArg _ (eq_ix2 i)).trans (Cert.ProjxyRefIdeal.Hand.ref_apply _ _ (i 0) (i 1))

end Cert.Proof.Projxy

end
-- ==== Proof.Projv.Claims.lean ====
/-
  The projection of the values, stored transposed: the kernel's tiles and the plain product agree.
-/
module

public import proofs.«01_k».proof.Defs
public import proofs.«01_k».proof.Proof.Gen.ProjvIdeal.Value
public import proofs.«01_k».proof.Proof.Gen.ProjvRefIdeal.Read
public import proofs.«01_k».proof.Proof.Gen.Projv.Frame
public import Idealize.ShloMosaic.Lib.Pipeline.ReadBack
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjvIdeal.Hand

open Cert.ProjvIdeal Cert.ProjvIdeal.Gen Cert.ProjvIdeal.Value

/-- The weight block is kept as it is. -/
theorem pay1_apply (w : Vec Ideal S2048x1024 .f32) (k : Fin 2048) (j : Fin 1024) : k0_pay1 w (ix2 k j) = w (ix2 k j) := by
  pointwise [k0_pay1]

/-- A block stored transposed: its row is a column of the weights, its column a row of the tile. -/
theorem pay2_apply (x : Vec Ideal S2048x2048 .bf16) (w : Vec Ideal S2048x512 .bf16) (j : Fin 512) (r : Fin 2048) :
    k0_pay2 x w (ix2 j r) = ∑ k, x (ix2 r k) * w (ix2 k j) := by
  pointwise [k0_pay2]

theorem pay3_apply (x : Vec Ideal S2048x2048 .bf16) (w : Vec Ideal S2048x512 .bf16) (j : Fin 512) (r : Fin 2048) :
    k0_pay3 x w (ix2 j r) = ∑ k, x (ix2 r k) * w (ix2 k j) := by
  pointwise [k0_pay3]

variable (m : (ℓ : Loc nD τ sig) → Buf (Elt Ideal) ℓ)

/-- The windows' block indices: the column tile is `t / 8`, the row tile `t % 8`. -/
theorem idx : ∀ t : Fin cfg0.N, win0_0.index t = ![t.val % 8, 0] ∧ win0_1.index t = ![0, t.val / 8 + 8]
    ∧ win0_2.index t = ![t.val / 8, t.val % 8] :=
  (by decide +kernel : ∀ t : Fin grid0.N, _)

/-- The first row tile of a column tile keeps the weights. -/
theorem kept_first (c : Dev nD) (t : Fin cfg0.N) (acc : Vec Ideal S1024x2048 .bf16 × Vec Ideal S2048x1024 .bf16) (h0 : t.val % 8 = 0) :
    (stAt0 m c t.val t.isLt acc).2 = k0_pay1 (iblk m c 1 t) := by
  rw [stAt0_A m c t acc h0]
  dsimp only; frame_out

/-- Every other row tile leaves them. -/
theorem kept_next (c : Dev nD) (t : Fin cfg0.N) (acc : Vec Ideal S1024x2048 .bf16 × Vec Ideal S2048x1024 .bf16) (h0 : ¬t.val % 8 = 0) :
    (stAt0 m c t.val t.isLt acc).2 = acc.2 := by
  rw [stAt0_B m c t acc h0]
  rfl

abbrev X (c : Dev nD) : Vec Ideal S16384x2048 .bf16 := m ((c : Thread nD τ).loc main_arg0)
abbrev W (c : Dev nD) : Vec Ideal S2048x14336 .f32 := m ((c : Thread nD τ).loc main_arg1)

/-- What a point stores at `y`: the tile's row `y 1` against the kept weights' column `y 0`. -/
def dotAt (x : Vec Ideal S2048x2048 .bf16) (w : Vec Ideal S2048x1024 .bf16) (j : Fin 1024) (r : Fin 2048) : EReal :=
  ∑ k, x (ix2 r k) * w (ix2 k j)

/-- A part of the weights stored whole at this point, loaded back. -/
theorem load_stored (w : Vec Ideal S2048x1024 .bf16) (r : Rect S2048x1024) :
    (View.whole cc0_scratch0).readCov (Val := Elt Ideal) [⟨Rect.unit ![0, 0] S2048x1024.size inb_S2048x1024_S2048x1024_0_0, w⟩] r.toLoadRect = View.ld w r :=
  View.readCov_fill (Val := Elt Ideal) (View.whole cc0_scratch0) inb_S2048x1024_S2048x1024_0_0 w [] r (by intro a; fin_cases a <;> rfl)

theorem tile_first (c : Dev nD) (t : Fin cfg0.N) (acc : Vec Ideal S1024x2048 .bf16 × Vec Ideal S2048x1024 .bf16) (hz : t.val % 8 = 0)
    (y : S1024x2048.Idx) :
    (stAt0 m c t.val t.isLt acc).1 y = dotAt (iblk m c 0 t) (k0_pay1 (iblk m c 1 t)) (y 0) (y 1) := by
  rw [stAt0_A m c t acc hz]
  dsimp only; frame_out
  unfold dotAt
  canon_tiles x h
  all_goals (open_payloads; pointwise)
  all_goals
    show (_ : EReal) = _
    refine Finset.sum_congr rfl fun k _ => congrArg₂ (· * ·) ?_ ((congrFun (load_stored _ _) _).trans ?_)
    · blk_ext
    · refine congrArg (k0_pay1 (iblk m c 1 t)) (funext fun a => ?_)
      fin_cases a
      · exact Fin.ext (by first | exact (show 0 + 1 * k.val = k.val by omega))
      · exact Fin.ext (by first | exact (show 0 + 1 * (x 0).val = (y 0).val by omega) | exact (show 512 + 1 * (x 0).val = (y 0).val by omega))

theorem tile_next (c : Dev nD) (t : Fin cfg0.N) (acc : Vec Ideal S1024x2048 .bf16 × Vec Ideal S2048x1024 .bf16) (hz : ¬t.val % 8 = 0)
    (y : S1024x2048.Idx) :
    (stAt0 m c t.val t.isLt acc).1 y = dotAt (iblk m c 0 t) acc.2 (y 0) (y 1) := by
  rw [stAt0_B m c t acc hz]
  dsimp only; frame_out
  unfold dotAt
  canon_tiles x h
  all_goals (open_payloads; pointwise)
  all_goals
    show (_ : EReal) = _
    refine Finset.sum_congr rfl fun k _ => congrArg₂ (· * ·) ?_
      ((congrFun (Memref.IsWhole.read_unread (Val := Elt Ideal) (Memref.isWhole_whole cc0_scratch0) acc.2) _).trans ?_)
    · blk_ext
    · blk_ext

theorem N_eq : cfg0.N = 16 := N_0
theorem row_lt (t : Fin cfg0.N) (r : Fin 2048) : 2048 * (t.val % 8) + r.val < 16384 := by
  have h := r.isLt; omega
theorem col_lt (t : Fin cfg0.N) (j : Fin 1024) : 8192 + (1024 * (t.val / 8) + j.val) < 14336 := by
  have h : t.val < 16 := lt_of_lt_of_eq t.isLt N_eq; have := j.isLt; omega

theorem blk0 (c : Dev nD) (t : Fin cfg0.N) (r : Fin 2048) (k : Fin 2048) :
    iblk m c 0 t (ix2 r k) = X m c (ix2 ⟨2048 * (t.val % 8) + r.val, row_lt t r⟩ k) := by
  blk_point [iblk, V, idx t]

theorem blk1 (c : Dev nD) (t : Fin cfg0.N) (k : Fin 2048) (j : Fin 1024) :
    iblk m c 1 t (ix2 k j) = W m c (ix2 k ⟨8192 + (1024 * (t.val / 8) + j.val), col_lt t j⟩) := by
  blk_point [iblk, V, idx t]

theorem dot_blk (c : Dev nD) (t : Fin cfg0.N) (w : Vec Ideal S2048x1024 .bf16)
    (hw : ∀ k j, w (ix2 k j) = W m c (ix2 k ⟨8192 + (1024 * (t.val / 8) + j.val), col_lt t j⟩)) (j : Fin 1024) (r : Fin 2048) :
    dotAt (iblk m c 0 t) w j r = ∑ k, X m c (ix2 ⟨2048 * (t.val % 8) + r.val, row_lt t r⟩ k)
        * W m c (ix2 k ⟨8192 + (1024 * (t.val / 8) + j.val), col_lt t j⟩) := by
  unfold dotAt
  simp only [blk0, hw]

/-- After point `n` the kept weights are the column tile's and the output block is its product, transposed. -/
theorem held (c : Dev nD) (n : ℕ) : ∀ hn : n < cfg0.N,
    (∀ k j, (outsAt0 m c n hn).2 (ix2 k j) = W m c (ix2 k ⟨8192 + (1024 * (n / 8) + j.val), col_lt ⟨n, hn⟩ j⟩))
    ∧ (∀ y : S1024x2048.Idx, (outsAt0 m c n hn).1 y = ∑ k, X m c (ix2 ⟨2048 * (n % 8) + (y 1).val, row_lt ⟨n, hn⟩ (y 1)⟩ k)
        * W m c (ix2 k ⟨8192 + (1024 * (n / 8) + (y 0).val), col_lt ⟨n, hn⟩ (y 0)⟩)) := by
  have first : ∀ (t : Fin cfg0.N) acc, t.val % 8 = 0 →
      (∀ k j, (stAt0 m c t.val t.isLt acc).2 (ix2 k j) = W m c (ix2 k ⟨8192 + (1024 * (t.val / 8) + j.val), col_lt t j⟩))
      ∧ (∀ y : S1024x2048.Idx, (stAt0 m c t.val t.isLt acc).1 y = ∑ k, X m c (ix2 ⟨2048 * (t.val % 8) + (y 1).val, row_lt t (y 1)⟩ k)
          * W m c (ix2 k ⟨8192 + (1024 * (t.val / 8) + (y 0).val), col_lt t (y 0)⟩)) := by
    intro t acc h0
    refine ⟨fun k j => ?_, fun y => ?_⟩
    · rw [kept_first m c t acc h0, pay1_apply, blk1]
    · exact (tile_first m c t acc h0 y).trans (dot_blk m c t _ (fun k j => (pay1_apply _ k j).trans (blk1 m c t k j)) (y 0) (y 1))
  induction n with
  | zero =>
    intro hn
    rw [outsAt0_zero]
    exact first ⟨0, hn⟩ junk0 rfl
  | succ n ih =>
    intro hn
    obtain ⟨i1, -⟩ := ih (Nat.lt_of_succ_lt hn)
    rw [outsAt0_succ]
    generalize outsAt0 m c n (Nat.lt_of_succ_lt hn) = acc at i1 ⊢
    by_cases h0 : (n + 1) % 8 = 0
    · exact first ⟨n + 1, hn⟩ acc h0
    have hd : n / 8 = (n + 1) / 8 := by omega
    simp only [hd] at i1
    refine ⟨fun k j => ?_, fun y => ?_⟩
    · rw [kept_next m c ⟨n + 1, hn⟩ acc h0]; exact i1 k j
    · exact (tile_next m c ⟨n + 1, hn⟩ acc h0 y).trans (dot_blk m c ⟨n + 1, hn⟩ _ i1 (y 0) (y 1))

/-- The result array, element by element. -/
def result (c : Dev nD) : Vec Ideal S2048x16384 .bf16 := fun i =>
  ∑ k, X m c (ix2 (i 1) k) * W m c (ix2 k ⟨8192 + (i 0).val, by have h : (i 0).val < 2048 := (i 0).isLt; omega⟩)

/-- The array after the run is the product. -/
theorem final (c : Dev nD) : (dats m 0 c).arrAt 2 cfg0.N = result m c := by
  refine (dats m 0 c).arrAt_eq_of_covers 2 _ (by decide +kernel) fun t hf y => ?_
  blk_simp
  rw [after0_2]
  refine ((held m c t.val t.isLt).2 y).trans ?_
  unfold result
  refine Finset.sum_congr rfl fun k _ => ?_
  congr 3
  · exact Fin.ext (by blk_simp [idx t]; dsimp only; omega)
  · exact Fin.ext (by blk_simp [idx t]; dsimp only; omega)

end Cert.ProjvIdeal.Hand

namespace Cert.ProjvRefIdeal.Hand

open Cert.ProjvRefIdeal Cert.ProjvRefIdeal.Gen Cert.ProjvRefIdeal.Read

/-- The reference at an element: the row against the column of its part of the weights. -/
theorem ref_apply (x : FVec Ideal S16384x2048 .bf16) (w : FVec Ideal S2048x14336 .f32) (l : Fin 2048) (R : Fin 16384) :
    val_main_v4 (F := Ideal) x w (ix2 l R) = ∑ k, x (ix2 R k) * w (ix2 k ⟨8192 + l.val, by have := l.isLt; omega⟩) := by
  pointwise [val_main_v4, val_main_v3, val_main_v2, val_main_v1, val_main_v0]

end Cert.ProjvRefIdeal.Hand

namespace Cert.Proof.Projv

/-- The kernel's frame. -/
theorem frame : Cert.quiescent_Projv := fun m ρ _ => Cert.Projv.Gen.frame m ρ
/-- The idealized kernel's frame. -/
theorem frame_ideal : Cert.quiescent_ProjvIdeal := fun m ρ _ => Cert.ProjvIdeal.Gen.frame m ρ
/-- The reference's frame: its run read at the arguments. -/
theorem frame_ref : Cert.quiescent_ProjvRefIdeal := fun m ρ _ =>
  (θ_run Cert.ProjvRefIdeal.defs _ _).mono (fun r h => ⟨fun c => (h c).2, sem_eq_zero_of_no_sems (by decide) r.2⟩)
    (Cert.ProjvRefIdeal.Value.run (F := Ideal) m ρ)

/-- The kernel's result is the reference's: both are the same function of the arguments, element by element. -/
theorem algebraic : Cert.algebraic_ProjvIdeal_ProjvRefIdeal := by
  intro m ρ m' ρ' _ hag
  refine ⟨fun c => Cert.ProjvIdeal.Hand.result m c, ?_, ?_⟩
  · exact (θ_run Cert.ProjvIdeal.defs _ _).mono
      (fun _ h c => ⟨(h c).1.trans (Cert.ProjvIdeal.Hand.final m c), (h c).2⟩)
      (Cert.ProjvIdeal.Value.run_blocks (F := Ideal) m ρ)
  · refine (θ_run Cert.ProjvRefIdeal.defs _ _).mono (fun _ h c => ⟨(h c).1.trans ?_, (h c).2⟩)
      (Cert.ProjvRefIdeal.Value.run (F := Ideal) m' ρ')
    obtain ⟨h0, h1⟩ := hag c
    rw [Cert.ProjvRefIdeal.Read.val_main_v4_eq, h0, h1]
    funext i
    exact (congrArg _ (eq_ix2 i)).trans (Cert.ProjvRefIdeal.Hand.ref_apply _ _ (i 0) (i 1))

end Cert.Proof.Projv

end
-- ==== Proof.Projg.Claims.lean ====
/-
  The projection of the gates: the kernel's tiles and the plain product agree.
-/
module

public import proofs.«01_k».proof.Defs
public import proofs.«01_k».proof.Proof.Gen.ProjgIdeal.Value
public import proofs.«01_k».proof.Proof.Gen.ProjgRefIdeal.Read
public import proofs.«01_k».proof.Proof.Gen.Projg.Frame
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjgIdeal.Hand

open Cert.ProjgIdeal Cert.ProjgIdeal.Gen Cert.ProjgIdeal.Value

/-- The weight block is kept as it is: the narrowing is the identity over the extended reals. -/
theorem pay1_apply (w : Vec Ideal S2048x1024 .f32) (k : Fin 2048) (j : Fin 1024) : k0_pay1 w (ix2 k j) = w (ix2 k j) := by
  pointwise [k0_pay1]

/-- The stored block: rows of the tile against columns of the kept weights. -/
theorem pay2_apply (x : Vec Ideal S2048x2048 .bf16) (w : Vec Ideal S2048x1024 .bf16) (r : Fin 2048) (j : Fin 1024) :
    k0_pay2 x w (ix2 r j) = ∑ k, x (ix2 r k) * w (ix2 k j) := by
  pointwise [k0_pay2]

variable (m : (ℓ : Loc nD τ sig) → Buf (Elt Ideal) ℓ)

/-- The windows' block indices: the column tile is `t / 8`, the row tile `t % 8`. -/
theorem idx : ∀ t : Fin cfg0.N, win0_0.index t = ![t.val % 8, 0] ∧ win0_1.index t = ![0, t.val / 8 + 10]
    ∧ win0_2.index t = ![t.val % 8, t.val / 8] :=
  (by decide +kernel : ∀ t : Fin grid0.N, _)

/-- The first row tile of a column tile keeps the weights and stores its product. -/
theorem st_first (c : Dev nD) (t : Fin cfg0.N) (acc : Vec Ideal S2048x1024 .bf16 × Vec Ideal S2048x1024 .bf16) (h0 : t.val % 8 = 0) :
    stAt0 m c t.val t.isLt acc = (k0_pay2 (iblk m c 0 t) (k0_pay1 (iblk m c 1 t)), k0_pay1 (iblk m c 1 t)) := by
  rw [stAt0_A m c t acc h0]
  refine Prod.ext ?_ ?_
  · dsimp only; frame_out
  · dsimp only; frame_out

/-- Every other row tile uses the weights kept by the first. -/
theorem st_next (c : Dev nD) (t : Fin cfg0.N) (acc : Vec Ideal S2048x1024 .bf16 × Vec Ideal S2048x1024 .bf16) (h0 : ¬t.val % 8 = 0) :
    stAt0 m c t.val t.isLt acc = (k0_pay2 (iblk m c 0 t) acc.2, acc.2) := by
  rw [stAt0_B m c t acc h0]
  refine Prod.ext ?_ ?_
  · dsimp only; frame_out
    exact congrArg (fun h => k0_pay2 (iblk m c 0 t) h)
      (Memref.IsWhole.read_unread (Val := Elt Ideal) (Memref.isWhole_whole cc0_scratch0) acc.2)
  · rfl

abbrev X (c : Dev nD) : Vec Ideal S16384x2048 .bf16 := m ((c : Thread nD τ).loc main_arg0)
abbrev W (c : Dev nD) : Vec Ideal S2048x14336 .f32 := m ((c : Thread nD τ).loc main_arg1)

theorem N_eq : cfg0.N = 32 := N_0
theorem row_lt (t : Fin cfg0.N) (r : Fin 2048) : 2048 * (t.val % 8) + r.val < 16384 := by
  have h := r.isLt; omega
theorem col_lt (t : Fin cfg0.N) (j : Fin 1024) : 10240 + (1024 * (t.val / 8) + j.val) < 14336 := by
  have h : t.val < 32 := lt_of_lt_of_eq t.isLt N_eq; have := j.isLt; omega

theorem blk0 (c : Dev nD) (t : Fin cfg0.N) (r : Fin 2048) (k : Fin 2048) :
    iblk m c 0 t (ix2 r k) = X m c (ix2 ⟨2048 * (t.val % 8) + r.val, row_lt t r⟩ k) := by
  blk_point [iblk, V, idx t]

theorem blk1 (c : Dev nD) (t : Fin cfg0.N) (k : Fin 2048) (j : Fin 1024) :
    iblk m c 1 t (ix2 k j) = W m c (ix2 k ⟨10240 + (1024 * (t.val / 8) + j.val), col_lt t j⟩) := by
  blk_point [iblk, V, idx t]

/-- After point `n` the kept weights are the column tile's and the output block is its product. -/
theorem held (c : Dev nD) (n : ℕ) : ∀ hn : n < cfg0.N,
    (∀ k j, (outsAt0 m c n hn).2 (ix2 k j) = W m c (ix2 k ⟨10240 + (1024 * (n / 8) + j.val), col_lt ⟨n, hn⟩ j⟩))
    ∧ (∀ r j, (outsAt0 m c n hn).1 (ix2 r j) = ∑ k, X m c (ix2 ⟨2048 * (n % 8) + r.val, row_lt ⟨n, hn⟩ r⟩ k)
        * W m c (ix2 k ⟨10240 + (1024 * (n / 8) + j.val), col_lt ⟨n, hn⟩ j⟩)) := by
  have first : ∀ (t : Fin cfg0.N) acc, t.val % 8 = 0 →
      (∀ k j, (stAt0 m c t.val t.isLt acc).2 (ix2 k j) = W m c (ix2 k ⟨10240 + (1024 * (t.val / 8) + j.val), col_lt t j⟩))
      ∧ (∀ r j, (stAt0 m c t.val t.isLt acc).1 (ix2 r j) = ∑ k, X m c (ix2 ⟨2048 * (t.val % 8) + r.val, row_lt t r⟩ k)
          * W m c (ix2 k ⟨10240 + (1024 * (t.val / 8) + j.val), col_lt t j⟩)) := by
    intro t acc h0
    rw [st_first m c t acc h0]
    refine ⟨fun k j => ?_, fun r j => ?_⟩
    · dsimp only; rw [pay1_apply, blk1]
    · dsimp only; rw [pay2_apply]; simp only [pay1_apply, blk0, blk1]
  induction n with
  | zero =>
    intro hn
    rw [outsAt0_zero]
    exact first ⟨0, hn⟩ junk0 rfl
  | succ n ih =>
    intro hn
    obtain ⟨i1, -⟩ := ih (Nat.lt_of_succ_lt hn)
    rw [outsAt0_succ]
    generalize outsAt0 m c n (Nat.lt_of_succ_lt hn) = acc at i1 ⊢
    by_cases h0 : (n + 1) % 8 = 0
    · exact first ⟨n + 1, hn⟩ acc h0
    have hd : n / 8 = (n + 1) / 8 := by omega
    simp only [hd] at i1
    rw [st_next m c ⟨n + 1, hn⟩ acc h0]
    refine ⟨i1, fun r j => ?_⟩
    dsimp only
    rw [pay2_apply]
    simp only [blk0, i1]

/-- The result array, element by element. -/
def result (c : Dev nD) : Vec Ideal S16384x4096 .bf16 := fun i =>
  ∑ k, X m c (ix2 (i 0) k) * W m c (ix2 k ⟨10240 + (i 1).val, by have h : (i 1).val < 4096 := (i 1).isLt; omega⟩)

/-- The array after the run is the product. -/
theorem final (c : Dev nD) : (dats m 0 c).arrAt 2 cfg0.N = result m c := by
  refine (dats m 0 c).arrAt_eq_of_covers 2 _ (by decide +kernel) fun t hf y => ?_
  blk_simp
  rw [after0_2]
  refine ((congrArg (outsAt0 m c t.val t.isLt).1 (eq_ix2 _)).trans ((held m c t.val t.isLt).2 (y 0) (y 1))).trans ?_
  unfold result
  refine Finset.sum_congr rfl fun k _ => ?_
  congr 3
  · exact Fin.ext (by blk_simp [idx t]; show 2048 * (t.val % 8) + (y 0).val = _; omega)
  · exact Fin.ext (by blk_simp [idx t]; dsimp only; omega)

end Cert.ProjgIdeal.Hand

namespace Cert.ProjgRefIdeal.Hand

open Cert.ProjgRefIdeal Cert.ProjgRefIdeal.Gen Cert.ProjgRefIdeal.Read

/-- The reference at an element: the row against the column of its part of the weights. -/
theorem ref_apply (x : FVec Ideal S16384x2048 .bf16) (w : FVec Ideal S2048x14336 .f32) (R : Fin 16384) (l : Fin 4096) :
    val_main_v3 (F := Ideal) x w (ix2 R l) = ∑ k, x (ix2 R k) * w (ix2 k ⟨10240 + l.val, by have := l.isLt; omega⟩) := by
  pointwise [val_main_v3, val_main_v2, val_main_v1, val_main_v0]

end Cert.ProjgRefIdeal.Hand

namespace Cert.Proof.Projg

/-- The kernel's frame. -/
theorem frame : Cert.quiescent_Projg := fun m ρ _ => Cert.Projg.Gen.frame m ρ
/-- The idealized kernel's frame. -/
theorem frame_ideal : Cert.quiescent_ProjgIdeal := fun m ρ _ => Cert.ProjgIdeal.Gen.frame m ρ
/-- The reference's frame: its run read at the arguments. -/
theorem frame_ref : Cert.quiescent_ProjgRefIdeal := fun m ρ _ =>
  (θ_run Cert.ProjgRefIdeal.defs _ _).mono (fun r h => ⟨fun c => (h c).2, sem_eq_zero_of_no_sems (by decide) r.2⟩)
    (Cert.ProjgRefIdeal.Value.run (F := Ideal) m ρ)

/-- The kernel's result is the reference's: both are the same function of the arguments, element by element. -/
theorem algebraic : Cert.algebraic_ProjgIdeal_ProjgRefIdeal := by
  intro m ρ m' ρ' _ hag
  refine ⟨fun c => Cert.ProjgIdeal.Hand.result m c, ?_, ?_⟩
  · exact (θ_run Cert.ProjgIdeal.defs _ _).mono
      (fun _ h c => ⟨(h c).1.trans (Cert.ProjgIdeal.Hand.final m c), (h c).2⟩)
      (Cert.ProjgIdeal.Value.run_blocks (F := Ideal) m ρ)
  · refine (θ_run Cert.ProjgRefIdeal.defs _ _).mono (fun _ h c => ⟨(h c).1.trans ?_, (h c).2⟩)
      (Cert.ProjgRefIdeal.Value.run (F := Ideal) m' ρ')
    obtain ⟨h0, h1⟩ := hag c
    rw [Cert.ProjgRefIdeal.Read.val_main_v3_eq, h0, h1]
    funext i
    exact (congrArg _ (eq_ix2 i)).trans (Cert.ProjgRefIdeal.Hand.ref_apply _ _ (i 0) (i 1))

end Cert.Proof.Projg

end
-- ==== Proof.Norm.Claims.lean ====
/-
  The layer's opening normalisation: the kernel's row tiles and the plain formula agree.
-/
module

public import proofs.«01_k».proof.Defs
public import proofs.«01_k».proof.Proof.Gen.NormIdeal.Value
public import proofs.«01_k».proof.Proof.Gen.NormRefIdeal.Read
public import proofs.«01_k».proof.Proof.Gen.Norm.Frame
public import proofs.«01_k».proof.Proof.Ffn.Pay
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormIdeal.Hand

open Cert.NormIdeal Cert.NormIdeal.Gen Cert.NormIdeal.Value Cert.Rows

theorem pay1_apply (x : Vec Ideal S512x2048 .f32) (g : Vec Ideal S1x2048 .f32) (r : Fin 512) (k : Fin 2048) :
    k0_pay1 x g (ix2 r k) = rms (fun k => x (ix2 r k)) (fun k => g (ix2 0 k)) k := by
  unfold rms scale
  pointwise [k0_pay1]

theorem out_eq (x : Vec Ideal S512x2048 .f32) (g : Vec Ideal S1x2048 .f32) : Gen.out0_2 x g = k0_pay1 x g := by
  frame_out

variable (m : (ℓ : Loc nD τ sig) → Buf (Elt Ideal) ℓ)

/-- The windows' block indices: point `t` takes row tile `t`. -/
theorem idx : ∀ t : Fin cfg0.N, win0_0.index t = ![t.val, 0] ∧ win0_1.index t = ![0, 0] ∧ win0_2.index t = ![t.val, 0] :=
  (by decide +kernel : ∀ t : Fin grid0.N, _)

abbrev X (c : Dev nD) : Vec Ideal S16384x2048 .f32 := m ((c : Thread nD τ).loc main_arg0)
abbrev G (c : Dev nD) : Vec Ideal S2048 .f32 := m ((c : Thread nD τ).loc main_arg1)

theorem N_eq : cfg0.N = 32 := N_0
theorem row_lt (t : Fin cfg0.N) (r : Fin 512) : 512 * t.val + r.val < 16384 := by
  have h : t.val < 32 := lt_of_lt_of_eq t.isLt N_eq; have := r.isLt; omega

theorem blk0 (c : Dev nD) (t : Fin cfg0.N) (r : Fin 512) (k : Fin 2048) :
    iblk m c 0 t (ix2 r k) = X m c (ix2 ⟨512 * t.val + r.val, row_lt t r⟩ k) := by
  blk_point [iblk, V, idx t]
theorem blk1 (c : Dev nD) (t : Fin cfg0.N) (k : Fin 2048) : iblk m c 1 t (ix2 0 k) = G m c (ix1 k) := by
  blk_point [iblk, V, idx t]

/-- What point `t` stores. -/
theorem point (c : Dev nD) (t : Fin cfg0.N) (r : Fin 512) (l : Fin 2048) :
    k0_pay1 (iblk m c 0 t) (iblk m c 1 t) (ix2 r l) = rms (fun k => X m c (ix2 ⟨512 * t.val + r.val, row_lt t r⟩ k)) (fun k => G m c (ix1 k)) l := by
  rw [pay1_apply]
  simp only [blk0, blk1]

/-- The result array, element by element. -/
def result (c : Dev nD) : Vec Ideal S16384x2048 .bf16 := fun i => rms (fun k => X m c (ix2 (i 0) k)) (fun k => G m c (ix1 k)) (i 1)

/-- The array after the run is the normalised argument. -/
theorem final (c : Dev nD) : (dats m 0 c).arrAt 2 cfg0.N = result m c := by
  refine (dats m 0 c).arrAt_eq_of_covers 2 _ (by decide +kernel) fun t hf y => ?_
  blk_simp
  rw [after0_2, out_eq]
  refine ((congrArg (k0_pay1 _ _) (eq_ix2 _)).trans (point m c t (y 0) (y 1))).trans ?_
  unfold result
  congr 1
  · funext k
    congr 2
    exact Fin.ext (by show 512 * t.val + (y 0).val = win0_2.index t 0 * 512 + 1 * (y 0).val; simp [(idx t).2.2]; omega)
  · exact Fin.ext (by show (y 1).val = win0_2.index t 1 * 2048 + 1 * (y 1).val; simp [(idx t).2.2])

end Cert.NormIdeal.Hand

namespace Cert.NormRefIdeal.Hand

open Cert.NormRefIdeal Cert.NormRefIdeal.Gen Cert.NormRefIdeal.Read Cert.Rows

/-- The reference at an element. -/
theorem ref_apply (x : FVec Ideal S16384x2048 .f32) (g : FVec Ideal S2048 .f32) (R : Fin 16384) (l : Fin 2048) :
    val_main_v13 (F := Ideal) x g (ix2 R l) = rms (fun k => x (ix2 R k)) (fun k => g (ix1 k)) l := by
  unfold rms scale
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]

end Cert.NormRefIdeal.Hand

namespace Cert.Proof.Norm

/-- The kernel's frame. -/
theorem frame : Cert.quiescent_Norm := fun m ρ _ => Cert.Norm.Gen.frame m ρ
/-- The idealized kernel's frame. -/
theorem frame_ideal : Cert.quiescent_NormIdeal := fun m ρ _ => Cert.NormIdeal.Gen.frame m ρ
/-- The reference's frame: its run read at the arguments. -/
theorem frame_ref : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The kernel's result is the reference's: both are the same function of the arguments, element by element. -/
theorem algebraic : Cert.algebraic_NormIdeal_NormRefIdeal := by
  intro m ρ m' ρ' _ hag
  refine ⟨fun c => Cert.NormIdeal.Hand.result m c, ?_, ?_⟩
  · exact (θ_run Cert.NormIdeal.defs _ _).mono
      (fun _ h c => ⟨(h c).1.trans (Cert.NormIdeal.Hand.final m c), (h c).2⟩)
      (Cert.NormIdeal.Value.run_blocks (F := Ideal) m ρ)
  · refine (θ_run Cert.NormRefIdeal.defs _ _).mono (fun _ h c => ⟨(h c).1.trans ?_, (h c).2⟩)
      (Cert.NormRefIdeal.Value.run (F := Ideal) m' ρ')
    obtain ⟨h0, h1⟩ := hag c
    rw [Cert.NormRefIdeal.Read.val_main_v13_eq, h0, h1]
    funext i
    exact (congrArg _ (eq_ix2 i)).trans (Cert.NormRefIdeal.Hand.ref_apply _ _ (i 0) (i 1))

end Cert.Proof.Norm

end
-- ==== Proof.Xattn.Real.lean ====
/-
  The attention over the memory as row functions, and what finiteness gives: dividing the weighted sum by the sum of the
  weights is weighting by each weight divided by that sum.
-/
module

public import proofs.«01_k».proof.Proof.Ffn.Pay

@[expose] public section

noncomputable section

open Idealize.ShloMosaic

namespace Cert.Rows

/-- A finite sum of reals, read among the extended reals. -/
theorem coe_sum {n : Nat} (r : Fin n → ℝ) : ((∑ k, r k : ℝ) : EReal) = ∑ k, (r k : EReal) := by
  induction n with
  | zero => simp
  | succ n ih => rw [Fin.sum_univ_succ, Fin.sum_univ_succ, EReal.coe_add, ih]

/-- A finite extended real. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.sum {n : Nat} (f : Fin n → EReal) (h : ∀ k, IsReal (f k)) : IsReal (∑ k, f k) := by
  choose r hr using h
  exact ⟨∑ k, r k, by rw [coe_sum]; exact Finset.sum_congr rfl fun k _ => hr k⟩

/-- A magnitude below infinity is finite. -/
theorem isReal_of_abs_lt {x : EReal} (h : max x (-x) < ⊤) : IsReal x := by
  induction x with
  | bot => simp at h
  | top => simp at h
  | coe r => exact ⟨r, rfl⟩

theorem word_scale : IsReal (Ideal.ofBits .f32 0x3DB504F3#32) :=
  ⟨_, by simp [Ideal.ofBits, Ideal.ieee, -EReal.coe_mul]; rfl⟩

theorem word_2048 : Ideal.ofBits .f32 0x45000000#32 = ((2048 : ℝ) : EReal) := by
  simp [Ideal.ofBits, Ideal.ieee, -EReal.coe_mul]; norm_num

theorem word_eps : ∃ e : ℝ, 0 < e ∧ Ideal.ofBits .f32 0x358637BD#32 = (e : EReal) :=
  by
  refine ⟨8796093 / 8796093022208, by norm_num, ?_⟩
  simp [Ideal.ofBits, Ideal.ieee, -EReal.coe_mul]
  norm_num

theorem word_bot : Ideal.ofBits .f32 0xFF800000#32 = ⊥ := by
  simp [Ideal.ofBits, Ideal.ieee]

/-- A finite row is normalised by a finite factor. -/
theorem scale_real (y : Fin 2048 → EReal) (h : ∀ k, IsReal (y k)) : IsReal (scale y) := by
  choose r hr using h
  obtain ⟨e, he, hw⟩ := word_eps
  have hs : (∑ k, y k * y k) = ((∑ k, r k * r k : ℝ) : EReal) := by
    rw [coe_sum]
    exact Finset.sum_congr rfl fun k _ => by rw [hr k, EReal.coe_mul]
  have h0 : 0 ≤ ∑ k, r k * r k := Finset.sum_nonneg fun k _ => mul_self_nonneg _
  have hp : 0 < (∑ k, r k * r k) * (2048 : ℝ)⁻¹ + e := by positivity
  have hd : Ideal.div (∑ k, y k * y k) (Ideal.ofBits .f32 0x45000000#32) + Ideal.ofBits .f32 0x358637BD#32
      = (((∑ k, r k * r k) * (2048 : ℝ)⁻¹ + e : ℝ) : EReal) := by
    rw [hs, word_2048, hw, Ideal.div, if_neg (by norm_num), ← EReal.coe_inv, ← EReal.coe_mul, ← EReal.coe_add]
  unfold scale
  rw [hd]
  exact ⟨_, by show (if _ then _ else if _ then _ else _) = _; rw [if_neg (not_lt.2 hp.le), if_neg hp.ne']⟩

theorem rms_real (y g : Fin 2048 → EReal) (h : ∀ k, IsReal (y k)) (hg : ∀ k, IsReal (g k)) (k : Fin 2048) : IsReal (rms y g k) :=
  ((h k).mul (scale_real y h)).mul (hg k)

/-- A row's maximum, from minus infinity. -/
def rowMax (s : Fin 256 → EReal) : EReal := Finset.univ.fold max (Ideal.ofBits .f32 0xFF800000#32) s

/-- A slot's weight: the exponential of its score below the row's maximum. -/
def weight (s : Fin 256 → EReal) (m : Fin 256) : EReal := Ideal.exp (s m - rowMax s)

/-- A head's scores: the query against each slot's key, scaled. -/
def scores (q : Fin 128 → EReal) (k : Fin 256 → Fin 128 → EReal) (m : Fin 256) : EReal :=
  (∑ d, q d * k m d) * Ideal.ofBits .f32 0x3DB504F3#32

/-- A head's result as the kernel forms it: the weighted sum divided by the sum of the weights. -/
def headK (s v : Fin 256 → EReal) : EReal := Ideal.div (∑ m, weight s m * v m) (∑ m, weight s m)

/-- A head's result as the softmax forms it: each value weighted by its share. -/
def headR (s v : Fin 256 → EReal) : EReal := ∑ m, v m * Ideal.div (weight s m) (∑ m, weight s m)

theorem rowMax_max (s : Fin 256 → EReal) : max (Ideal.ofBits .f32 0xFF800000#32) (rowMax s) = rowMax s :=
  max_eq_right (by rw [word_bot]; exact bot_le)

theorem rowMax_real (s : Fin 256 → EReal) (h : ∀ m, IsReal (s m)) : IsReal (rowMax s) := by
  have hlt : rowMax s < ⊤ := (Finset.fold_max_lt ⊤).2 ⟨by rw [word_bot]; exact bot_lt_top, fun m _ => by
    obtain ⟨r, hr⟩ := h m; rw [hr]; exact EReal.coe_lt_top r⟩
  have hgt : ⊥ < rowMax s := (Finset.lt_fold_max ⊥).2 (Or.inr ⟨0, Finset.mem_univ _, by
    obtain ⟨r, hr⟩ := h 0; rw [hr]; exact EReal.bot_lt_coe r⟩)
  exact ⟨(rowMax s).toReal, (EReal.coe_toReal hlt.ne hgt.ne').symm⟩

theorem weight_pos (s : Fin 256 → EReal) (h : ∀ m, IsReal (s m)) (m : Fin 256) : ∃ r : ℝ, 0 < r ∧ weight s m = r := by
  obtain ⟨a, ha⟩ := (h m).sub (rowMax_real s h)
  exact ⟨Real.exp a, Real.exp_pos a, by unfold weight; rw [ha]; rfl⟩

theorem total_pos (s : Fin 256 → EReal) (h : ∀ m, IsReal (s m)) : ∃ r : ℝ, 0 < r ∧ ∑ m, weight s m = (r : EReal) := by
  choose w hw he using weight_pos s h
  refine ⟨∑ m, w m, Finset.sum_pos (fun m _ => hw m) Finset.univ_nonempty, ?_⟩
  rw [coe_sum]
  exact Finset.sum_congr rfl fun m _ => he m

theorem sum_mul_pos {n : Nat} (f : Fin n → EReal) (c : ℝ) (hc : 0 ≤ c) : (∑ m, f m) * (c : EReal) = ∑ m, f m * (c : EReal) := by
  induction n with
  | zero => simp
  | succ n ih =>
    rw [Fin.sum_univ_succ, Fin.sum_univ_succ, ← ih, mul_comm, EReal.left_distrib_of_nonneg_of_ne_top (EReal.coe_nonneg.2 hc) (EReal.coe_ne_top c),
      mul_comm, mul_comm (c : EReal)]

/-- With finite scores the two forms of a head agree. -/
theorem head_eq (s v : Fin 256 → EReal) (h : ∀ m, IsReal (s m)) : headK s v = headR s v := by
  obtain ⟨l, hl, he⟩ := total_pos s h
  have hn : (l : EReal) ≠ 0 := by exact_mod_cast hl.ne'
  unfold headK headR
  rw [he, Ideal.div, if_neg hn, ← EReal.coe_inv, sum_mul_pos _ _ (inv_nonneg.2 hl.le)]
  refine Finset.sum_congr rfl fun m _ => ?_
  rw [Ideal.div, if_neg hn, ← EReal.coe_inv, mul_comm (weight s m), mul_assoc]

/-- The residual row the attention starts from. -/
def resid (x p : Fin 2048 → EReal) (w : Fin 2048 → Fin 2048 → EReal) (l : Fin 2048) : EReal := x l + ∑ k, p k * w k l

/-- A column of the queries. -/
def query (h : Fin 2048 → EReal) (w : Fin 2048 → Fin 512 → EReal) (j : Fin 512) : EReal := ∑ k, h k * w k j

/-- The coordinate `d` of the head that column `j` belongs to. -/
def headCol (j : Fin 512) (d : Fin 128) : Fin 512 := ⟨j.val / 128 * 128 + d.val, by have := j.isLt; have := d.isLt; omega⟩

/-- The scores of the head that column `j` belongs to. -/
def colScores (q : Fin 512 → EReal) (kv : Fin 256 → Fin 1024 → EReal) (j : Fin 512) : Fin 256 → EReal :=
  scores (fun d => q (headCol j d)) (fun m d => kv m ⟨(headCol j d).val, by have := (headCol j d).isLt; omega⟩)

/-- The values' column `j`. -/
def colVal (kv : Fin 256 → Fin 1024 → EReal) (j : Fin 512) (m : Fin 256) : EReal := kv m ⟨512 + j.val, by have := j.isLt; omega⟩

theorem colScores_real (q : Fin 512 → EReal) (kv : Fin 256 → Fin 1024 → EReal) (hq : ∀ j, IsReal (q j)) (hk : ∀ m j, IsReal (kv m j))
    (j : Fin 512) (m : Fin 256) : IsReal (colScores q kv j m) :=
  (IsReal.sum _ fun d => (hq _).mul (hk _ _)).mul word_scale

end Cert.Rows

end
-- ==== Proof.Xattn.Kernel.lean ====
/-
  The attention over the memory: what the kernel's body computes from its blocks, element by element.
-/
module

public import proofs.«01_k».proof.Proof.Xattn.Real
public import proofs.«01_k».proof.Proof.Gen.XattnIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.XattnIdeal.Hand

open Cert.XattnIdeal Cert.XattnIdeal.Gen Cert.XattnIdeal.Value Cert.Rows

/-- The residual rows. -/
theorem pay2_apply (x : Vec Ideal S512x2048 .f32) (p : Vec Ideal S512x2048 .bf16) (w : Vec Ideal S2048x2048 .bf16) (r : Fin 512) (l : Fin 2048) :
    k0_pay2 x p w (ix2 r l) = resid (fun k => x (ix2 r k)) (fun k => p (ix2 r k)) (fun k l => w (ix2 k l)) l := by
  unfold resid
  pointwise [k0_pay2]

/-- The queries. -/
theorem pay3_apply (x : Vec Ideal S512x2048 .f32) (p : Vec Ideal S512x2048 .bf16) (w : Vec Ideal S2048x2048 .bf16) (g : Vec Ideal S1x2048 .f32)
    (wq : Vec Ideal S2048x512 .bf16) (r : Fin 512) (j : Fin 512) :
    k0_pay3 x p w g wq (ix2 r j)
      = query (rms (resid (fun k => x (ix2 r k)) (fun k => p (ix2 r k)) (fun k l => w (ix2 k l))) (fun k => g (ix2 0 k))) (fun k j => wq (ix2 k j)) j := by
  unfold query rms scale resid
  pointwise [k0_pay3, k0_pay2]

/-- The first head's weights. -/
theorem pay4_apply (x : Vec Ideal S512x2048 .f32) (p : Vec Ideal S512x2048 .bf16) (w : Vec Ideal S2048x2048 .bf16) (g : Vec Ideal S1x2048 .f32)
    (wq : Vec Ideal S2048x512 .bf16) (k : Vec Ideal S256x128 .bf16) (r : Fin 512) (m : Fin 256) :
    k0_pay4 x p w g wq k (ix2 r m)
      = weight (scores (fun d => k0_pay3 x p w g wq (ix2 r ⟨d.val, by have := d.isLt; omega⟩)) (fun m d => k (ix2 m d))) m := by
  unfold weight rowMax scores
  pointwise [k0_pay4]

/-- A head's result from its weights. -/
theorem pay5_apply (v : Vec Ideal S256x128 .bf16) (e : FVec Ideal S512x256 .f32) (r : Fin 512) (d : Fin 128) :
    k0_pay5 v e (ix2 r d) = Ideal.div (∑ m, e (ix2 r m) * v (ix2 m d)) (∑ m, e (ix2 r m)) := by
  pointwise [k0_pay5]

/-- The second head. -/
theorem pay6_apply (q : FVec Ideal S512x512 .bf16) (k v : Vec Ideal S256x128 .bf16) (r : Fin 512) (d : Fin 128) :
    k0_pay6 q k v (ix2 r d)
      = headK (scores (fun d => q (ix2 r ⟨128 + d.val, by have := d.isLt; omega⟩)) (fun m d => k (ix2 m d))) (fun m => v (ix2 m d)) := by
  unfold headK weight rowMax scores
  pointwise [k0_pay6]

/-- The third head's weights, -/
theorem pay7_apply (q : FVec Ideal S512x512 .bf16) (k : Vec Ideal S256x128 .bf16) (r : Fin 512) (m : Fin 256) :
    k0_pay7 q k (ix2 r m)
      = weight (scores (fun d => q (ix2 r ⟨256 + d.val, by have := d.isLt; omega⟩)) (fun m d => k (ix2 m d))) m := by
  unfold weight rowMax scores
  pointwise [k0_pay7]

/-- its weighted sum, -/
theorem pay8_apply (q : FVec Ideal S512x512 .bf16) (k v : Vec Ideal S256x128 .bf16) (r : Fin 512) (d : Fin 128) :
    k0_pay8 q k v (ix2 r d) = ∑ m, k0_pay7 q k (ix2 r m) * v (ix2 m d) := by
  pointwise [k0_pay8]

/-- and the sum of its weights. -/
theorem pay9_apply (q : FVec Ideal S512x512 .bf16) (k : Vec Ideal S256x128 .bf16) (r : Fin 512) (d : Fin 128) :
    k0_pay9 q k (ix2 r d) = ∑ m, k0_pay7 q k (ix2 r m) := by
  pointwise [k0_pay9]

/-- A column of the four heads side by side. -/
def side (q : FVec Ideal S512x512 .bf16) (a b : FVec Ideal S512x128 .bf16) (n l : FVec Ideal S512x128 .f32) (k v : Vec Ideal S256x128 .bf16)
    (r : Fin 512) (j : Fin 512) : EReal :=
  if h : j.val < 128 then a (ix2 r ⟨j.val, h⟩)
  else if h : j.val - 128 < 128 then b (ix2 r ⟨j.val - 128, h⟩)
  else if h : j.val - 128 - 128 < 128 then Ideal.div (n (ix2 r ⟨j.val - 128 - 128, h⟩)) (l (ix2 r ⟨j.val - 128 - 128, h⟩))
  else headK (scores (fun d => q (ix2 r ⟨384 + d.val, by have := d.isLt; omega⟩)) (fun m d => k (ix2 m d)))
    (fun m => v (ix2 m ⟨j.val - 128 - 128 - 128, by have := j.isLt; omega⟩))

/-- What is stored: the residual row plus the heads against the output weights. -/
theorem pay1_apply (x : FVec Ideal S512x2048 .f32) (q : FVec Ideal S512x512 .bf16) (a b : FVec Ideal S512x128 .bf16) (n s : FVec Ideal S512x128 .f32)
    (k v : Vec Ideal S256x128 .bf16) (w : Vec Ideal S512x2048 .bf16) (r : Fin 512) (l : Fin 2048) :
    k0_pay1 x q a b n s k v w (ix2 r l) = x (ix2 r l) + ∑ j, side q a b n s k v r j * w (ix2 j l) := by
  pointwise [k0_pay1]
  refine congrArg (x (ix2 r l) + ·) (Finset.sum_congr rfl fun j _ => ?_)
  unfold side headK weight rowMax scores
  rfl

end Cert.XattnIdeal.Hand

end
-- ==== Proof.Xattn.Out.lean ====
/-
  The attention over the memory: what a grid point stores, as a function of its blocks.
-/
module

public import proofs.«01_k».proof.Proof.Xattn.Kernel

@[expose] public section

set_option maxRecDepth 16384

noncomputable section

open Idealize.ShloMosaic Idealize.ShloMosaic.TcCoe Idealize.SL.Sem

namespace Cert.XattnIdeal.Hand

open Cert.XattnIdeal Cert.XattnIdeal.Gen Cert.XattnIdeal.Value Cert.Rows

variable (x0 : Vec Ideal S512x2048 .bf16) (x1 : Vec Ideal S2048x2048 .bf16) (x2 : Vec Ideal S512x2048 .f32) (x3 : Vec Ideal S1x2048 .f32)
  (x4 : Vec Ideal S2048x512 .bf16) (x5 : Vec Ideal S256x1024 .bf16) (x6 : Vec Ideal S512x2048 .bf16)

theorem out_eq : Gen.out0_7 x0 x1 x2 x3 x4 x5 x6
    = k0_pay1 (k0_pay2 x2 x0 x1) (k0_pay3 x2 x0 x1 x3 x4) (k0_pay5 (View.ld x5 r0_5) (k0_pay4 x2 x0 x1 x3 x4 (View.ld x5 r0_4)))
        (k0_pay6 (k0_pay3 x2 x0 x1 x3 x4) (View.ld x5 r0_6) (View.ld x5 r0_7)) (k0_pay8 (k0_pay3 x2 x0 x1 x3 x4) (View.ld x5 r0_8) (View.ld x5 r0_9))
        (k0_pay9 (k0_pay3 x2 x0 x1 x3 x4) (View.ld x5 r0_8)) (View.ld x5 r0_10) (View.ld x5 r0_11) x6 := by
  frame_out
  have e : k0_pay10 x0 x1 x2 x3 x4 x5 x6 = k0_pay3 x2 x0 x1 x3 x4 := by
    unfold k0_pay10
    frame_out
  rw [e]

/-- The memory block's rows. -/
abbrev kvrow (m : Fin 256) (j : Fin 1024) : EReal := x5 (ix2 m j)

theorem ld4 (m : Fin 256) (d : Fin 128) : View.ld x5 r0_4 (ix2 m d) = kvrow x5 m ⟨d.val, by have := d.isLt; omega⟩ := by
  refine congrArg x5 (funext fun a => ?_)
  fin_cases a
  · exact Fin.ext (show 0 + 1 * m.val = m.val by omega)
  · exact Fin.ext (show 0 + 1 * d.val = d.val by omega)
theorem ld5 (m : Fin 256) (d : Fin 128) : View.ld x5 r0_5 (ix2 m d) = kvrow x5 m ⟨512 + d.val, by have := d.isLt; omega⟩ := by
  refine congrArg x5 (funext fun a => ?_)
  fin_cases a
  · exact Fin.ext (show 0 + 1 * m.val = m.val by omega)
  · exact Fin.ext (show 512 + 1 * d.val = 512 + d.val by omega)
theorem ld6 (m : Fin 256) (d : Fin 128) : View.ld x5 r0_6 (ix2 m d) = kvrow x5 m ⟨128 + d.val, by have := d.isLt; omega⟩ := by
  refine congrArg x5 (funext fun a => ?_)
  fin_cases a
  · exact Fin.ext (show 0 + 1 * m.val = m.val by omega)
  · exact Fin.ext (show 128 + 1 * d.val = 128 + d.val by omega)
theorem ld7 (m : Fin 256) (d : Fin 128) : View.ld x5 r0_7 (ix2 m d) = kvrow x5 m ⟨640 + d.val, by have := d.isLt; omega⟩ := by
  refine congrArg x5 (funext fun a => ?_)
  fin_cases a
  · exact Fin.ext (show 0 + 1 * m.val = m.val by omega)
  · exact Fin.ext (show 640 + 1 * d.val = 640 + d.val by omega)
theorem ld8 (m : Fin 256) (d : Fin 128) : View.ld x5 r0_8 (ix2 m d) = kvrow x5 m ⟨256 + d.val, by have := d.isLt; omega⟩ := by
  refine congrArg x5 (funext fun a => ?_)
  fin_cases a
  · exact Fin.ext (show 0 + 1 * m.val = m.val by omega)
  · exact Fin.ext (show 256 + 1 * d.val = 256 + d.val by omega)
theorem ld9 (m : Fin 256) (d : Fin 128) : View.ld x5 r0_9 (ix2 m d) = kvrow x5 m ⟨768 + d.val, by have := d.isLt; omega⟩ := by
  refine congrArg x5 (funext fun a => ?_)
  fin_cases a
  · exact Fin.ext (show 0 + 1 * m.val = m.val by omega)
  · exact Fin.ext (show 768 + 1 * d.val = 768 + d.val by omega)
theorem ld10 (m : Fin 256) (d : Fin 128) : View.ld x5 r0_10 (ix2 m d) = kvrow x5 m ⟨384 + d.val, by have := d.isLt; omega⟩ := by
  refine congrArg x5 (funext fun a => ?_)
  fin_cases a
  · exact Fin.ext (show 0 + 1 * m.val = m.val by omega)
  · exact Fin.ext (show 384 + 1 * d.val = 384 + d.val by omega)
theorem ld11 (m : Fin 256) (d : Fin 128) : View.ld x5 r0_11 (ix2 m d) = kvrow x5 m ⟨896 + d.val, by have := d.isLt; omega⟩ := by
  refine congrArg x5 (funext fun a => ?_)
  fin_cases a
  · exact Fin.ext (show 0 + 1 * m.val = m.val by omega)
  · exact Fin.ext (show 896 + 1 * d.val = 896 + d.val by omega)

/-- A head read through its own columns is the head its column belongs to. -/
theorem head_col (q : Fin 512 → EReal) (kv : Fin 256 → Fin 1024 → EReal) (j : Fin 512) (s v : Fin 256 → EReal)
    (qh : Fin 128 → EReal) (kh : Fin 256 → Fin 128 → EReal) (hs : s = scores qh kh) (hq : ∀ d, qh d = q (headCol j d))
    (hk : ∀ m d, kh m d = kv m ⟨(headCol j d).val, by have := (headCol j d).isLt; omega⟩) (hv : ∀ m, v m = colVal kv j m) :
    headK s v = headK (colScores q kv j) (colVal kv j) := by
  rw [hs, funext hq, funext hv, funext fun m => funext (hk m)]
  rfl

/-- The four heads side by side, column by column. -/
theorem side_eq (q : FVec Ideal S512x512 .bf16) (w : FVec Ideal S512x256 .f32) (r : Fin 512) (j : Fin 512)
    (hw : ∀ m, w (ix2 r m) = weight (scores (fun d => q (ix2 r ⟨d.val, by have := d.isLt; omega⟩)) (fun m d => View.ld x5 r0_4 (ix2 m d))) m) :
    side q (k0_pay5 (View.ld x5 r0_5) w) (k0_pay6 q (View.ld x5 r0_6) (View.ld x5 r0_7)) (k0_pay8 q (View.ld x5 r0_8) (View.ld x5 r0_9))
        (k0_pay9 q (View.ld x5 r0_8)) (View.ld x5 r0_10) (View.ld x5 r0_11) r j
      = headK (colScores (fun j => q (ix2 r j)) (kvrow x5) j) (colVal (kvrow x5) j) := by
  have hj := j.isLt
  unfold side
  split
  · rw [pay5_apply]
    simp only [hw]
    refine head_col _ _ j _ _ _ _ rfl (fun d => congrArg (fun i => q (ix2 r i)) (Fin.ext ?_)) (fun m d => (ld4 x5 m d).trans (congrArg (kvrow x5 m) (Fin.ext ?_)))
      (fun m => (ld5 x5 m _).trans (congrArg (kvrow x5 m) (Fin.ext ?_)))
    · show d.val = j.val / 128 * 128 + d.val; omega
    · show d.val = j.val / 128 * 128 + d.val; omega
    · rfl
  · split
    · rw [pay6_apply]
      refine head_col _ _ j _ _ _ _ rfl (fun d => congrArg (fun i => q (ix2 r i)) (Fin.ext ?_)) (fun m d => (ld6 x5 m d).trans (congrArg (kvrow x5 m) (Fin.ext ?_)))
        (fun m => (ld7 x5 m _).trans (congrArg (kvrow x5 m) (Fin.ext ?_)))
      · show 128 + d.val = j.val / 128 * 128 + d.val; omega
      · show 128 + d.val = j.val / 128 * 128 + d.val; omega
      · show 640 + (j.val - 128) = 512 + j.val; omega
    · split
      · rw [pay8_apply, pay9_apply]
        simp only [pay7_apply]
        refine head_col _ _ j _ _ _ _ rfl (fun d => congrArg (fun i => q (ix2 r i)) (Fin.ext ?_)) (fun m d => (ld8 x5 m d).trans (congrArg (kvrow x5 m) (Fin.ext ?_)))
          (fun m => (ld9 x5 m _).trans (congrArg (kvrow x5 m) (Fin.ext ?_)))
        · show 256 + d.val = j.val / 128 * 128 + d.val; omega
        · show 256 + d.val = j.val / 128 * 128 + d.val; omega
        · show 768 + (j.val - 128 - 128) = 512 + j.val; omega
      · refine head_col _ _ j _ _ _ _ rfl (fun d => congrArg (fun i => q (ix2 r i)) (Fin.ext ?_)) (fun m d => (ld10 x5 m d).trans (congrArg (kvrow x5 m) (Fin.ext ?_)))
          (fun m => (ld11 x5 m _).trans (congrArg (kvrow x5 m) (Fin.ext ?_)))
        · show 384 + d.val = j.val / 128 * 128 + d.val; omega
        · show 384 + d.val = j.val / 128 * 128 + d.val; omega
        · show 896 + (j.val - 128 - 128 - 128) = 512 + j.val; omega

/-- What a point stores, element by element. -/
theorem out_apply (r : Fin 512) (l : Fin 2048) :
    k0_pay1 (k0_pay2 x2 x0 x1) (k0_pay3 x2 x0 x1 x3 x4) (k0_pay5 (View.ld x5 r0_5) (k0_pay4 x2 x0 x1 x3 x4 (View.ld x5 r0_4)))
        (k0_pay6 (k0_pay3 x2 x0 x1 x3 x4) (View.ld x5 r0_6) (View.ld x5 r0_7)) (k0_pay8 (k0_pay3 x2 x0 x1 x3 x4) (View.ld x5 r0_8) (View.ld x5 r0_9))
        (k0_pay9 (k0_pay3 x2 x0 x1 x3 x4) (View.ld x5 r0_8)) (View.ld x5 r0_10) (View.ld x5 r0_11) x6 (ix2 r l)
      = resid (fun k => x2 (ix2 r k)) (fun k => x0 (ix2 r k)) (fun k l => x1 (ix2 k l)) l
        + ∑ j, headK (colScores (query (rms (resid (fun k => x2 (ix2 r k)) (fun k => x0 (ix2 r k)) (fun k l => x1 (ix2 k l))) (fun k => x3 (ix2 0 k)))
            (fun k j => x4 (ix2 k j))) (kvrow x5) j) (colVal (kvrow x5) j) * x6 (ix2 j l) := by
  rw [pay1_apply, pay2_apply]
  refine congrArg₂ HAdd.hAdd rfl (Finset.sum_congr rfl fun j _ => congrArg (fun z : EReal => z * x6 (ix2 j l)) ?_)
  rw [side_eq x5 _ _ r j fun m => pay4_apply x2 x0 x1 x3 x4 _ r m]
  exact congrArg (fun q => headK (colScores q (kvrow x5) j) (colVal (kvrow x5) j)) (funext fun j => pay3_apply x2 x0 x1 x3 x4 r j)

end Cert.XattnIdeal.Hand

end
-- ==== Proof.Xattn.Ref.lean ====
/-
  The reference of the attention over the memory, read at an element.
-/
module

public import proofs.«01_k».proof.Proof.Xattn.Real
public import proofs.«01_k».proof.Proof.Gen.XattnRefIdeal.Read
public import Idealize.ShloMosaic.Lib.Pointwise
public import Idealize.ShloMosaic.Lib.KernelVsHost
public import Idealize.ShloMosaic.PureOps.Ideal.Laws

@[expose] public section

set_option maxRecDepth 16384

noncomputable section

open Idealize.ShloMosaic Idealize.ShloMosaic.TcCoe

namespace Cert.XattnRefIdeal.Hand

open Cert.XattnRefIdeal Cert.XattnRefIdeal.Gen Cert.XattnRefIdeal.Read Cert.Rows

variable (mg : FVec Ideal S16384x2048 .bf16) (wm : FVec Ideal S2048x2048 .f32) (x : FVec Ideal S16384x2048 .f32) (g : FVec Ideal S2048 .f32)
  (wq : FVec Ideal S2048x512 .f32) (kv : FVec Ideal S1024x1024 .bf16) (wo : FVec Ideal S512x2048 .f32)

/-- The residual row `R`. -/
abbrev res (R : Fin 16384) : Fin 2048 → EReal := resid (fun k => x (ix2 R k)) (fun k => mg (ix2 R k)) (fun k l => wm (ix2 k l))

/-- The query row `R`. -/
abbrev qry (R : Fin 16384) : Fin 512 → EReal := query (rms (res mg wm x R) (fun k => g (ix1 k))) (fun k j => wq (ix2 k j))

/-- The keys and values of batch element `b`. -/
abbrev mem (b : Fin 4) (m : Fin 256) (j : Fin 1024) : EReal := kv (ix2 ⟨b.val * 256 + m.val, by have := b.isLt; have := m.isLt; omega⟩ j)

theorem res_apply (R : Fin 16384) (l : Fin 2048) : val_main_v2 (F := Ideal) mg wm x (ix2 R l) = res mg wm x R l := by
  unfold res resid
  pointwise [val_main_v2, val_main_v1, val_main_v0]

theorem qry_apply (R : Fin 16384) (j : Fin 512) : val_main_v16 (F := Ideal) mg wm x g wq (ix2 R j) = qry mg wm x g wq R j := by
  unfold qry query rms scale
  simp only [← res_apply]
  pointwise [val_main_v16, val_main_v15, val_main_v14, val_main_v13, val_main_v12, val_main_v11, val_main_v10, val_main_v9, val_main_v8, val_main_v7,
    val_main_v6, val_main_v5, val_main_cst_1, val_main_v4, val_main_v3, val_main_cst_0, val_main_cst]

theorem scores_apply (b : Fin 4) (h : Fin 4) (s : Fin 4096) (m : Fin 256) :
    val_main_v26 (F := Ideal) mg wm x g wq kv (ix4 b h s m)
      = scores (fun d => qry mg wm x g wq ⟨b.val * 4096 + s.val, by have := b.isLt; have := s.isLt; omega⟩ ⟨h.val * 128 + d.val, by have := h.isLt; have := d.isLt; omega⟩)
          (fun m d => mem kv b m ⟨h.val * 128 + d.val, by have := h.isLt; have := d.isLt; omega⟩) m := by
  unfold scores mem
  simp only [← qry_apply]
  pointwise [val_main_v26, val_main_v25, val_main_cst_2, val_main_v24, val_main_v21, val_main_v20, val_main_v19, val_main_v18, val_main_v17]

theorem reduces_last : S4x4x4096x256.Reduces [3] S4x4x4096 := by decide

/-- The reference's row maximum, of any array of scores. -/
theorem max_apply (v : FVec Ideal S4x4x4096x256 .f32) (b : Fin 4) (h : Fin 4) (s : Fin 4096) :
    Host.reduce FloatOps.maximumf v (constant S_ .f32 0xFF800000#32) reducesTo_S4x4x4096x256_S4x4x4096_d3 h_S_ (ix3 b h s)
      = rowMax (fun m => v (ix4 b h s m)) := by
  refine (congrFun (hostReduce_maximumf_eq_multiReduction v 0xFF800000#32 reducesTo_S4x4x4096x256_S4x4x4096_d3 h_S_ reduces_last (.inl rfl) rfl) _).trans
    ((Ideal.multiReduction_maximumf_single v 0xFF800000#32 reduces_last (.inl rfl) rfl _).trans ?_)
  unfold rowMax
  refine Finset.fold_congr fun m _ => congrArg v (funext fun a => ?_)
  fin_cases a <;> rfl

theorem weight_apply (b : Fin 4) (h : Fin 4) (s : Fin 4096) (m : Fin 256) :
    val_main_v33 (F := Ideal) mg wm x g wq kv (ix4 b h s m) = weight (fun m => val_main_v26 (F := Ideal) mg wm x g wq kv (ix4 b h s m)) m := by
  have e : val_main_v27 (F := Ideal) mg wm x g wq kv (ix3 b h s) = rowMax (fun m => val_main_v26 (F := Ideal) mg wm x g wq kv (ix4 b h s m)) :=
    max_apply _ b h s
  have i : idx_main_v30 (idx_main_v31 (ix4 b h s m)) = ix3 b h s := by funext a; fin_cases a <;> rfl
  rw [val_main_v33_apply, val_main_v32_apply, val_main_v31_apply, val_main_v30_apply, val_main_v29_apply, val_main_v28_apply, val_main_cst_4_apply, i, e]
  show Ideal.exp (_ - max (Ideal.ofBits .f32 0xFF800000#32) (rowMax _)) = _
  rw [rowMax_max]
  rfl

theorem head_apply (b : Fin 4) (h : Fin 4) (d : Fin 128) (s : Fin 4096) :
    val_main_v38 (F := Ideal) mg wm x g wq kv (ix4 b h d s)
      = headR (fun m => val_main_v26 (F := Ideal) mg wm x g wq kv (ix4 b h s m))
          (fun m => mem kv b m ⟨512 + (h.val * 128 + d.val), by have := h.isLt; have := d.isLt; omega⟩) := by
  unfold headR mem
  simp only [← weight_apply]
  pointwise [val_main_v38, val_main_v37, val_main_v36, val_main_v35, val_main_v34, val_main_cst_5, val_main_v23, val_main_v22, val_main_v19, val_main_v18]

/-- The batch element of row `R`. -/
abbrev batch (R : Fin 16384) : Fin 4 := ⟨R.val / 4096, by have := R.isLt; omega⟩

theorem col_apply (R : Fin 16384) (j : Fin 512) :
    val_main_v40 (F := Ideal) mg wm x g wq kv (ix2 R j)
      = val_main_v38 (F := Ideal) mg wm x g wq kv (ix4 (batch R) ⟨j.val / 128, by have := j.isLt; omega⟩ ⟨j.val % 128, Nat.mod_lt _ (by decide)⟩
          ⟨R.val % 4096, Nat.mod_lt _ (by decide)⟩) := by
  pointwise [val_main_v40, val_main_v39]

/-- The reference at an element. -/
theorem ref_apply (R : Fin 16384) (l : Fin 2048) :
    val_main_v42 (F := Ideal) mg wm x g wq kv wo (ix2 R l)
      = res mg wm x R l + ∑ j, headR (colScores (qry mg wm x g wq R) (mem kv (batch R)) j) (colVal (mem kv (batch R)) j) * wo (ix2 j l) := by
  rw [← res_apply]
  pointwise [val_main_v42, val_main_v41]
  refine congrArg (_ + ·) (Finset.sum_congr rfl fun j _ => congrArg (· * _) ?_)
  rw [col_apply, head_apply]
  refine congrArg₂ headR ?_ ?_
  · funext m
    rw [scores_apply]
    unfold colScores headCol
    refine congrFun (congrArg₂ scores (funext fun d => ?_) rfl) m
    exact congrArg (fun R => qry mg wm x g wq R _) (Fin.ext (show R.val / 4096 * 4096 + R.val % 4096 = R.val by omega))
  · funext m
    unfold colVal
    exact congrArg (mem kv _ m) (Fin.ext (show 512 + (j.val / 128 * 128 + j.val % 128) = 512 + j.val by omega))

end Cert.XattnRefIdeal.Hand

end
-- ==== Proof.Xattn.Pre.lean ====
/-
  The precondition of the attention over the memory, read back: every element it names is finite.
-/
module

public import proofs.«01_k».proof.Defs
public import proofs.«01_k».proof.Proof.Xattn.Real
public import Idealize.ShloMosaic.Lib.ReduceAll
public import Idealize.ShloMosaic.Lib.Pointwise

@[expose] public section

set_option maxRecDepth 16384

noncomputable section

open Idealize.ShloMosaic

namespace Cert.Pre_finite.Hand

open Cert.Pre_finite Cert.Rows

/-- The shapes of the precondition's operations fit. -/
instance facts : Cert.Pre_finite.Facts where
  bitsLt_bf16_f32 := by decide
  bcast_S_S16384x2048 := by decide
  reducesTo_S16384x2048_S_d0_1 := by decide
  h_S_ := by decide
  bcast_S_S2048x2048 := by decide
  reducesTo_S2048x2048_S_d0_1 := by decide
  bcast_S_S2048 := by decide
  reducesTo_S2048_S_d0 := by decide
  bcast_S_S2048x512 := by decide
  reducesTo_S2048x512_S_d0_1 := by decide
  bcast_S_S1024x1024 := by decide
  reducesTo_S1024x1024_S_d0_1 := by decide

theorem word_top : Ideal.ofBits .f32 0x7F800000#32 = ⊤ := by
  simp [Ideal.ofBits, Ideal.ieee]

/-- A magnitude that compares below the infinity word is a finite number's. -/
theorem real_of_cmp (x : EReal) (h : Ideal.cmp .olt (max x (-x)) (Ideal.ofBits .f32 0x7F800000#32) = 1#1) : IsReal x := by
  rw [word_top] at h
  refine isReal_of_abs_lt ?_
  by_contra hc
  simp [Ideal.cmp, hc] at h

instance : Subsingleton S_.Idx := ⟨fun a b => funext fun i => i.elim0⟩

/-- Under the precondition every element of the six arguments is finite. -/
theorem real_of_pre (a0 : FVec Ideal S16384x2048 .bf16) (a1 : FVec Ideal S2048x2048 .f32) (a2 : FVec Ideal S16384x2048 .f32) (a3 : FVec Ideal S2048 .f32)
    (a4 : FVec Ideal S2048x512 .f32) (a5 : FVec Ideal S1024x1024 .bf16) (a6 : FVec Ideal S512x2048 .f32)
    (h : Cert.Pre_finite.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i)) ∧ ∀ i, IsReal (a5 i) := by
  have h := congrFun h (fun i => i.elim0)
  simp only [fn, fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i), fun i => real_of_cmp _ (Host.reduce_andi_all _ _ _ _ _ h3 i),
    fun i => real_of_cmp _ (Host.reduce_andi_all _ _ _ _ _ h4 i), fun i => real_of_cmp _ (Host.reduce_andi_all _ _ _ _ _ h5 i)⟩

end Cert.Pre_finite.Hand

end
-- ==== Proof.Xattn.Claims.lean ====
/-
  The attention over the memory: the row tiles put together, and the claims.
-/
module

public import proofs.«01_k».proof.Defs
public import proofs.«01_k».proof.Proof.Gen.XattnIdeal.Value
public import proofs.«01_k».proof.Proof.Gen.XattnRefIdeal.Read
public import proofs.«01_k».proof.Proof.Gen.Xattn.Frame
public import proofs.«01_k».proof.Proof.Xattn.Out
public import proofs.«01_k».proof.Proof.Xattn.Ref
public import proofs.«01_k».proof.Proof.Xattn.Pre
public import Idealize.ShloMosaic.Lib.Pointwise
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.XattnIdeal.Hand

open Cert.XattnIdeal Cert.XattnIdeal.Gen Cert.XattnIdeal.Value Cert.Rows

open Cert.XattnIdeal Cert.XattnIdeal.Gen Cert.XattnIdeal.Value Cert.Rows

variable (m : (ℓ : Loc nD τ sig) → Buf (Elt Ideal) ℓ)

/-- The windows' block indices: point `t` takes rows `512 t …` and the memory of batch element `t / 8`. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val / 8, 0] ∧ win0_6.index t = ![0, 0] ∧ win0_7.index t = ![t.val, 0] :=
  (by decide +kernel : ∀ t : Fin grid0.N, _)

abbrev MG (c : Dev nD) : Vec Ideal S16384x2048 .bf16 := m ((c : Thread nD τ).loc main_arg0)
abbrev WM (c : Dev nD) : Vec Ideal S2048x2048 .f32 := m ((c : Thread nD τ).loc main_arg1)
abbrev X (c : Dev nD) : Vec Ideal S16384x2048 .f32 := m ((c : Thread nD τ).loc main_arg2)
abbrev G (c : Dev nD) : Vec Ideal S2048 .f32 := m ((c : Thread nD τ).loc main_arg3)
abbrev WQ (c : Dev nD) : Vec Ideal S2048x512 .f32 := m ((c : Thread nD τ).loc main_arg4)
abbrev KV (c : Dev nD) : Vec Ideal S1024x1024 .bf16 := m ((c : Thread nD τ).loc main_arg5)
abbrev WO (c : Dev nD) : Vec Ideal S512x2048 .f32 := m ((c : Thread nD τ).loc main_arg6)

theorem N_eq : cfg0.N = 32 := N_0

/-- The array's row a point's row is. -/
abbrev row (t : Fin cfg0.N) (r : Fin 512) : Fin 16384 :=
  ⟨t.val * 512 + r.val, by have := lt_of_lt_of_eq t.isLt N_eq; have := r.isLt; omega⟩

theorem blk0 (c : Dev nD) (t : Fin cfg0.N) (r : Fin 512) (k : Fin 2048) : iblk m c 0 t (ix2 r k) = MG m c (ix2 (row t r) k) := by
  blk_point [iblk, V, idx t]
theorem blk1 (c : Dev nD) (t : Fin cfg0.N) (k : Fin 2048) (l : Fin 2048) : iblk m c 1 t (ix2 k l) = WM m c (ix2 k l) := by
  blk_point [iblk, V, idx t]
theorem blk2 (c : Dev nD) (t : Fin cfg0.N) (r : Fin 512) (k : Fin 2048) : iblk m c 2 t (ix2 r k) = X m c (ix2 (row t r) k) := by
  blk_point [iblk, V, idx t]
theorem blk3 (c : Dev nD) (t : Fin cfg0.N) (k : Fin 2048) : iblk m c 3 t (ix2 0 k) = G m c (ix1 k) := by
  blk_point [iblk, V, idx t]
theorem blk4 (c : Dev nD) (t : Fin cfg0.N) (k : Fin 2048) (l : Fin 512) : iblk m c 4 t (ix2 k l) = WQ m c (ix2 k l) := by
  blk_point [iblk, V, idx t]
theorem blk5 (c : Dev nD) (t : Fin cfg0.N) (s : Fin 256) (j : Fin 1024) :
    iblk m c 5 t (ix2 s j) = KV m c (ix2 ⟨t.val / 8 * 256 + s.val, by have := lt_of_lt_of_eq t.isLt N_eq; have := s.isLt; omega⟩ j) := by
  blk_point [iblk, V, idx t]
theorem blk6 (c : Dev nD) (t : Fin cfg0.N) (k : Fin 512) (l : Fin 2048) : iblk m c 6 t (ix2 k l) = WO m c (ix2 k l) := by
  blk_point [iblk, V, idx t]

/-- Row `R` of the result at column `l`, from the arrays. -/
def elem (mg : Vec Ideal S16384x2048 .bf16) (wm : Vec Ideal S2048x2048 .f32) (x : Vec Ideal S16384x2048 .f32) (g : Vec Ideal S2048 .f32)
    (wq : Vec Ideal S2048x512 .f32) (kv : Vec Ideal S1024x1024 .bf16) (wo : Vec Ideal S512x2048 .f32) (R : Fin 16384) (l : Fin 2048) : EReal :=
  Cert.XattnRefIdeal.Hand.res mg wm x R l
    + ∑ j, headK (colScores (Cert.XattnRefIdeal.Hand.qry mg wm x g wq R) (Cert.XattnRefIdeal.Hand.mem kv (Cert.XattnRefIdeal.Hand.batch R)) j)
        (colVal (Cert.XattnRefIdeal.Hand.mem kv (Cert.XattnRefIdeal.Hand.batch R)) j) * wo (ix2 j l)

/-- A point's memory rows are its batch element's. -/
theorem kvrow_eq (c : Dev nD) (t : Fin cfg0.N) (r : Fin 512) :
    kvrow (iblk m c 5 t) = Cert.XattnRefIdeal.Hand.mem (KV m c) (Cert.XattnRefIdeal.Hand.batch (row t r)) := by
  funext s j
  refine (blk5 m c t s j).trans (congrArg (fun i => KV m c (ix2 i j)) (Fin.ext ?_))
  show t.val / 8 * 256 + s.val = (t.val * 512 + r.val) / 4096 * 256 + s.val
  have := r.isLt
  omega

/-- What point `t` stores. -/
theorem point (c : Dev nD) (t : Fin cfg0.N) (r : Fin 512) (l : Fin 2048) :
    Gen.out0_7 (iblk m c 0 t) (iblk m c 1 t) (iblk m c 2 t) (iblk m c 3 t) (iblk m c 4 t) (iblk m c 5 t) (iblk m c 6 t) (ix2 r l)
      = elem (MG m c) (WM m c) (X m c) (G m c) (WQ m c) (KV m c) (WO m c) (row t r) l := by
  rw [out_eq, out_apply, kvrow_eq m c t r]
  simp only [blk0, blk1, blk2, blk3, blk4, blk6]
  rfl

/-- The result array, element by element. -/
def result (c : Dev nD) : Vec Ideal S16384x2048 .f32 := fun i => elem (MG m c) (WM m c) (X m c) (G m c) (WQ m c) (KV m c) (WO m c) (i 0) (i 1)

/-- The array after the run. -/
theorem final (c : Dev nD) : (dats m 0 c).arrAt 7 cfg0.N = result m c := by
  refine (dats m 0 c).arrAt_eq_of_covers 7 _ (by decide +kernel) fun t hf y => ?_
  blk_simp
  rw [after0_7]
  refine ((congrArg (Gen.out0_7 _ _ _ _ _ _ _) (eq_ix2 _)).trans (point m c t (y 0) (y 1))).trans ?_
  unfold result
  have e0 : (((cfg0.win 7).blk t).view.emb y 0).val = t.val * 512 + (y 0).val := by
    show win0_7.index t 0 * 512 + 1 * (y 0).val = _; simp [(idx t).2.2.2.2.2.2.2]
  have e1 : (((cfg0.win 7).blk t).view.emb y 1).val = (y 1).val := by
    show win0_7.index t 1 * 2048 + 1 * (y 1).val = _; simp [(idx t).2.2.2.2.2.2.2]
  exact congrArg₂ (elem _ _ _ _ _ _ _) (Fin.ext e0.symm) (Fin.ext e1.symm)

/-- For finite arguments the kernel's single division by the weights' sum is the reference's division of each weight. -/
theorem elem_eq (mg : Vec Ideal S16384x2048 .bf16) (wm : Vec Ideal S2048x2048 .f32) (x : Vec Ideal S16384x2048 .f32) (g : Vec Ideal S2048 .f32)
    (wq : Vec Ideal S2048x512 .f32) (kv : Vec Ideal S1024x1024 .bf16) (wo : Vec Ideal S512x2048 .f32)
    (h0 : ∀ i, IsReal (mg i)) (h1 : ∀ i, IsReal (wm i)) (h2 : ∀ i, IsReal (x i)) (h3 : ∀ i, IsReal (g i)) (h4 : ∀ i, IsReal (wq i))
    (h5 : ∀ i, IsReal (kv i)) (R : Fin 16384) (l : Fin 2048) :
    Cert.XattnRefIdeal.Read.val_main_v42 (F := Ideal) mg wm x g wq kv wo (ix2 R l) = elem mg wm x g wq kv wo R l := by
  rw [Cert.XattnRefIdeal.Hand.ref_apply]
  unfold elem
  have hr : ∀ k, IsReal (Cert.XattnRefIdeal.Hand.res mg wm x R k) := fun k =>
    (h2 _).add (IsReal.sum _ fun k => (h0 _).mul (h1 _))
  have hq : ∀ j, IsReal (Cert.XattnRefIdeal.Hand.qry mg wm x g wq R j) := fun j =>
    IsReal.sum _ fun k => (rms_real _ _ hr (fun k => h3 _) k).mul (h4 _)
  refine congrArg₂ HAdd.hAdd rfl (Finset.sum_congr rfl fun j _ => congrArg (fun z : EReal => z * wo (ix2 j l)) ?_)
  exact (head_eq _ _ fun s => colScores_real _ _ hq (fun _ _ => h5 _) j s).symm

end Cert.XattnIdeal.Hand

namespace Cert.Proof.Xattn

/-- The kernel's frame. -/
theorem frame : Cert.quiescent_Xattn := fun m ρ _ => Cert.Xattn.Gen.frame m ρ
/-- The idealized kernel's frame. -/
theorem frame_ideal : Cert.quiescent_XattnIdeal := fun m ρ _ => Cert.XattnIdeal.Gen.frame m ρ
/-- The idealized kernel's frame, of finite arguments. -/
theorem frame_ideal_finite : Cert.quiescent_XattnIdeal_pre_finite := fun m ρ _ => Cert.XattnIdeal.Gen.frame m ρ
/-- The reference's frame: its run read at the arguments. -/
theorem frame_ref : Cert.quiescent_XattnRefIdeal := fun m ρ _ =>
  (θ_run Cert.XattnRefIdeal.defs _ _).mono (fun r h => ⟨fun c => (h c).2, sem_eq_zero_of_no_sems (by decide) r.2⟩)
    (Cert.XattnRefIdeal.Value.run (F := Ideal) m ρ)
/-- The reference's frame, of finite arguments. -/
theorem frame_ref_finite : Cert.quiescent_XattnRefIdeal_pre_finite := fun m ρ _ => frame_ref m ρ trivial

/-- The kernel's result is the reference's, of finite arguments: both are the same function of the arguments, element by element. -/
theorem algebraic : Cert.algebraic_XattnIdeal_XattnRefIdeal_pre_finite := by
  intro m ρ m' ρ' hpre hag
  refine ⟨fun c => Cert.XattnIdeal.Hand.result m c, ?_, ?_⟩
  · exact (θ_run Cert.XattnIdeal.defs _ _).mono
      (fun _ h c => ⟨(h c).1.trans (Cert.XattnIdeal.Hand.final m c), (h c).2⟩)
      (Cert.XattnIdeal.Value.run_blocks (F := Ideal) m ρ)
  · refine (θ_run Cert.XattnRefIdeal.defs _ _).mono (fun _ h c => ⟨(h c).1.trans ?_, (h c).2⟩)
      (Cert.XattnRefIdeal.Value.run (F := Ideal) m' ρ')
    obtain ⟨h0, h1, h2, h3, h4, h5, h6⟩ := hag c
    rw [Cert.XattnRefIdeal.Read.val_main_v42_eq, h0, h1, h2, h3, h4, h5, h6]
    obtain ⟨p0, p1, p2, p3, p4, p5⟩ := Cert.Pre_finite.Hand.real_of_pre _ _ _ _ _ _ _ (hpre c)
    funext i
    exact (congrArg _ (eq_ix2 i)).trans (Cert.XattnIdeal.Hand.elem_eq _ _ _ _ _ _ _ p0 p1 p2 p3 p4 p5 (i 0) (i 1))

end Cert.Proof.Xattn

end
-- ==== Proof.Projqk.Kept.lean ====
/-
  The query and key columns: the stored weights, a head's rotation and its block means, as functions of the blocks.
-/
module

public import proofs.«01_k».proof.Proof.Gen.ProjqkIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjqkIdeal.Hand

open Cert.ProjqkIdeal Cert.ProjqkIdeal.Gen Cert.ProjqkIdeal.Value

/-- Lane `l` of a stored head is this lane of the given one: rotated, passed, rotated, passed. -/
def order (l : Fin 128) : Fin 128 :=
  if l.val < 16 then l else if h : l.val < 64 then ⟨l.val + 16, by omega⟩ else if l.val < 80 then ⟨l.val - 48, by have := l.isLt; omega⟩ else l

/-- A column's head, with its lane in the stored order. -/
def ordered (j : Fin 1024) : Fin 1024 :=
  ⟨j.val / 128 * 128 + (order ⟨j.val % 128, Nat.mod_lt _ (by decide)⟩).val, by
    have := j.isLt; have := (order ⟨j.val % 128, Nat.mod_lt _ (by decide)⟩).isLt; omega⟩

theorem late : ∀ l : Fin 128, IntOp.andi (IntOp.cmpi CmpIPredicate.sge (BitVec.ofNat 32 l.val) 64#32) (IntOp.cmpi CmpIPredicate.slt (BitVec.ofNat 32 l.val) 80#32)
    = if 64 ≤ l.val ∧ l.val < 80 then 1#1 else 0#1 := by decide +kernel

theorem early : ∀ l : Fin 128, IntOp.andi (IntOp.cmpi CmpIPredicate.sge (BitVec.ofNat 32 l.val) 16#32) (IntOp.cmpi CmpIPredicate.slt (BitVec.ofNat 32 l.val) 64#32)
    = if 16 ≤ l.val ∧ l.val < 64 then 1#1 else 0#1 := by decide +kernel

/-- A stored weight block: its lanes in the stored order. -/
theorem pay8_apply (v : Vec Ideal S256x128 .f32) (k : Fin 256) (l : Fin 128) : k0_pay8 v (ix2 k l) = v (ix2 k (order l)) := by
  have hl := l.isLt
  pointwise [k0_pay8]
  rw [late, early]
  unfold order
  by_cases h1 : 64 ≤ l.val ∧ l.val < 80
  · rw [if_pos h1, if_neg (by omega), if_neg (by omega), dif_neg (by omega), if_pos h1.2]
    exact congrArg (fun i => v (ix2 k i)) (Fin.ext (show (l.val + 128 - 48) % 128 = l.val - 48 by omega))
  · rw [if_neg h1]
    by_cases h2 : 16 ≤ l.val ∧ l.val < 64
    · rw [if_pos h2, if_neg (by omega), dif_pos h2.2]
      exact congrArg (fun i => v (ix2 k i)) (Fin.ext (show (l.val + 128 - 112) % 128 = l.val + 16 by omega))
    · rw [if_neg h2]
      refine congrArg (fun i => v (ix2 k i)) (Fin.ext ?_)
      show l.val = _
      split
      · rfl
      · rw [dif_neg (by omega), if_neg (by omega)]

/-- The stored weights. -/
def kept (w : Vec Ideal S2048x1024 .f32) : Vec Ideal S2048x1024 .bf16 := fun y => w (ix2 (y 0) (ordered (y 1)))

/-- One store of the weights: rows from `a`, the head at column `b`. -/
def piece (w : Vec Ideal S2048x1024 .f32) (a b : ℕ) (h : ∀ x, (![a, b] : Fin 2 → ℕ) x + S256x128.size x ≤ S2048x1024.size x) :
    View.Piece (Elt Ideal) S2048x1024 .bf16 :=
  ⟨Rect.unit ![a, b] S256x128.size h, k0_pay8 (View.ld w (Rect.unit ![a, b] S256x128.size h))⟩

/-- Such a store is a block of the stored weights. -/
theorem piece_ok (w : Vec Ideal S2048x1024 .f32) (a b : ℕ) (h : ∀ x, (![a, b] : Fin 2 → ℕ) x + S256x128.size x ≤ S2048x1024.size x) (hb : b % 128 = 0)
    (x : (piece w a b h).1.shape.Idx) : (piece w a b h).2 x = kept w ((piece w a b h).1.emb x) := by
  have h1 : (x 1).val < 128 := (x 1).isLt
  refine (congrArg (k0_pay8 _) (eq_ix2 x)).trans ((pay8_apply _ (x 0) (x 1)).trans ?_)
  refine congrArg w (funext fun i => ?_)
  fin_cases i
  · rfl
  · refine Fin.ext (show b + 1 * (order (x 1)).val = (b + 1 * (x 1).val) / 128 * 128 + (order ⟨(b + 1 * (x 1).val) % 128, _⟩).val from ?_)
    have e : (⟨(b + 1 * (x 1).val) % 128, Nat.mod_lt _ (by decide)⟩ : Fin 128) = x 1 := Fin.ext (show (b + 1 * (x 1).val) % 128 = (x 1).val by omega)
    rw [e]
    omega

/-- The stores of the weights, last made first. -/
def stores (w : Vec Ideal S2048x1024 .f32) : List (View.Piece (Elt Ideal) S2048x1024 .bf16) := [
  piece w 1792 896 inb_S2048x1024_S256x128_1792_896,
  piece w 1792 768 inb_S2048x1024_S256x128_1792_768,
  piece w 1792 640 inb_S2048x1024_S256x128_1792_640,
  piece w 1792 512 inb_S2048x1024_S256x128_1792_512,
  piece w 1792 384 inb_S2048x1024_S256x128_1792_384,
  piece w 1792 256 inb_S2048x1024_S256x128_1792_256,
  piece w 1792 128 inb_S2048x1024_S256x128_1792_128,
  piece w 1792 0 inb_S2048x1024_S256x128_1792_0,
  piece w 1536 896 inb_S2048x1024_S256x128_1536_896,
  piece w 1536 768 inb_S2048x1024_S256x128_1536_768,
  piece w 1536 640 inb_S2048x1024_S256x128_1536_640,
  piece w 1536 512 inb_S2048x1024_S256x128_1536_512,
  piece w 1536 384 inb_S2048x1024_S256x128_1536_384,
  piece w 1536 256 inb_S2048x1024_S256x128_1536_256,
  piece w 1536 128 inb_S2048x1024_S256x128_1536_128,
  piece w 1536 0 inb_S2048x1024_S256x128_1536_0,
  piece w 1280 896 inb_S2048x1024_S256x128_1280_896,
  piece w 1280 768 inb_S2048x1024_S256x128_1280_768,
  piece w 1280 640 inb_S2048x1024_S256x128_1280_640,
  piece w 1280 512 inb_S2048x1024_S256x128_1280_512,
  piece w 1280 384 inb_S2048x1024_S256x128_1280_384,
  piece w 1280 256 inb_S2048x1024_S256x128_1280_256,
  piece w 1280 128 inb_S2048x1024_S256x128_1280_128,
  piece w 1280 0 inb_S2048x1024_S256x128_1280_0,
  piece w 1024 896 inb_S2048x1024_S256x128_1024_896,
  piece w 1024 768 inb_S2048x1024_S256x128_1024_768,
  piece w 1024 640 inb_S2048x1024_S256x128_1024_640,
  piece w 1024 512 inb_S2048x1024_S256x128_1024_512,
  piece w 1024 384 inb_S2048x1024_S256x128_1024_384,
  piece w 1024 256 inb_S2048x1024_S256x128_1024_256,
  piece w 1024 128 inb_S2048x1024_S256x128_1024_128,
  piece w 1024 0 inb_S2048x1024_S256x128_1024_0,
  piece w 768 896 inb_S2048x1024_S256x128_768_896,
  piece w 768 768 inb_S2048x1024_S256x128_768_768,
  piece w 768 640 inb_S2048x1024_S256x128_768_640,
  piece w 768 512 inb_S2048x1024_S256x128_768_512,
  piece w 768 384 inb_S2048x1024_S256x128_768_384,
  piece w 768 256 inb_S2048x1024_S256x128_768_256,
  piece w 768 128 inb_S2048x1024_S256x128_768_128,
  piece w 768 0 inb_S2048x1024_S256x128_768_0,
  piece w 512 896 inb_S2048x1024_S256x128_512_896,
  piece w 512 768 inb_S2048x1024_S256x128_512_768,
  piece w 512 640 inb_S2048x1024_S256x128_512_640,
  piece w 512 512 inb_S2048x1024_S256x128_512_512,
  piece w 512 384 inb_S2048x1024_S256x128_512_384,
  piece w 512 256 inb_S2048x1024_S256x128_512_256,
  piece w 512 128 inb_S2048x1024_S256x128_512_128,
  piece w 512 0 inb_S2048x1024_S256x128_512_0,
  piece w 256 896 inb_S2048x1024_S256x128_256_896,
  piece w 256 768 inb_S2048x1024_S256x128_256_768,
  piece w 256 640 inb_S2048x1024_S256x128_256_640,
  piece w 256 512 inb_S2048x1024_S256x128_256_512,
  piece w 256 384 inb_S2048x1024_S256x128_256_384,
  piece w 256 256 inb_S2048x1024_S256x128_256_256,
  piece w 256 128 inb_S2048x1024_S256x128_256_128,
  piece w 256 0 inb_S2048x1024_S256x128_256_0,
  piece w 0 896 inb_S2048x1024_S256x128_0_896,
  piece w 0 768 inb_S2048x1024_S256x128_0_768,
  piece w 0 640 inb_S2048x1024_S256x128_0_640,
  piece w 0 512 inb_S2048x1024_S256x128_0_512,
  piece w 0 384 inb_S2048x1024_S256x128_0_384,
  piece w 0 256 inb_S2048x1024_S256x128_0_256,
  piece w 0 128 inb_S2048x1024_S256x128_0_128,
  piece w 0 0 inb_S2048x1024_S256x128_0_0]

/-- All of them are blocks of the stored weights. -/
theorem stores_ok (w : Vec Ideal S2048x1024 .f32) : View.PiecesOf (kept w) (stores w) :=
  ⟨piece_ok w 1792 896 _ rfl, piece_ok w 1792 768 _ rfl, piece_ok w 1792 640 _ rfl, piece_ok w 1792 512 _ rfl, piece_ok w 1792 384 _ rfl, piece_ok w 1792 256 _ rfl, piece_ok w 1792 128 _ rfl, piece_ok w 1792 0 _ rfl, piece_ok w 1536 896 _ rfl, piece_ok w 1536 768 _ rfl, piece_ok w 1536 640 _ rfl, piece_ok w 1536 512 _ rfl, piece_ok w 1536 384 _ rfl, piece_ok w 1536 256 _ rfl, piece_ok w 1536 128 _ rfl, piece_ok w 1536 0 _ rfl, piece_ok w 1280 896 _ rfl, piece_ok w 1280 768 _ rfl, piece_ok w 1280 640 _ rfl, piece_ok w 1280 512 _ rfl, piece_ok w 1280 384 _ rfl, piece_ok w 1280 256 _ rfl, piece_ok w 1280 128 _ rfl, piece_ok w 1280 0 _ rfl, piece_ok w 1024 896 _ rfl, piece_ok w 1024 768 _ rfl, piece_ok w 1024 640 _ rfl, piece_ok w 1024 512 _ rfl, piece_ok w 1024 384 _ rfl, piece_ok w 1024 256 _ rfl, piece_ok w 1024 128 _ rfl, piece_ok w 1024 0 _ rfl, piece_ok w 768 896 _ rfl, piece_ok w 768 768 _ rfl, piece_ok w 768 640 _ rfl, piece_ok w 768 512 _ rfl, piece_ok w 768 384 _ rfl, piece_ok w 768 256 _ rfl, piece_ok w 768 128 _ rfl, piece_ok w 768 0 _ rfl, piece_ok w 512 896 _ rfl, piece_ok w 512 768 _ rfl, piece_ok w 512 640 _ rfl, piece_ok w 512 512 _ rfl, piece_ok w 512 384 _ rfl, piece_ok w 512 256 _ rfl, piece_ok w 512 128 _ rfl, piece_ok w 512 0 _ rfl, piece_ok w 256 896 _ rfl, piece_ok w 256 768 _ rfl, piece_ok w 256 640 _ rfl, piece_ok w 256 512 _ rfl, piece_ok w 256 384 _ rfl, piece_ok w 256 256 _ rfl, piece_ok w 256 128 _ rfl, piece_ok w 256 0 _ rfl, piece_ok w 0 896 _ rfl, piece_ok w 0 768 _ rfl, piece_ok w 0 640 _ rfl, piece_ok w 0 512 _ rfl, piece_ok w 0 384 _ rfl, piece_ok w 0 256 _ rfl, piece_ok w 0 128 _ rfl, piece_ok w 0 0 _ rfl, trivial⟩

theorem stores_cover (w : Vec Ideal S2048x1024 .f32) (y : S2048x1024.Idx) : ∃ p ∈ stores w, y ∈ p.1.set :=
  View.cover_of_tiledL (stores w) S256x128.size (by sl_kernel_rfl) y

theorem stores_canon (w : Vec Ideal S2048x1024 .f32) : View.canon (stores w) = kept w := by
  funext y
  have h := View.canon_append_of_piecesOf (kept w) [] (stores w) (stores_ok w) y (stores_cover w y)
  rwa [List.append_nil] at h

variable (m : (ℓ : Loc nD τ sig) → Buf (Elt Ideal) ℓ)

/-- The first row tile of a column tile keeps the weights, their heads' lanes in the stored order. -/
theorem kept_first (c : Dev nD) (t : Fin cfg0.N) (acc : Vec Ideal S1024x1024 .bf16 × Vec Ideal S1x4x1024 .f32 × Vec Ideal S2048x1024 .bf16)
    (h0 : t.val % 16 = 0) : (stAt0 m c t.val t.isLt acc).2.2 = kept (iblk m c 1 t) := by
  rw [stAt0_A m c t acc h0, ← stores_canon]
  dsimp only; frame_out
  rfl

/-- Every other row tile leaves them. -/
theorem kept_next (c : Dev nD) (t : Fin cfg0.N) (acc : Vec Ideal S1024x1024 .bf16 × Vec Ideal S1x4x1024 .f32 × Vec Ideal S2048x1024 .bf16)
    (h0 : ¬t.val % 16 = 0) : (stAt0 m c t.val t.isLt acc).2.2 = acc.2.2 := by
  rw [stAt0_B m c t acc h0]
  rfl

end Cert.ProjqkIdeal.Hand

end
-- ==== Proof.Projqk.Tiles.lean ====
/-
  The query and key columns: what a grid point stores, head by head.
-/
module

public import proofs.«01_k».proof.Proof.Projqk.Kept

@[expose] public section

set_option maxRecDepth 16384

noncomputable section

open Idealize.ShloMosaic Idealize.ShloMosaic.TcCoe Idealize.SL.Sem
open Idealize.ShloMosaic.Pipeline (Dat)

namespace Cert.ProjqkIdeal.Hand

open Cert.ProjqkIdeal Cert.ProjqkIdeal.Gen Cert.ProjqkIdeal.Value

/-- A head's lanes turned by the tables. -/
def turn (v7 v10 a : FVec Ideal S1024x128 .f32) : FVec Ideal S1024x128 .f32 :=
  addf (mulf a v7) (mulf (dynamicRotate 1 64#32 none a rotates_S1024x128_d1) v10)

/-- The means of a head's lanes over each run of 256 rows. -/
def means (T : FVec Ideal S1024x128 .f32) : FVec Ideal S1x4x128 .f32 :=
  shapeCast S1x4x128 (divf (multiReduction .add [1] S4x128 (shapeCast S4x256x128 T shapeCasts_S1024x128_S4x256x128) 0x00000000#32 reduces_S4x256x128_S4x128 (.inl rfl) rfl)
    (broadcast S4x128 (Scalar.ofBits (F := Ideal) .f32 0x43800000#32))) shapeCasts_S4x128_S1x4x128

/-- Lane `l` turned: its own product with the first table, and lane `l + 64`'s with the second. -/
def lane (a c s : Fin 128 → EReal) (l : Fin 128) : EReal := a l * c l + a ⟨(l.val + 128 - 64) % 128, Nat.mod_lt _ (by decide)⟩ * s l

/-- The factor of a column tile. -/
def factor (i : grid0.Coords) : EReal := Scalar.select (Scalar.cmpi CmpIPredicate.slt (BitVec.ofNat 32 (i 0).val) 2#32) (Ideal.ofBits .f32 0x3E0293EE#32) 1

theorem turn_apply (v7 v10 a : FVec Ideal S1024x128 .f32) (r : Fin 1024) (l : Fin 128) :
    turn v7 v10 a (ix2 r l) = lane (fun l => a (ix2 r l)) (fun l => v7 (ix2 r l)) (fun l => v10 (ix2 r l)) l := by
  unfold lane
  pointwise [turn]

theorem means_apply (T : FVec Ideal S1024x128 .f32) (b : Fin 4) (l : Fin 128) :
    means T (ix3 0 b l) = Ideal.div (∑ x : Fin 256, T (ix2 ⟨b.val * 256 + x.val, by have := b.isLt; have := x.isLt; omega⟩ l)) (Ideal.ofBits .f32 0x43800000#32) := by
  pointwise [means]

theorem cos_apply (i : grid0.Coords) (v : Vec Ideal S1024x128 .f32) (r : Fin 1024) (l : Fin 128) : k0_pay73 i v (ix2 r l) = v (ix2 r l) * factor i := by
  unfold factor
  pointwise [k0_pay73, k0_pay72]

theorem sin_apply (i : grid0.Coords) (v : Vec Ideal S1024x128 .f32) (r : Fin 1024) (l : Fin 128) : k0_pay74 i v (ix2 r l) = v (ix2 r l) * factor i := by
  unfold factor
  pointwise [k0_pay74, k0_pay72]

theorem cut_apply (o : ℕ) (h : S1024x512.Slices ![0, o] S1024x128) (ho : o + 128 ≤ 512) (v : FVec Ideal S1024x512 .f32) (r : Fin 1024) (l : Fin 128) :
    extractStridedSlice S1024x128 ![0, o] v h (ix2 r l) = v (ix2 r ⟨o + l.val, by have := l.isLt; omega⟩) := by
  pointwise

theorem dot_apply (x : Vec Ideal S1024x2048 .bf16) (w : Vec Ideal S2048x512 .bf16) (r : Fin 1024) (j : Fin 512) :
    k0_pay75 x w (ix2 r j) = ∑ k, x (ix2 r k) * w (ix2 k j) := by
  pointwise [k0_pay75]

variable (i : grid0.Coords) (x : Vec Ideal S1024x2048 .bf16) (cs sn : Vec Ideal S1024x128 .f32)

/-- The head at column `o` of the product with half of the weights. -/
def head (w : Vec Ideal S2048x512 .bf16) (o : ℕ) (hs : S1024x512.Slices ![0, o] S1024x128) : FVec Ideal S1024x128 .f32 :=
  turn (k0_pay73 i cs) (k0_pay74 i sn) (extractStridedSlice S1024x128 ![0, o] (k0_pay75 x w) hs)

/-- A store of a head. -/
def put (w : Vec Ideal S2048x512 .bf16) (o b : ℕ) (hs : S1024x512.Slices ![0, o] S1024x128)
    (h : ∀ a, (![0, b] : Fin 2 → ℕ) a + S1024x128.size a ≤ S1024x1024.size a) : View.Piece (Elt Ideal) S1024x1024 .bf16 :=
  ⟨Rect.unit ![0, b] S1024x128.size h, truncf .bf16 (head i x cs sn w o hs) bitsLt_bf16_f32⟩

/-- A store of a head's means. -/
def putMean (w : Vec Ideal S2048x512 .bf16) (o b : ℕ) (hs : S1024x512.Slices ![0, o] S1024x128)
    (h : ∀ a, (![0, 0, b] : Fin 3 → ℕ) a + S1x4x128.size a ≤ S1x4x1024.size a) : View.Piece (Elt Ideal) S1x4x1024 .f32 :=
  ⟨Rect.unit ![0, 0, b] S1x4x128.size h, means (head i x cs sn w o hs)⟩

/-- The stores of the heads, last made first. -/
def puts (wa wb : Vec Ideal S2048x512 .bf16) : List (View.Piece (Elt Ideal) S1024x1024 .bf16) := [
  put i x cs sn wb 384 896 slices_S1024x512_o0_384_S1024x128 inb_S1024x1024_S1024x128_0_896,
  put i x cs sn wb 256 768 slices_S1024x512_o0_256_S1024x128 inb_S1024x1024_S1024x128_0_768,
  put i x cs sn wb 128 640 slices_S1024x512_o0_128_S1024x128 inb_S1024x1024_S1024x128_0_640,
  put i x cs sn wb 0 512 slices_S1024x512_o0_0_S1024x128 inb_S1024x1024_S1024x128_0_512,
  put i x cs sn wa 384 384 slices_S1024x512_o0_384_S1024x128 inb_S1024x1024_S1024x128_0_384,
  put i x cs sn wa 256 256 slices_S1024x512_o0_256_S1024x128 inb_S1024x1024_S1024x128_0_256,
  put i x cs sn wa 128 128 slices_S1024x512_o0_128_S1024x128 inb_S1024x1024_S1024x128_0_128,
  put i x cs sn wa 0 0 slices_S1024x512_o0_0_S1024x128 inb_S1024x1024_S1024x128_0_0]

/-- The stores of the heads' means, last made first. -/
def putMeans (wa wb : Vec Ideal S2048x512 .bf16) : List (View.Piece (Elt Ideal) S1x4x1024 .f32) := [
  putMean i x cs sn wb 384 896 slices_S1024x512_o0_384_S1024x128 inb_S1x4x1024_S1x4x128_0_0_896,
  putMean i x cs sn wb 256 768 slices_S1024x512_o0_256_S1024x128 inb_S1x4x1024_S1x4x128_0_0_768,
  putMean i x cs sn wb 128 640 slices_S1024x512_o0_128_S1024x128 inb_S1x4x1024_S1x4x128_0_0_640,
  putMean i x cs sn wb 0 512 slices_S1024x512_o0_0_S1024x128 inb_S1x4x1024_S1x4x128_0_0_512,
  putMean i x cs sn wa 384 384 slices_S1024x512_o0_384_S1024x128 inb_S1x4x1024_S1x4x128_0_0_384,
  putMean i x cs sn wa 256 256 slices_S1024x512_o0_256_S1024x128 inb_S1x4x1024_S1x4x128_0_0_256,
  putMean i x cs sn wa 128 128 slices_S1024x512_o0_128_S1024x128 inb_S1x4x1024_S1x4x128_0_0_128,
  putMean i x cs sn wa 0 0 slices_S1024x512_o0_0_S1024x128 inb_S1x4x1024_S1x4x128_0_0_0]

/-- The tile at row `r` and column `j`, from the whole stored weights. -/
def tile (w : Vec Ideal S2048x1024 .bf16) (r : Fin 1024) (j : Fin 1024) : EReal :=
  lane (fun l => ∑ k, x (ix2 r k) * w (ix2 k ⟨j.val / 128 * 128 + l.val, by have := j.isLt; have := l.isLt; omega⟩))
    (fun l => cs (ix2 r l) * factor i) (fun l => sn (ix2 r l) * factor i) ⟨j.val % 128, Nat.mod_lt _ (by decide)⟩

/-- The means of the tile. -/
def tileMean (w : Vec Ideal S2048x1024 .bf16) (b : Fin 4) (j : Fin 1024) : EReal :=
  Ideal.div (∑ s : Fin 256, tile i x cs sn w ⟨b.val * 256 + s.val, by have := b.isLt; have := s.isLt; omega⟩ j) (Ideal.ofBits .f32 0x43800000#32)

/-- The half of the weights from column `c0`. -/
abbrev halfRect (c0 : ℕ) (h : ∀ a, (![0, c0] : Fin 2 → ℕ) a + S2048x512.size a ≤ S2048x1024.size a) : Rect S2048x1024 := Rect.unit ![0, c0] S2048x512.size h

theorem half_apply (w : Vec Ideal S2048x1024 .bf16) (c0 : ℕ) (h : ∀ a, (![0, c0] : Fin 2 → ℕ) a + S2048x512.size a ≤ S2048x1024.size a) (hc : c0 + 512 ≤ 1024)
    (k : Fin 2048) (j : Fin 512) : View.ld w (halfRect c0 h) (ix2 k j) = w (ix2 k ⟨c0 + j.val, by have := j.isLt; omega⟩) := by
  refine congrArg w (funext fun a => ?_)
  fin_cases a
  · exact Fin.ext (show 0 + 1 * k.val = k.val by omega)
  · exact Fin.ext (show c0 + 1 * j.val = c0 + j.val by omega)

theorem head_apply (w : Vec Ideal S2048x1024 .bf16) (c0 o : ℕ) (h : ∀ a, (![0, c0] : Fin 2 → ℕ) a + S2048x512.size a ≤ S2048x1024.size a) (hc : c0 + 512 ≤ 1024)
    (hs : S1024x512.Slices ![0, o] S1024x128) (ho : o + 128 ≤ 512) (hm : (c0 + o) % 128 = 0) (r : Fin 1024) (l : Fin 128) :
    head i x cs sn (View.ld w (halfRect c0 h)) o hs (ix2 r l) = tile i x cs sn w r ⟨c0 + o + l.val, by have := l.isLt; omega⟩ := by
  have hl := l.isLt
  unfold head tile
  rw [turn_apply]
  simp only [cos_apply, sin_apply, cut_apply o hs ho, dot_apply, half_apply w c0 h hc]
  have e : (⟨(c0 + o + l.val) % 128, Nat.mod_lt _ (by decide)⟩ : Fin 128) = l := Fin.ext (show (c0 + o + l.val) % 128 = l.val by omega)
  rw [e]
  refine congrArg (fun a => lane a _ _ l) (funext fun l' => Finset.sum_congr rfl fun k _ => congrArg (fun j => x (ix2 r k) * w (ix2 k j)) (Fin.ext ?_))
  show c0 + (o + l'.val) = (c0 + o + l.val) / 128 * 128 + l'.val
  omega

theorem put_ok (w : Vec Ideal S2048x1024 .bf16) (c0 o b : ℕ) (h : ∀ a, (![0, c0] : Fin 2 → ℕ) a + S2048x512.size a ≤ S2048x1024.size a) (hc : c0 + 512 ≤ 1024)
    (hs : S1024x512.Slices ![0, o] S1024x128) (ho : o + 128 ≤ 512) (hm : (c0 + o) % 128 = 0) (hb : b = c0 + o)
    (hr : ∀ a, (![0, b] : Fin 2 → ℕ) a + S1024x128.size a ≤ S1024x1024.size a) (y : (put i x cs sn (View.ld w (halfRect c0 h)) o b hs hr).1.shape.Idx) :
    (put i x cs sn (View.ld w (halfRect c0 h)) o b hs hr).2 y
      = (fun z : S1024x1024.Idx => tile i x cs sn w (z 0) (z 1)) ((put i x cs sn (View.ld w (halfRect c0 h)) o b hs hr).1.emb y) := by
  subst hb
  refine (congrArg (head i x cs sn (View.ld w (halfRect c0 h)) o hs) (eq_ix2 y)).trans ((head_apply i x cs sn w c0 o h hc hs ho hm (y 0) (y 1)).trans ?_)
  refine congrArg₂ (tile i x cs sn w) (Fin.ext ?_) (Fin.ext ?_)
  · show (y 0).val = 0 + 1 * (y 0).val; omega
  · show c0 + o + (y 1).val = c0 + o + 1 * (y 1).val; omega

theorem putMean_ok (w : Vec Ideal S2048x1024 .bf16) (c0 o b : ℕ) (h : ∀ a, (![0, c0] : Fin 2 → ℕ) a + S2048x512.size a ≤ S2048x1024.size a) (hc : c0 + 512 ≤ 1024)
    (hs : S1024x512.Slices ![0, o] S1024x128) (ho : o + 128 ≤ 512) (hm : (c0 + o) % 128 = 0) (hb : b = c0 + o)
    (hr : ∀ a, (![0, 0, b] : Fin 3 → ℕ) a + S1x4x128.size a ≤ S1x4x1024.size a) (y : (putMean i x cs sn (View.ld w (halfRect c0 h)) o b hs hr).1.shape.Idx) :
    (putMean i x cs sn (View.ld w (halfRect c0 h)) o b hs hr).2 y
      = (fun z : S1x4x1024.Idx => tileMean i x cs sn w (z 1) (z 2)) ((putMean i x cs sn (View.ld w (halfRect c0 h)) o b hs hr).1.emb y) := by
  subst hb
  have e : y = ix3 (0 : Fin 1) (y 1 : Fin 4) (y 2 : Fin 128) := by
    funext a
    fin_cases a
    · exact Fin.ext (show (y 0).val = 0 by have : (y 0).val < 1 := (y 0).isLt; omega)
    · rfl
    · rfl
  refine (congrArg (means (head i x cs sn (View.ld w (halfRect c0 h)) o hs)) e).trans ((means_apply _ (y 1) (y 2)).trans ?_)
  refine congrArg (fun z => Ideal.div z (Ideal.ofBits .f32 0x43800000#32)) (Finset.sum_congr rfl fun s _ => ?_)
  refine (head_apply i x cs sn w c0 o h hc hs ho hm _ (y 2)).trans ?_
  refine congrArg₂ (tile i x cs sn w) (Fin.ext ?_) (Fin.ext ?_)
  · show (y 1).val * 256 + s.val = (0 + 1 * (y 1).val) * 256 + s.val; omega
  · show c0 + o + (y 2).val = c0 + o + 1 * (y 2).val; omega

/-- The two halves as the body loads them. -/
abbrev lo (w : Vec Ideal S2048x1024 .bf16) : Vec Ideal S2048x512 .bf16 := View.ld w (halfRect 0 inb_S2048x1024_S2048x512_0_0)
abbrev hi (w : Vec Ideal S2048x1024 .bf16) : Vec Ideal S2048x512 .bf16 := View.ld w (halfRect 512 inb_S2048x1024_S2048x512_0_512)

theorem puts_canon (w : Vec Ideal S2048x1024 .bf16) (y : S1024x1024.Idx) :
    View.canon (puts i x cs sn (lo w) (hi w)) y = tile i x cs sn w (y 0) (y 1) := by
  have h := View.canon_append_of_piecesOf (fun z : S1024x1024.Idx => tile i x cs sn w (z 0) (z 1)) [] (puts i x cs sn (lo w) (hi w))
    ⟨put_ok i x cs sn w 512 384 896 _ (by decide) _ (by decide) rfl rfl _,
      put_ok i x cs sn w 512 256 768 _ (by decide) _ (by decide) rfl rfl _,
      put_ok i x cs sn w 512 128 640 _ (by decide) _ (by decide) rfl rfl _,
      put_ok i x cs sn w 512 0 512 _ (by decide) _ (by decide) rfl rfl _,
      put_ok i x cs sn w 0 384 384 _ (by decide) _ (by decide) rfl rfl _,
      put_ok i x cs sn w 0 256 256 _ (by decide) _ (by decide) rfl rfl _,
      put_ok i x cs sn w 0 128 128 _ (by decide) _ (by decide) rfl rfl _,
      put_ok i x cs sn w 0 0 0 _ (by decide) _ (by decide) rfl rfl _, trivial⟩ y
    (View.cover_of_tiledL (puts i x cs sn (lo w) (hi w)) S1024x128.size (by sl_kernel_rfl) y)
  rwa [List.append_nil] at h

theorem putMeans_canon (w : Vec Ideal S2048x1024 .bf16) (y : S1x4x1024.Idx) :
    View.canon (putMeans i x cs sn (lo w) (hi w)) y = tileMean i x cs sn w (y 1) (y 2) := by
  have h := View.canon_append_of_piecesOf (fun z : S1x4x1024.Idx => tileMean i x cs sn w (z 1) (z 2)) [] (putMeans i x cs sn (lo w) (hi w))
    ⟨putMean_ok i x cs sn w 512 384 896 _ (by decide) _ (by decide) rfl rfl _,
      putMean_ok i x cs sn w 512 256 768 _ (by decide) _ (by decide) rfl rfl _,
      putMean_ok i x cs sn w 512 128 640 _ (by decide) _ (by decide) rfl rfl _,
      putMean_ok i x cs sn w 512 0 512 _ (by decide) _ (by decide) rfl rfl _,
      putMean_ok i x cs sn w 0 384 384 _ (by decide) _ (by decide) rfl rfl _,
      putMean_ok i x cs sn w 0 256 256 _ (by decide) _ (by decide) rfl rfl _,
      putMean_ok i x cs sn w 0 128 128 _ (by decide) _ (by decide) rfl rfl _,
      putMean_ok i x cs sn w 0 0 0 _ (by decide) _ (by decide) rfl rfl _, trivial⟩ y
    (View.cover_of_tiledL (putMeans i x cs sn (lo w) (hi w)) S1x4x128.size (by sl_kernel_rfl) y)
  rwa [List.append_nil] at h

/-- The weights stored at this point, loaded back. -/
theorem load_kept (w : Vec Ideal S2048x1024 .f32) (r : Rect S2048x1024) :
    (View.whole cc0_scratch0).readCov (Val := Elt Ideal) (stores w) r.toLoadRect = View.ld (kept w) r := by
  rw [View.readCov_eq_canon', stores_canon]
  rfl

/-- The weights left by the point before, loaded. -/
theorem load_left (w : Vec Ideal S2048x1024 .bf16) (r : Rect S2048x1024) :
    View.ld (View.read (Elt Ideal) (View.whole cc0_scratch0) ((Memref.isWhole_whole cc0_scratch0).unread w)) r = View.ld w r :=
  congrArg (fun v => View.ld v r) (Memref.IsWhole.read_unread (Val := Elt Ideal) (Memref.isWhole_whole cc0_scratch0) w)

variable (m : (ℓ : Loc nD τ sig) → Buf (Elt Ideal) ℓ)

theorem heads_first (c : Dev nD) (t : Fin cfg0.N) (acc : Vec Ideal S1024x1024 .bf16 × Vec Ideal S1x4x1024 .f32 × Vec Ideal S2048x1024 .bf16) (h0 : t.val % 16 = 0) :
    (stAt0 m c t.val t.isLt acc).1 = View.canon (puts (grid0.coords t) (iblk m c 0 t) (iblk m c 2 t) (iblk m c 3 t) (lo (kept (iblk m c 1 t))) (hi (kept (iblk m c 1 t)))) := by
  rw [stAt0_A m c t acc h0]
  unfold lo hi
  rw [← load_kept, ← load_kept]
  dsimp only; frame_out
  rfl

theorem heads_next (c : Dev nD) (t : Fin cfg0.N) (acc : Vec Ideal S1024x1024 .bf16 × Vec Ideal S1x4x1024 .f32 × Vec Ideal S2048x1024 .bf16) (h0 : ¬t.val % 16 = 0) :
    (stAt0 m c t.val t.isLt acc).1 = View.canon (puts (grid0.coords t) (iblk m c 0 t) (iblk m c 2 t) (iblk m c 3 t) (lo acc.2.2) (hi acc.2.2)) := by
  rw [stAt0_B m c t acc h0]
  unfold lo hi
  rw [← load_left, ← load_left acc.2.2 (halfRect 512 _)]
  dsimp only; frame_out
  rfl

theorem means_first (c : Dev nD) (t : Fin cfg0.N) (acc : Vec Ideal S1024x1024 .bf16 × Vec Ideal S1x4x1024 .f32 × Vec Ideal S2048x1024 .bf16) (h0 : t.val % 16 = 0) :
    (stAt0 m c t.val t.isLt acc).2.1 = View.canon (putMeans (grid0.coords t) (iblk m c 0 t) (iblk m c 2 t) (iblk m c 3 t) (lo (kept (iblk m c 1 t))) (hi (kept (iblk m c 1 t)))) := by
  rw [stAt0_A m c t acc h0]
  unfold lo hi
  rw [← load_kept, ← load_kept]
  dsimp only; frame_out
  rfl

theorem means_next (c : Dev nD) (t : Fin cfg0.N) (acc : Vec Ideal S1024x1024 .bf16 × Vec Ideal S1x4x1024 .f32 × Vec Ideal S2048x1024 .bf16) (h0 : ¬t.val % 16 = 0) :
    (stAt0 m c t.val t.isLt acc).2.1 = View.canon (putMeans (grid0.coords t) (iblk m c 0 t) (iblk m c 2 t) (iblk m c 3 t) (lo acc.2.2) (hi acc.2.2)) := by
  rw [stAt0_B m c t acc h0]
  unfold lo hi
  rw [← load_left, ← load_left acc.2.2 (halfRect 512 _)]
  dsimp only; frame_out
  rfl

end Cert.ProjqkIdeal.Hand

end
-- ==== Proof.Projqk.Ref.lean ====
/-
  The query and key columns: the plain formula, element by element.
-/
module

public import proofs.«01_k».proof.Proof.Projqk.Tiles
public import proofs.«01_k».proof.Proof.Gen.ProjqkRefIdeal.Read

@[expose] public section

set_option maxRecDepth 16384

noncomputable section

open Idealize.ShloMosaic Idealize.ShloMosaic.TcCoe Idealize.SL.Sem

namespace Cert.ProjqkRefIdeal.Hand

open Cert.ProjqkRefIdeal Cert.ProjqkRefIdeal.Gen Cert.ProjqkRefIdeal.Read
open Cert.ProjqkIdeal.Hand (order lane)

variable (x : FVec Ideal S16384x2048 .bf16) (w : FVec Ideal S2048x14336 .f32) (cs sn : FVec Ideal S16384x128 .f32)

/-- The query columns, before anything is turned. -/
theorem q_apply (R : Fin 16384) (h : Fin 16) (l : Fin 128) :
    val_main_v3 (F := Ideal) x w (ix3 R h l) = ∑ k, x (ix2 R k) * w (ix2 k ⟨4096 + (h.val * 128 + l.val), by have := h.isLt; have := l.isLt; omega⟩) := by
  pointwise [val_main_v3, val_main_v2, val_main_v1, val_main_v0]

/-- The key columns, before anything is turned. -/
theorem k_apply (R : Fin 16384) (h : Fin 16) (l : Fin 128) :
    val_main_v23 (F := Ideal) x w (ix3 R h l) = ∑ k, x (ix2 R k) * w (ix2 k ⟨6144 + (h.val * 128 + l.val), by have := h.isLt; have := l.isLt; omega⟩) := by
  pointwise [val_main_v23, val_main_v22, val_main_v1, val_main_v0]

/-- The lanes of a head are taken in the order the call keeps them in. -/
theorem q_order (R : Fin 16384) (h : Fin 16) (l : Fin 128) : val_main_v8 (F := Ideal) x w (ix3 R h l) = val_main_v3 (F := Ideal) x w (ix3 R h (order l)) := by
  pointwise [val_main_v8, val_main_v7, val_main_v6, val_main_v5, val_main_v4]
  have hl := l.isLt
  split
  · exact congrArg (fun i => val_main_v3 (F := Ideal) x w (ix3 R h i)) (Fin.ext (by simp only [order]; split_ifs <;> (try simp only []) <;> omega))
  · split
    · exact congrArg (fun i => val_main_v3 (F := Ideal) x w (ix3 R h i)) (Fin.ext (by simp only [order]; split_ifs <;> (try simp only []) <;> omega))
    · split
      · exact congrArg (fun i => val_main_v3 (F := Ideal) x w (ix3 R h i)) (Fin.ext (by simp only [order]; split_ifs <;> (try simp only []) <;> omega))
      · exact congrArg (fun i => val_main_v3 (F := Ideal) x w (ix3 R h i)) (Fin.ext (by simp only [order]; split_ifs <;> (try simp only []) <;> omega))

/-- The lanes of a head are taken in the order the call keeps them in. -/
theorem k_order (R : Fin 16384) (h : Fin 16) (l : Fin 128) : val_main_v28 (F := Ideal) x w (ix3 R h l) = val_main_v23 (F := Ideal) x w (ix3 R h (order l)) := by
  pointwise [val_main_v28, val_main_v27, val_main_v26, val_main_v25, val_main_v24]
  have hl := l.isLt
  split
  · exact congrArg (fun i => val_main_v23 (F := Ideal) x w (ix3 R h i)) (Fin.ext (by simp only [order]; split_ifs <;> (try simp only []) <;> omega))
  · split
    · exact congrArg (fun i => val_main_v23 (F := Ideal) x w (ix3 R h i)) (Fin.ext (by simp only [order]; split_ifs <;> (try simp only []) <;> omega))
    · split
      · exact congrArg (fun i => val_main_v23 (F := Ideal) x w (ix3 R h i)) (Fin.ext (by simp only [order]; split_ifs <;> (try simp only []) <;> omega))
      · exact congrArg (fun i => val_main_v23 (F := Ideal) x w (ix3 R h i)) (Fin.ext (by simp only [order]; split_ifs <;> (try simp only []) <;> omega))

/-- The partner of a lane is half a head away. -/
theorem q_partner (R : Fin 16384) (h : Fin 16) (l : Fin 128) :
    val_main_v11 (F := Ideal) x w (ix3 R h l) = val_main_v8 (F := Ideal) x w (ix3 R h ⟨(l.val + 128 - 64) % 128, Nat.mod_lt _ (by decide)⟩) := by
  pointwise [val_main_v11, val_main_v10, val_main_v9]
  have hl := l.isLt
  split
  · exact congrArg (fun i => val_main_v8 (F := Ideal) x w (ix3 R h i)) (Fin.ext (by dsimp only; omega))
  · exact congrArg (fun i => val_main_v8 (F := Ideal) x w (ix3 R h i)) (Fin.ext (by dsimp only; omega))

/-- The partner of a lane is half a head away. -/
theorem k_partner (R : Fin 16384) (h : Fin 16) (l : Fin 128) :
    val_main_v31 (F := Ideal) x w (ix3 R h l) = val_main_v28 (F := Ideal) x w (ix3 R h ⟨(l.val + 128 - 64) % 128, Nat.mod_lt _ (by decide)⟩) := by
  pointwise [val_main_v31, val_main_v30, val_main_v29]
  have hl := l.isLt
  split
  · exact congrArg (fun i => val_main_v28 (F := Ideal) x w (ix3 R h i)) (Fin.ext (by dsimp only; omega))
  · exact congrArg (fun i => val_main_v28 (F := Ideal) x w (ix3 R h i)) (Fin.ext (by dsimp only; omega))

/-- A turned head, lane by lane. -/
theorem q_turn (R : Fin 16384) (j : Fin 2048) :
    val_main_v19 (F := Ideal) x w cs sn (ix2 R j) =
      lane (fun l => ∑ k, x (ix2 R k) * w (ix2 k ⟨4096 + (j.val / 128 * 128 + (order l).val), by have := j.isLt; have := (order l).isLt; omega⟩))
        (fun l => cs (ix2 R l)) (fun l => sn (ix2 R l)) ⟨j.val % 128, Nat.mod_lt _ (by decide)⟩ := by
  pointwise [val_main_v19, val_main_v18, val_main_v17, val_main_v16, val_main_v15, val_main_v14, val_main_v13, val_main_v12]
  rw [q_partner, q_order, q_order, q_apply, q_apply]
  unfold lane
  rfl

/-- A turned head, lane by lane. -/
theorem k_turn (R : Fin 16384) (j : Fin 2048) :
    val_main_v39 (F := Ideal) x w cs sn (ix2 R j) =
      lane (fun l => ∑ k, x (ix2 R k) * w (ix2 k ⟨6144 + (j.val / 128 * 128 + (order l).val), by have := j.isLt; have := (order l).isLt; omega⟩))
        (fun l => cs (ix2 R l)) (fun l => sn (ix2 R l)) ⟨j.val % 128, Nat.mod_lt _ (by decide)⟩ := by
  pointwise [val_main_v39, val_main_v38, val_main_v37, val_main_v36, val_main_v35, val_main_v34, val_main_v33, val_main_v32]
  rw [k_partner, k_order, k_order, k_apply, k_apply]
  unfold lane
  rfl

/-- The factor of a column: the softmax's scale for the queries, one for the keys. -/
def scaleOf (J : Fin 4096) : EReal := if J.val < 2048 then Ideal.ofBits .f32 0x3E0293EE#32 else 1

/-- An element of the first result. -/
def elem (R : Fin 16384) (J : Fin 4096) : EReal :=
  lane (fun l => ∑ k, x (ix2 R k) * w (ix2 k ⟨4096 + (J.val / 128 * 128 + (order l).val), by have := J.isLt; have := (order l).isLt; omega⟩))
    (fun l => cs (ix2 R l)) (fun l => sn (ix2 R l)) ⟨J.val % 128, Nat.mod_lt _ (by decide)⟩ * scaleOf J

/-- The lanes of a head depend on the head's columns and the lane. -/
theorem lane_congr {a a' c s : Fin 128 → EReal} {l l' : Fin 128} (h : a = a') (hl : l = l') : lane a c s l = lane a' c s l' := by
  subst h hl; rfl

/-- The first result of the plain formula, read at an element. -/
theorem out_apply (R : Fin 16384) (J : Fin 4096) : val_main_v41 (F := Ideal) x w cs sn (ix2 R J) = elem x w cs sn R J := by
  pointwise [val_main_v41, val_main_v40, val_main_v21, val_main_v20, val_main_cst]
  have hJ := J.isLt
  unfold elem scaleOf
  split
  · rw [q_turn]
  · rename_i h
    rw [k_turn, mul_one]
    refine lane_congr (funext fun l => Finset.sum_congr rfl fun k _ => ?_) (Fin.ext (by dsimp only; omega))
    exact congrArg (fun i => x (ix2 R k) * w (ix2 k i)) (Fin.ext (by dsimp only; omega))

/-- The second result of the plain formula, read at an element. -/
theorem mean_apply (b : Fin 16) (m : Fin 4) (J : Fin 4096) :
    val_main_v45 (F := Ideal) x w cs sn (ix3 b m J) =
      Ideal.div (∑ s : Fin 256, elem x w cs sn ⟨b.val * 1024 + (m.val * 256 + s.val), by have := b.isLt; have := m.isLt; have := s.isLt; omega⟩ J)
        (Ideal.ofBits .f32 0x43800000#32) := by
  pointwise [val_main_v45, val_main_v44, val_main_v43, val_main_v42, val_main_cst_1, val_main_cst_0]
  refine congrArg (fun z : EReal => Ideal.div z _) (Finset.sum_congr rfl fun s _ => ?_)
  refine (out_apply x w cs sn _ J).trans ?_
  exact congrArg (fun R => elem x w cs sn R J) (Fin.ext (by dsimp only; omega))

end Cert.ProjqkRefIdeal.Hand

end
-- ==== Proof.Projqk.Claims.lean ====
/-
  The query and key columns: the kernel's tiles and the plain formula agree.
-/
module

public import proofs.«01_k».proof.Defs
public import proofs.«01_k».proof.Proof.Projqk.Ref
public import proofs.«01_k».proof.Proof.Gen.Projqk.Frame
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjqkIdeal.Hand

open Cert.ProjqkIdeal Cert.ProjqkIdeal.Gen Cert.ProjqkIdeal.Value
open Cert.ProjqkRefIdeal.Hand (elem scaleOf lane_congr)

/-- The softmax's scale is a real that is not negative. -/
theorem word_real : ∃ q : ℝ, 0 ≤ q ∧ Ideal.ofBits .f32 0x3E0293EE#32 = (q : EReal) := by
  refine ⟨_, ?_, by simp [Ideal.ofBits, Ideal.ieee, -EReal.coe_mul]; rfl⟩
  norm_num

/-- The factor of a column is not negative. -/
theorem scaleOf_nonneg (J : Fin 4096) : 0 ≤ scaleOf J := by
  unfold scaleOf
  split
  · obtain ⟨q, hq, e⟩ := word_real
    rw [e]; exact EReal.coe_nonneg.mpr hq
  · exact zero_le_one

/-- The factor of a column is finite. -/
theorem scaleOf_ne_top (J : Fin 4096) : scaleOf J ≠ ⊤ := by
  unfold scaleOf
  split
  · obtain ⟨q, hq, e⟩ := word_real
    rw [e]; exact EReal.coe_ne_top q
  · exact EReal.coe_ne_top 1

/-- Scaling both tables by a finite factor that is not negative scales the turned lane. -/
theorem lane_scale (a c s : Fin 128 → EReal) (f : EReal) (h0 : 0 ≤ f) (h1 : f ≠ ⊤) (l : Fin 128) :
    lane a (fun l => c l * f) (fun l => s l * f) l = lane a c s l * f := by
  unfold lane
  rw [EReal.right_distrib_of_nonneg_of_ne_top h0 h1, mul_assoc, mul_assoc]

/-- The columns of a head are taken in the order of its lanes. -/
theorem ordered_at (j : Fin 1024) (l : Fin 128) (h : j.val / 128 * 128 + l.val < 1024) :
    (ordered ⟨j.val / 128 * 128 + l.val, h⟩).val = j.val / 128 * 128 + (order l).val := by
  have hl := l.isLt
  have e : (⟨(j.val / 128 * 128 + l.val) % 128, Nat.mod_lt _ (by decide)⟩ : Fin 128) = l :=
    Fin.ext (show (j.val / 128 * 128 + l.val) % 128 = l.val by omega)
  show (j.val / 128 * 128 + l.val) / 128 * 128 + (order ⟨(j.val / 128 * 128 + l.val) % 128, _⟩).val = _
  rw [e]
  omega

variable (m : (ℓ : Loc nD τ sig) → Buf (Elt Ideal) ℓ)

/-- The windows' block indices: the column tile is `t / 16`, the row tile `t % 16`. -/
theorem idx : ∀ t : Fin cfg0.N, win0_0.index t = ![t.val % 16, 0] ∧ win0_1.index t = ![0, t.val / 16 + 4]
    ∧ win0_2.index t = ![t.val % 16, 0] ∧ win0_3.index t = ![t.val % 16, 0]
    ∧ win0_4.index t = ![t.val % 16, t.val / 16] ∧ win0_5.index t = ![t.val % 16, 0, t.val / 16] :=
  (by decide +kernel : ∀ t : Fin grid0.N, _)

theorem chosen : ∀ t : Fin cfg0.N, Scalar.cmpi .slt (BitVec.ofNat 32 ((grid0.coords t) 0).val) 2#32 = if t.val / 16 < 2 then 1#1 else 0#1 :=
  (by decide +kernel : ∀ t : Fin grid0.N, _)

theorem N_eq : cfg0.N = 64 := N_0
theorem row_lt (t : Fin cfg0.N) (r : Fin 1024) : 1024 * (t.val % 16) + r.val < 16384 := by
  have h := r.isLt; omega
theorem col_lt (t : Fin cfg0.N) (j : Fin 1024) : 1024 * (t.val / 16) + j.val < 4096 := by
  have h : t.val < 64 := lt_of_lt_of_eq t.isLt N_eq; have := j.isLt; omega
theorem wcol_lt (t : Fin cfg0.N) (j : Fin 1024) : 4096 + (1024 * (t.val / 16) + j.val) < 14336 := by
  have := col_lt t j; omega

/-- The factor the kernel multiplies its tables by is the one of the tile's columns. -/
theorem factor_eq (t : Fin cfg0.N) (j : Fin 1024) : factor (grid0.coords t) = scaleOf ⟨1024 * (t.val / 16) + j.val, col_lt t j⟩ := by
  have hj := j.isLt
  unfold factor scaleOf
  rw [chosen t]
  by_cases h : t.val / 16 < 2
  · rw [if_pos h, if_pos (show 1024 * (t.val / 16) + j.val < 2048 by omega)]
    rfl
  · rw [if_neg h, if_neg (show ¬1024 * (t.val / 16) + j.val < 2048 by omega)]
    rfl

abbrev X (c : Dev nD) : Vec Ideal S16384x2048 .bf16 := m ((c : Thread nD τ).loc main_arg0)
abbrev W (c : Dev nD) : Vec Ideal S2048x14336 .f32 := m ((c : Thread nD τ).loc main_arg1)
abbrev C (c : Dev nD) : Vec Ideal S16384x128 .f32 := m ((c : Thread nD τ).loc main_arg2)
abbrev S (c : Dev nD) : Vec Ideal S16384x128 .f32 := m ((c : Thread nD τ).loc main_arg3)

theorem blk0 (c : Dev nD) (t : Fin cfg0.N) (r : Fin 1024) (k : Fin 2048) :
    iblk m c 0 t (ix2 r k) = X m c (ix2 ⟨1024 * (t.val % 16) + r.val, row_lt t r⟩ k) := by
  blk_point [iblk, V, idx t]

theorem blk1 (c : Dev nD) (t : Fin cfg0.N) (k : Fin 2048) (j : Fin 1024) :
    iblk m c 1 t (ix2 k j) = W m c (ix2 k ⟨4096 + (1024 * (t.val / 16) + j.val), wcol_lt t j⟩) := by
  blk_point [iblk, V, idx t]

theorem blk2 (c : Dev nD) (t : Fin cfg0.N) (r : Fin 1024) (l : Fin 128) :
    iblk m c 2 t (ix2 r l) = C m c (ix2 ⟨1024 * (t.val % 16) + r.val, row_lt t r⟩ l) := by
  blk_point [iblk, V, idx t]

theorem blk3 (c : Dev nD) (t : Fin cfg0.N) (r : Fin 1024) (l : Fin 128) :
    iblk m c 3 t (ix2 r l) = S m c (ix2 ⟨1024 * (t.val % 16) + r.val, row_lt t r⟩ l) := by
  blk_point [iblk, V, idx t]

/-- The kept weights of a column tile. -/
def Kept (c : Dev nD) (t : Fin cfg0.N) (w : Vec Ideal S2048x1024 .bf16) : Prop :=
  ∀ k j, w (ix2 k j) = W m c (ix2 k ⟨4096 + (1024 * (t.val / 16) + (ordered j).val), wcol_lt t (ordered j)⟩)

/-- An element of a tile is an element of the result. -/
theorem tile_elem (c : Dev nD) (t : Fin cfg0.N) (w : Vec Ideal S2048x1024 .bf16) (hw : Kept m c t w) (r j : Fin 1024) :
    tile (grid0.coords t) (iblk m c 0 t) (iblk m c 2 t) (iblk m c 3 t) w r j
      = elem (X m c) (W m c) (C m c) (S m c) ⟨1024 * (t.val % 16) + r.val, row_lt t r⟩ ⟨1024 * (t.val / 16) + j.val, col_lt t j⟩ := by
  have hj := j.isLt
  unfold tile elem
  rw [lane_scale _ _ _ _ (by rw [factor_eq t j]; exact scaleOf_nonneg _) (by rw [factor_eq t j]; exact scaleOf_ne_top _), factor_eq t j]
  refine congrArg (fun z : EReal => z * _) ?_
  simp only [blk0, blk2, blk3, hw _ _]
  refine lane_congr (funext fun l => Finset.sum_congr rfl fun k _ => ?_) (Fin.ext (by dsimp only; omega))
  exact congrArg (fun i => X m c (ix2 _ k) * W m c (ix2 k i)) (Fin.ext (by dsimp only; rw [ordered_at]; omega))

/-- A mean of a tile is a mean over rows of the result. -/
theorem tileMean_elem (c : Dev nD) (t : Fin cfg0.N) (w : Vec Ideal S2048x1024 .bf16) (hw : Kept m c t w) (b : Fin 4) (j : Fin 1024) :
    tileMean (grid0.coords t) (iblk m c 0 t) (iblk m c 2 t) (iblk m c 3 t) w b j
      = Ideal.div (∑ s : Fin 256, elem (X m c) (W m c) (C m c) (S m c)
          ⟨t.val % 16 * 1024 + (b.val * 256 + s.val), by have := b.isLt; have := s.isLt; omega⟩ ⟨1024 * (t.val / 16) + j.val, col_lt t j⟩)
        (Ideal.ofBits .f32 0x43800000#32) := by
  unfold tileMean
  refine congrArg (fun z : EReal => Ideal.div z _) (Finset.sum_congr rfl fun s _ => ?_)
  rw [tile_elem m c t w hw]
  exact congrArg (fun R => elem (X m c) (W m c) (C m c) (S m c) R _) (Fin.ext (by dsimp only; omega))

/-- What the two blocks hold at a point. -/
def Holds (c : Dev nD) (t : Fin cfg0.N) (a : Vec Ideal S1024x1024 .bf16 × Vec Ideal S1x4x1024 .f32 × Vec Ideal S2048x1024 .bf16) : Prop :=
  Kept m c t a.2.2
  ∧ (∀ y : S1024x1024.Idx, a.1 y = elem (X m c) (W m c) (C m c) (S m c) ⟨1024 * (t.val % 16) + (y 0).val, row_lt t (y 0)⟩
      ⟨1024 * (t.val / 16) + (y 1).val, col_lt t (y 1)⟩)
  ∧ (∀ y : S1x4x1024.Idx, a.2.1 y = Ideal.div (∑ s : Fin 256, elem (X m c) (W m c) (C m c) (S m c)
          ⟨t.val % 16 * 1024 + ((y 1).val * 256 + s.val), by have h : (y 1).val < 4 := (y 1).isLt; have := s.isLt; omega⟩
          ⟨1024 * (t.val / 16) + (y 2).val, col_lt t (y 2)⟩)
        (Ideal.ofBits .f32 0x43800000#32))

/-- The first row tile of a column tile. -/
theorem holds_first (c : Dev nD) (t : Fin cfg0.N) (acc) (h0 : t.val % 16 = 0) : Holds m c t (stAt0 m c t.val t.isLt acc) := by
  have hk : Kept m c t (kept (iblk m c 1 t)) := fun k j => blk1 m c t k (ordered j)
  refine ⟨?_, fun y => ?_, fun y => ?_⟩
  · rw [kept_first m c t acc h0]; exact hk
  · rw [heads_first m c t acc h0, puts_canon]
    exact tile_elem m c t _ hk (y 0) (y 1)
  · rw [means_first m c t acc h0, putMeans_canon]
    exact tileMean_elem m c t _ hk (y 1) (y 2)

/-- Every other row tile, with the weights kept by the one before. -/
theorem holds_next (c : Dev nD) (t : Fin cfg0.N) (acc) (h0 : ¬t.val % 16 = 0) (hk : Kept m c t acc.2.2) : Holds m c t (stAt0 m c t.val t.isLt acc) := by
  refine ⟨?_, fun y => ?_, fun y => ?_⟩
  · rw [kept_next m c t acc h0]; exact hk
  · rw [heads_next m c t acc h0, puts_canon]
    exact tile_elem m c t _ hk (y 0) (y 1)
  · rw [means_next m c t acc h0, putMeans_canon]
    exact tileMean_elem m c t _ hk (y 1) (y 2)

/-- At every point the blocks hold the elements of the results. -/
theorem held (c : Dev nD) (n : ℕ) : ∀ hn : n < cfg0.N, Holds m c ⟨n, hn⟩ (outsAt0 m c n hn) := by
  induction n with
  | zero =>
    intro hn
    rw [outsAt0_zero]
    exact holds_first m c ⟨0, hn⟩ junk0 rfl
  | succ n ih =>
    intro hn
    obtain ⟨i1, -⟩ := ih (Nat.lt_of_succ_lt hn)
    rw [outsAt0_succ]
    by_cases h0 : (n + 1) % 16 = 0
    · exact holds_first m c ⟨n + 1, hn⟩ _ h0
    · have hd : n / 16 = (n + 1) / 16 := by omega
      refine holds_next m c ⟨n + 1, hn⟩ _ h0 fun k j => (i1 k j).trans ?_
      exact congrArg (fun i => W m c (ix2 k i)) (Fin.ext (by dsimp only; rw [hd]))

/-- The first result, element by element. -/
def result (c : Dev nD) : Vec Ideal S16384x4096 .bf16 := fun i => elem (X m c) (W m c) (C m c) (S m c) (i 0) (i 1)

/-- The second result, element by element. -/
def resultMean (c : Dev nD) : Vec Ideal S16x4x4096 .f32 := fun i =>
  Ideal.div (∑ s : Fin 256, elem (X m c) (W m c) (C m c) (S m c)
      ⟨(i 0).val * 1024 + ((i 1).val * 256 + s.val), by
        have h : (i 0).val < 16 := (i 0).isLt; have h : (i 1).val < 4 := (i 1).isLt; have := s.isLt; omega⟩ (i 2))
    (Ideal.ofBits .f32 0x43800000#32)

/-- The array of the turned heads after the run. -/
theorem final4 (c : Dev nD) : (dats m 0 c).arrAt 4 cfg0.N = result m c := by
  refine (dats m 0 c).arrAt_eq_of_covers 4 _ (by decide +kernel) fun t hf y => ?_
  blk_simp
  rw [after0_4]
  refine ((held m c t.val t.isLt).2.1 y).trans ?_
  unfold result
  exact congrArg₂ (elem (X m c) (W m c) (C m c) (S m c)) (Fin.ext (by blk_simp [idx t]; dsimp only; omega)) (Fin.ext (by blk_simp [idx t]; dsimp only; omega))

/-- The array of the means after the run. -/
theorem final5 (c : Dev nD) : (dats m 0 c).arrAt 5 cfg0.N = resultMean m c := by
  refine (dats m 0 c).arrAt_eq_of_covers 5 _ (by decide +kernel) fun t hf y => ?_
  blk_simp
  rw [after0_5]
  refine ((held m c t.val t.isLt).2.2 y).trans ?_
  unfold resultMean
  have hy : (y 0).val = 0 := by have h : (y 0).val < 1 := (y 0).isLt; omega
  refine congrArg (fun z : EReal => Ideal.div z _) (Finset.sum_congr rfl fun s _ => ?_)
  exact congrArg₂ (elem (X m c) (W m c) (C m c) (S m c)) (Fin.ext (by blk_simp [idx t]; try (dsimp only; omega))) (Fin.ext (by blk_simp [idx t]; try (dsimp only; omega)))

end Cert.ProjqkIdeal.Hand

namespace Cert.Proof.Projqk

/-- The kernel's frame. -/
theorem frame : Cert.quiescent_Projqk := fun m ρ _ => Cert.Projqk.Gen.frame m ρ
/-- The idealized kernel's frame. -/
theorem frame_ideal : Cert.quiescent_ProjqkIdeal := fun m ρ _ => Cert.ProjqkIdeal.Gen.frame m ρ
/-- The reference's frame: its run read at the arguments. -/
theorem frame_ref : Cert.quiescent_ProjqkRefIdeal := fun m ρ _ =>
  (θ_run Cert.ProjqkRefIdeal.defs _ _).mono (fun r h => ⟨fun c => (h c).2.2, sem_eq_zero_of_no_sems (by decide) r.2⟩)
    (Cert.ProjqkRefIdeal.Value.run (F := Ideal) m ρ)

/-- The kernel's results are the reference's: both are the same functions of the arguments, element by element. -/
theorem algebraic : Cert.algebraic_ProjqkIdeal_ProjqkRefIdeal := by
  intro m ρ m' ρ' _ hag
  refine ⟨fun c => Cert.ProjqkIdeal.Hand.result m c, fun c => Cert.ProjqkIdeal.Hand.resultMean m c, ?_, ?_⟩
  · exact (θ_run Cert.ProjqkIdeal.defs _ _).mono
      (fun _ h c => ⟨(h c).1.trans (Cert.ProjqkIdeal.Hand.final4 m c), (h c).2.1.trans (Cert.ProjqkIdeal.Hand.final5 m c), (h c).2.2⟩)
      (Cert.ProjqkIdeal.Value.run_blocks (F := Ideal) m ρ)
  · refine (θ_run Cert.ProjqkRefIdeal.defs _ _).mono (fun _ h c => ⟨(h c).1.trans ?_, (h c).2.1.trans ?_, (h c).2.2⟩)
      (Cert.ProjqkRefIdeal.Value.run (F := Ideal) m' ρ')
    · obtain ⟨h0, h1, h2, h3⟩ := hag c
      rw [Cert.ProjqkRefIdeal.Read.val_main_v41_eq, h0, h1, h2, h3]
      funext i
      exact (congrArg _ (eq_ix2 i)).trans (Cert.ProjqkRefIdeal.Hand.out_apply _ _ _ _ (i 0) (i 1))
    · obtain ⟨h0, h1, h2, h3⟩ := hag c
      rw [Cert.ProjqkRefIdeal.Read.val_main_v45_eq, h0, h1, h2, h3]
      funext i
      exact (congrArg _ (eq_ix3 i)).trans (Cert.ProjqkRefIdeal.Hand.mean_apply _ _ _ _ (i 0) (i 1) (i 2))

end Cert.Proof.Projqk

end
-- ==== Proof.Rope.Claims.lean ====
/-
  The tables of the rotation: the kernel's tiles and the plain formula agree.
-/
module

public import proofs.«01_k».proof.Defs
public import proofs.«01_k».proof.Proof.Gen.RopeIdeal.Value
public import proofs.«01_k».proof.Proof.Gen.RopeRefIdeal.Read
public import proofs.«01_k».proof.Proof.Gen.Rope.Frame
public import Idealize.ShloMosaic.Lib.Pointwise
public import Idealize.ShloMosaic.Lib.Pipeline.ValueKit
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.RopeIdeal.Hand

open Cert.RopeIdeal Cert.RopeIdeal.Gen Cert.RopeIdeal.Value

/-- The frequency of a pair of lanes. -/
def freq (l : Fin 16) : EReal :=
  Ideal.pow (Ideal.ofBits .f32 0x48F42400#32) (Ideal.div (-FloatOps.sitofp (F := Ideal) .f32 (BitVec.ofNat 32 l.val)) (Ideal.ofBits .f32 0x41800000#32))

/-- A head's lanes: two rotating groups of sixteen, each followed by lanes that do not rotate. -/
def pick (a b : Fin 16 → EReal) (z : EReal) (l : Fin 128) : EReal :=
  if h : l.val < 16 then a ⟨l.val, h⟩
  else if h : l.val - 16 < 48 then z
  else if h : l.val - 16 - 48 < 16 then b ⟨l.val - 16 - 48, h⟩
  else z

/-- The frequency of a lane of a head: zero where the lane does not rotate. -/
def lane (l : Fin 128) : EReal := pick freq freq 0 l

/-- A function of the lane's value, group by group: it may differ between the first and the second half of the lanes. -/
theorem pick_map (a b a' b' : Fin 16 → EReal) (z z' : EReal) (g : Fin 128 → EReal → EReal) (l : Fin 128)
    (ha : ∀ l : Fin 128, l.val < 64 → ∀ i, g l (a i) = a' i) (hb : ∀ l : Fin 128, ¬l.val < 64 → ∀ i, g l (b i) = b' i)
    (hz : ∀ l, g l z = z') : g l (pick a b z l) = pick a' b' z' l := by
  unfold pick
  split
  · exact ha l (by omega) _
  · split
    · exact hz l
    · split
      · exact hb l (by omega) _
      · exact hz l

/-- The cosines of a tile. -/
theorem cos_apply (p : Vec Ideal S1024x1 .f32) (f : Vec Ideal S1x128 .f32) (r : Fin 1024) (l : Fin 128) :
    k0_pay2 p f (ix2 r l) = Ideal.cos (p (ix2 r 0) * f (ix2 0 l)) := by
  pointwise [k0_pay2, k0_pay1]

/-- The sign of the sines: the first half of a head's lanes is negated. -/
def signed (l : Fin 128) (s : EReal) : EReal := if l.val < 64 then -s else s

/-- The comparison that chooses the sign. -/
theorem below : ∀ l : Fin 128, IntOp.cmpi .slt (BitVec.ofNat 32 l.val) 64#32 = if l.val < 64 then 1#1 else 0#1 := by decide +kernel

/-- The signed sines of a tile. -/
theorem sin_apply (p : Vec Ideal S1024x1 .f32) (f : Vec Ideal S1x128 .f32) (r : Fin 1024) (l : Fin 128) :
    k0_pay3 p f (ix2 r l) = signed l (Ideal.sin (p (ix2 r 0) * f (ix2 0 l))) := by
  pointwise [k0_pay3, k0_pay1]
  rw [below l]
  unfold signed
  split
  · exact zero_sub _
  · rfl

variable (m : (ℓ : Loc nD τ sig) → Buf (Elt Ideal) ℓ)

theorem out2_eq (x : Vec Ideal S1024x1 .f32) (g : Vec Ideal S1x128 .f32) : Gen.out0_2 x g = k0_pay2 x g := by
  frame_out
theorem out3_eq (x : Vec Ideal S1024x1 .f32) (g : Vec Ideal S1x128 .f32) : Gen.out0_3 x g = k0_pay3 x g := by
  frame_out

/-- The windows' block indices: point `t` takes row tile `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

abbrev X (c : Dev nD) : Vec Ideal S4x4096 .i32 := m ((c : Thread nD τ).loc main_arg0)

theorem N_eq : cfg0.N = 16 := N_0
theorem row_lt (t : Fin cfg0.N) (r : Fin 1024) : 1024 * t.val + r.val < 16384 := by
  have h : t.val < 16 := lt_of_lt_of_eq t.isLt N_eq; have := r.isLt; omega

/-- The position of a row. -/
def pos (x : Vec Ideal S4x4096 .i32) (R : Fin 16384) : EReal :=
  FloatOps.sitofp (F := Ideal) .f32 (x (ix2 ⟨R.val / 4096, by have := R.isLt; omega⟩ ⟨R.val % 4096, Nat.mod_lt _ (by decide)⟩))

/-- The first window's block: the positions of the rows. -/
theorem blk0 (c : Dev nD) (t : Fin cfg0.N) (r : Fin 1024) :
    iblk m c 0 t (ix2 r 0) = pos (X m c) ⟨1024 * t.val + r.val, row_lt t r⟩ := by
  have e : iblk m c 0 t (ix2 r 0) = V m c main_v1 (ix2 ⟨1024 * t.val + r.val, row_lt t r⟩ 0) := by
    blk_ext [iblk, idx t]
  rw [e]
  entry_read
  unfold pos
  pointwise

/-- The frequencies as the host computes them. -/
def freqs : FVec Ideal S16 .f32 :=
  Host.powf (broadcastInDim S16 ![] bcast_S_S16 (constant S_ .f32 0x48F42400#32))
    (Host.divf (Host.negf (sitofp .f32 (iotaInDim S16 32 0))) (broadcastInDim S16 ![] bcast_S_S16 (constant S_ .f32 0x41800000#32)))
def zeros : FVec Ideal S48 .f32 := broadcastInDim S48 ![] bcast_S_S48 (constant S_ .f32 0x00000000#32)

theorem freqs_apply (l : Fin 16) : freqs (ix1 l) = freq l := by
  unfold freq
  pointwise [freqs]
theorem zeros_apply (l : Fin 48) : zeros (ix1 l) = 0 := by
  pointwise [zeros]

/-- The frequencies lane by lane, as the host lays them out. -/
theorem made (c : Dev nD) : V m c main_v10
    = shapeCast S1x128 (concatenate S128 0 [⟨S16, freqs⟩, ⟨S48, zeros⟩, ⟨S16, freqs⟩, ⟨S48, zeros⟩] concatenates_S16_S48_S16_S48_S128_d0) shapeCasts_S128_S1x128 := by
  unfold V freqs zeros
  after_reads_simp
  rfl

/-- The second window's block: the frequencies of the lanes. -/
theorem blk1 (c : Dev nD) (t : Fin cfg0.N) (l : Fin 128) : iblk m c 1 t (ix2 0 l) = lane l := by
  have e : iblk m c 1 t (ix2 0 l) = V m c main_v10 (ix2 0 l) := by
    blk_ext [iblk, idx t]
  rw [e, made]
  unfold lane
  rw [← pick_map (fun i => freqs (ix1 i)) (fun i => freqs (ix1 i)) freq freq 0 0 (fun _ x => x) l (fun _ _ => freqs_apply) (fun _ _ => freqs_apply) (fun _ => rfl)]
  pointwise
  unfold pick
  simp only [zeros_apply]

/-- The cosines, element by element. -/
def resultCos (c : Dev nD) : Vec Ideal S16384x128 .f32 := fun i => Ideal.cos (pos (X m c) (i 0) * lane (i 1))
/-- The signed sines, element by element. -/
def resultSin (c : Dev nD) : Vec Ideal S16384x128 .f32 := fun i => signed (i 1) (Ideal.sin (pos (X m c) (i 0) * lane (i 1)))

/-- A point's cosines. -/
theorem point_cos (c : Dev nD) (t : Fin cfg0.N) (r : Fin 1024) (l : Fin 128) :
    k0_pay2 (iblk m c 0 t) (iblk m c 1 t) (ix2 r l) = Ideal.cos (pos (X m c) ⟨1024 * t.val + r.val, row_lt t r⟩ * lane l) := by
  rw [cos_apply, blk0, blk1]

/-- A point's signed sines. -/
theorem point_sin (c : Dev nD) (t : Fin cfg0.N) (r : Fin 1024) (l : Fin 128) :
    k0_pay3 (iblk m c 0 t) (iblk m c 1 t) (ix2 r l) = signed l (Ideal.sin (pos (X m c) ⟨1024 * t.val + r.val, row_lt t r⟩ * lane l)) := by
  rw [sin_apply, blk0, blk1]

/-- The array of the cosines after the run. -/
theorem final2 (c : Dev nD) : (dats m 0 c).arrAt 2 cfg0.N = resultCos m c := by
  refine (dats m 0 c).arrAt_eq_of_covers 2 _ (by decide +kernel) fun t hf y => ?_
  blk_simp
  rw [after0_2, out2_eq]
  refine ((congrArg (k0_pay2 _ _) (eq_ix2 y)).trans (point_cos m c t (y 0) (y 1))).trans ?_
  unfold resultCos
  refine congrArg₂ (fun (R : Fin 16384) (l : Fin 128) => Ideal.cos (pos (X m c) R * lane l)) (Fin.ext ?_) (Fin.ext ?_)
  · blk_simp [idx t]; dsimp only; omega
  · blk_simp [idx t]

/-- The array of the signed sines after the run. -/
theorem final3 (c : Dev nD) : (dats m 0 c).arrAt 3 cfg0.N = resultSin m c := by
  refine (dats m 0 c).arrAt_eq_of_covers 3 _ (by decide +kernel) fun t hf y => ?_
  blk_simp
  rw [after0_3, out3_eq]
  refine ((congrArg (k0_pay3 _ _) (eq_ix2 y)).trans (point_sin m c t (y 0) (y 1))).trans ?_
  unfold resultSin
  refine congrArg₂ (fun (R : Fin 16384) (l : Fin 128) => signed l (Ideal.sin (pos (X m c) R * lane l))) (Fin.ext ?_) (Fin.ext ?_)
  · blk_simp [idx t]; dsimp only; omega
  · blk_simp [idx t]

end Cert.RopeIdeal.Hand

namespace Cert.RopeRefIdeal.Hand

open Cert.RopeRefIdeal Cert.RopeRefIdeal.Gen Cert.RopeRefIdeal.Read
open Cert.RopeIdeal.Hand (freq lane signed pos pick pick_map)

/-- The reference's frequencies. -/
theorem freq_apply (l : Fin 16) : val_main_v5 (F := Ideal) (ix1 l) = freq l := by
  unfold freq
  pointwise [val_main_v5, val_main_v4, val_main_cst_0, val_main_v3, val_main_v2, val_main_v1, val_main_cst, val_main_v0]

/-- The cosine of no angle, for a lane that does not rotate. -/
theorem cos_zero (p : EReal) : Ideal.cos (p * 0) = 1 := by
  rw [mul_zero]
  show ((Real.cos 0 : ℝ) : EReal) = _
  rw [Real.cos_zero]
  rfl
/-- The sine of no angle. -/
theorem sin_zero (p : EReal) : Ideal.sin (p * 0) = 0 := by
  rw [mul_zero]
  show ((Real.sin 0 : ℝ) : EReal) = _
  rw [Real.sin_zero]
  rfl

/-- The reference's cosines. -/
theorem cos_apply (x : IVec S4x4096 32) (R : Fin 16384) (l : Fin 128) :
    val_main_v17 (F := Ideal) x (ix2 R l) = Ideal.cos (pos x R * lane l) := by
  refine Eq.trans ?_ (pick_map freq freq (fun i => Ideal.cos (pos x R * val_main_v5 (F := Ideal) (ix1 i))) (fun i => Ideal.cos (pos x R * val_main_v5 (F := Ideal) (ix1 i)))
    0 1 (fun _ f => Ideal.cos (pos x R * f)) l (fun _ _ i => by rw [freq_apply]) (fun _ _ i => by rw [freq_apply]) (fun _ => cos_zero _)).symm
  pointwise [val_main_v17, val_main_v16, val_main_v15, val_main_cst_1, val_main_v13, val_main_v12, val_main_v11, val_main_v10, val_main_v9, val_main_v8, val_main_v7, val_main_v6]
  unfold pick
  rfl

/-- The reference's signed sines. -/
theorem sin_apply (x : IVec S4x4096 32) (R : Fin 16384) (l : Fin 128) :
    val_main_v19 (F := Ideal) x (ix2 R l) = signed l (Ideal.sin (pos x R * lane l)) := by
  refine Eq.trans ?_ (pick_map freq freq (fun i => -Ideal.sin (pos x R * val_main_v5 (F := Ideal) (ix1 i))) (fun i => Ideal.sin (pos x R * val_main_v5 (F := Ideal) (ix1 i)))
    0 0 (fun l f => signed l (Ideal.sin (pos x R * f))) l (fun l h i => by rw [freq_apply]; unfold signed; rw [if_pos h]) (fun l h i => by rw [freq_apply]; unfold signed; rw [if_neg h])
    (fun l => by unfold signed; rw [sin_zero, neg_zero, ite_self])).symm
  pointwise [val_main_v19, val_main_v18, val_main_v16, val_main_cst_2, val_main_v14, val_main_v12, val_main_v11, val_main_v10, val_main_v9, val_main_v8, val_main_v7, val_main_v6]
  unfold pick
  rfl

end Cert.RopeRefIdeal.Hand

namespace Cert.Proof.Rope

/-- The kernel's frame. -/
theorem frame : Cert.quiescent_Rope := fun m ρ _ => Cert.Rope.Gen.frame m ρ
/-- The idealized kernel's frame. -/
theorem frame_ideal : Cert.quiescent_RopeIdeal := fun m ρ _ => Cert.RopeIdeal.Gen.frame m ρ
/-- The reference's frame: its run read at the arguments. -/
theorem frame_ref : Cert.quiescent_RopeRefIdeal := fun m ρ _ =>
  (θ_run Cert.RopeRefIdeal.defs _ _).mono (fun r h => ⟨fun c => (h c).2.2, sem_eq_zero_of_no_sems (by decide) r.2⟩)
    (Cert.RopeRefIdeal.Value.run (F := Ideal) m ρ)

/-- The kernel's tables are the reference's: both are the same functions of the positions, element by element. -/
theorem algebraic : Cert.algebraic_RopeIdeal_RopeRefIdeal := by
  intro m ρ m' ρ' _ hag
  refine ⟨fun c => Cert.RopeIdeal.Hand.resultCos m c, fun c => Cert.RopeIdeal.Hand.resultSin m c, ?_, ?_⟩
  · exact (θ_run Cert.RopeIdeal.defs _ _).mono
      (fun _ h c => ⟨(h c).1.trans (Cert.RopeIdeal.Hand.final2 m c), (h c).2.1.trans (Cert.RopeIdeal.Hand.final3 m c), (h c).2.2⟩)
      (Cert.RopeIdeal.Value.run_blocks (F := Ideal) m ρ)
  · refine (θ_run Cert.RopeRefIdeal.defs _ _).mono (fun _ h c => ⟨(h c).1.trans ?_, (h c).2.1.trans ?_, (h c).2.2⟩)
      (Cert.RopeRefIdeal.Value.run (F := Ideal) m' ρ')
    · rw [Cert.RopeRefIdeal.Read.val_main_v17_eq, hag c]
      funext i
      exact (congrArg _ (eq_ix2 i)).trans (Cert.RopeRefIdeal.Hand.cos_apply _ (i 0) (i 1))
    · rw [Cert.RopeRefIdeal.Read.val_main_v19_eq, hag c]
      funext i
      exact (congrArg _ (eq_ix2 i)).trans (Cert.RopeRefIdeal.Hand.sin_apply _ (i 0) (i 1))

end Cert.Proof.Rope

end
-- ==== Proof.lean ====
module

public import proofs.«01_k».proof.Defs
public import proofs.«01_k».proof.Proof.Gen.Ffn.Frame
public import proofs.«01_k».proof.Proof.Gen.Rglru.Frame
public import proofs.«01_k».proof.Proof.Gen.Merge.Frame
public import proofs.«01_k».proof.Proof.Gen.Xattn.Frame
public import proofs.«01_k».proof.Proof.Gen.Memkv.Frame
public import proofs.«01_k».proof.Proof.Gen.Projxy.Frame
public import proofs.«01_k».proof.Proof.Gen.Projv.Frame
public import proofs.«01_k».proof.Proof.Gen.Projg.Frame
public import proofs.«01_k».proof.Proof.Gen.Projqk.Frame
public import proofs.«01_k».proof.Proof.Gen.Norm.Frame
public import proofs.«01_k».proof.Proof.Gen.FfnIdeal.Value
public import proofs.«01_k».proof.Proof.Gen.FfnRefIdeal.Read
public import proofs.«01_k».proof.Proof.Gen.RglruIdeal.Value
public import proofs.«01_k».proof.Proof.Gen.MergeIdeal.Value
public import proofs.«01_k».proof.Proof.Gen.MergeRefIdeal.Read
public import proofs.«01_k».proof.Proof.Gen.XattnIdeal.Value
public import proofs.«01_k».proof.Proof.Gen.XattnRefIdeal.Read
public import proofs.«01_k».proof.Proof.Gen.MemkvIdeal.Value
public import proofs.«01_k».proof.Proof.Gen.MemkvRefIdeal.Read
public import proofs.«01_k».proof.Proof.Gen.ProjxyIdeal.Value
public import proofs.«01_k».proof.Proof.Gen.ProjxyRefIdeal.Read
public import proofs.«01_k».proof.Proof.Gen.ProjvIdeal.Value
public import proofs.«01_k».proof.Proof.Gen.ProjvRefIdeal.Read
public import proofs.«01_k».proof.Proof.Gen.ProjgIdeal.Value
public import proofs.«01_k».proof.Proof.Gen.ProjgRefIdeal.Read
public import proofs.«01_k».proof.Proof.Gen.ProjqkIdeal.Value
public import proofs.«01_k».proof.Proof.Gen.ProjqkRefIdeal.Read
public import proofs.«01_k».proof.Proof.Gen.Rope.Frame
public import proofs.«01_k».proof.Proof.Gen.RopeIdeal.Value
public import proofs.«01_k».proof.Proof.Gen.RopeRefIdeal.Read
public import proofs.«01_k».proof.Proof.Gen.NormIdeal.Value
public import proofs.«01_k».proof.Proof.Gen.NormRefIdeal.Read
public import proofs.«01_k».proof.Proof.Moba.KernelFrame
public import proofs.«01_k».proof.Proof.Moba.KernelIdealFrame

public import proofs.«01_k».proof.Proof.Ffn.Claims
public import proofs.«01_k».proof.Proof.Merge.Claims
public import proofs.«01_k».proof.Proof.Memkv.Claims
public import proofs.«01_k».proof.Proof.Projxy.Claims
public import proofs.«01_k».proof.Proof.Projv.Claims
public import proofs.«01_k».proof.Proof.Projg.Claims
public import proofs.«01_k».proof.Proof.Norm.Claims
public import proofs.«01_k».proof.Proof.Xattn.Claims
public import proofs.«01_k».proof.Proof.Projqk.Claims
public import proofs.«01_k».proof.Proof.Rope.Claims

@[expose] public section

open Idealize.ShloMosaic

noncomputable section

namespace Cert.Proof

/-- Every claim of the certificate. -/
theorem claim : Cert.Claim := ⟨Cert.Kernel.Gen.facts, Cert.KernelIdeal.Gen.facts, Cert.Ffn.Gen.facts, Cert.FfnIdeal.Gen.facts, Cert.FfnRefIdeal.Gen.facts, Cert.Rglru.Gen.facts, Cert.RglruIdeal.Gen.facts, Cert.Merge.Gen.facts, Cert.MergeIdeal.Gen.facts, Cert.MergeRefIdeal.Gen.facts, Cert.Xattn.Gen.facts, Cert.XattnIdeal.Gen.facts, Cert.XattnRefIdeal.Gen.facts, Cert.Memkv.Gen.facts, Cert.MemkvIdeal.Gen.facts, Cert.MemkvRefIdeal.Gen.facts, Cert.Projxy.Gen.facts, Cert.ProjxyIdeal.Gen.facts, Cert.ProjxyRefIdeal.Gen.facts, Cert.Projv.Gen.facts, Cert.ProjvIdeal.Gen.facts, Cert.ProjvRefIdeal.Gen.facts, Cert.Projg.Gen.facts, Cert.ProjgIdeal.Gen.facts, Cert.ProjgRefIdeal.Gen.facts, Cert.Projqk.Gen.facts, Cert.ProjqkIdeal.Gen.facts, Cert.ProjqkRefIdeal.Gen.facts, Cert.Rope.Gen.facts, Cert.RopeIdeal.Gen.facts, Cert.RopeRefIdeal.Gen.facts, Cert.Norm.Gen.facts, Cert.NormIdeal.Gen.facts, Cert.NormRefIdeal.Gen.facts, Cert.Pre_finite.Hand.facts,
  fun m ρ _ => Cert.Proof.Moba.Kernel.frame m ρ,
  fun m ρ _ => Cert.Proof.Moba.KernelIdeal.frame m ρ,
  fun m ρ _ => Cert.Ffn.Gen.frame m ρ,
  fun m ρ _ => Cert.FfnIdeal.Gen.frame m ρ,
  Ffn.frame_ref,
  fun m ρ _ => Cert.Rglru.Gen.frame m ρ,
  fun m ρ _ => Cert.RglruIdeal.Gen.frame m ρ,
  fun m ρ _ => Cert.Merge.Gen.frame m ρ,
  fun m ρ _ => Cert.MergeIdeal.Gen.frame m ρ,
  Merge.frame_ref,
  fun m ρ _ => Cert.Xattn.Gen.frame m ρ,
  fun m ρ _ => Cert.XattnIdeal.Gen.frame m ρ,
  Xattn.frame_ideal_finite,
  Xattn.frame_ref,
  Xattn.frame_ref_finite,
  fun m ρ _ => Cert.Memkv.Gen.frame m ρ,
  fun m ρ _ => Cert.MemkvIdeal.Gen.frame m ρ,
  Memkv.frame_ref,
  fun m ρ _ => Cert.Projxy.Gen.frame m ρ,
  fun m ρ _ => Cert.ProjxyIdeal.Gen.frame m ρ,
  Projxy.frame_ref,
  fun m ρ _ => Cert.Projv.Gen.frame m ρ,
  fun m ρ _ => Cert.ProjvIdeal.Gen.frame m ρ,
  Projv.frame_ref,
  fun m ρ _ => Cert.Projg.Gen.frame m ρ,
  fun m ρ _ => Cert.ProjgIdeal.Gen.frame m ρ,
  Projg.frame_ref,
  fun m ρ _ => Cert.Projqk.Gen.frame m ρ,
  fun m ρ _ => Cert.ProjqkIdeal.Gen.frame m ρ,
  Projqk.frame_ref,
  fun m ρ _ => Cert.Rope.Gen.frame m ρ,
  fun m ρ _ => Cert.RopeIdeal.Gen.frame m ρ,
  Rope.frame_ref,
  fun m ρ _ => Cert.Norm.Gen.frame m ρ,
  fun m ρ _ => Cert.NormIdeal.Gen.frame m ρ,
  Norm.frame_ref,
  ⟨IdealRules.named_const.statement _ _ _ _ _ rfl, IdealRules.named_const.statement _ _ _ _ _ rfl⟩,
  trivial,
  Ffn.algebraic,
  trivial,
  trivial,
  Merge.algebraic,
  trivial,
  Xattn.algebraic,
  trivial,
  Memkv.algebraic,
  trivial,
  Projxy.algebraic,
  trivial,
  Projv.algebraic,
  trivial,
  Projg.algebraic,
  trivial,
  Projqk.algebraic,
  trivial,
  Rope.algebraic,
  trivial,
  Norm.algebraic⟩

end Cert.Proof

end
